-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_NextKernel (m : (ℓ : Loc Cert.NextKernel.nD Cert.NextKernel.τ Cert.NextKernel.sig) → Buf (Elt Bits) ℓ) : Prop :=
  True

def Pre_NextKernelIdeal (m : (ℓ : Loc Cert.NextKernelIdeal.nD Cert.NextKernelIdeal.τ Cert.NextKernelIdeal.sig) → Buf (Elt Ideal) ℓ) : Prop :=
  True

def Pre_NextKernelIdeal_next_finite [hPre_next_finite : Cert.Pre_next_finite.Facts] (m : (ℓ : Loc Cert.NextKernelIdeal.nD Cert.NextKernelIdeal.τ Cert.NextKernelIdeal.sig) → Buf (Elt Ideal) ℓ) : Prop :=
  ∀ c : Dev Cert.NextKernelIdeal.nD,
    (Cert.Pre_next_finite.fn (F := Ideal) (m ((c.tc : Thread Cert.NextKernelIdeal.nD Cert.NextKernelIdeal.τ).loc Cert.NextKernelIdeal.main_arg0)) (m ((c.tc : Thread Cert.NextKernelIdeal.nD Cert.NextKernelIdeal.τ).loc Cert.NextKernelIdeal.main_arg1)) (m ((c.tc : Thread Cert.NextKernelIdeal.nD Cert.NextKernelIdeal.τ).loc Cert.NextKernelIdeal.main_arg2)) (m ((c.tc : Thread Cert.NextKernelIdeal.nD Cert.NextKernelIdeal.τ).loc Cert.NextKernelIdeal.main_arg3)) (m ((c.tc : Thread Cert.NextKernelIdeal.nD Cert.NextKernelIdeal.τ).loc Cert.NextKernelIdeal.main_arg4))) = (fun _ => 1#1)

def Pre_NextReferenceIdeal (m : (ℓ : Loc Cert.NextReferenceIdeal.nD Cert.NextReferenceIdeal.τ Cert.NextReferenceIdeal.sig) → Buf (Elt Ideal) ℓ) : Prop :=
  True

def Pre_NextReferenceIdeal_next_finite [hPre_next_finite : Cert.Pre_next_finite.Facts] (m : (ℓ : Loc Cert.NextReferenceIdeal.nD Cert.NextReferenceIdeal.τ Cert.NextReferenceIdeal.sig) → Buf (Elt Ideal) ℓ) : Prop :=
  ∀ c : Dev Cert.NextReferenceIdeal.nD,
    (Cert.Pre_next_finite.fn (F := Ideal) (m ((c.tc : Thread Cert.NextReferenceIdeal.nD Cert.NextReferenceIdeal.τ).loc Cert.NextReferenceIdeal.main_arg0)) (m ((c.tc : Thread Cert.NextReferenceIdeal.nD Cert.NextReferenceIdeal.τ).loc Cert.NextReferenceIdeal.main_arg1)) (m ((c.tc : Thread Cert.NextReferenceIdeal.nD Cert.NextReferenceIdeal.τ).loc Cert.NextReferenceIdeal.main_arg2)) (m ((c.tc : Thread Cert.NextReferenceIdeal.nD Cert.NextReferenceIdeal.τ).loc Cert.NextReferenceIdeal.main_arg3)) (m ((c.tc : Thread Cert.NextReferenceIdeal.nD Cert.NextReferenceIdeal.τ).loc Cert.NextReferenceIdeal.main_arg4))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_NextKernel [hNextKernel : Cert.NextKernel.Facts] : Prop :=
  ∀ (m : (ℓ : Loc Cert.NextKernel.nD Cert.NextKernel.τ Cert.NextKernel.sig) → Buf (Elt Bits) ℓ) (g : Dev Cert.NextKernel.nD → PrngReg), Pre_NextKernel m →
    θ_run (Cert.NextKernel.defs (F := Bits)) (onTc (τ := Cert.NextKernel.τ) (Cert.NextKernel.main (F := Bits))) ⟨m, fun _ => 0, g⟩ (fun r => (∀ c : Dev Cert.NextKernel.nD,
      r.2.mem ((c.tc : Thread Cert.NextKernel.nD Cert.NextKernel.τ).loc Cert.NextKernel.main_arg0) = m ((c.tc : Thread Cert.NextKernel.nD Cert.NextKernel.τ).loc Cert.NextKernel.main_arg0)
      ∧ r.2.mem ((c.tc : Thread Cert.NextKernel.nD Cert.NextKernel.τ).loc Cert.NextKernel.main_arg1) = m ((c.tc : Thread Cert.NextKernel.nD Cert.NextKernel.τ).loc Cert.NextKernel.main_arg1)
      ∧ r.2.mem ((c.tc : Thread Cert.NextKernel.nD Cert.NextKernel.τ).loc Cert.NextKernel.main_arg2) = m ((c.tc : Thread Cert.NextKernel.nD Cert.NextKernel.τ).loc Cert.NextKernel.main_arg2)
      ∧ r.2.mem ((c.tc : Thread Cert.NextKernel.nD Cert.NextKernel.τ).loc Cert.NextKernel.main_arg3) = m ((c.tc : Thread Cert.NextKernel.nD Cert.NextKernel.τ).loc Cert.NextKernel.main_arg3)
      ∧ r.2.mem ((c.tc : Thread Cert.NextKernel.nD Cert.NextKernel.τ).loc Cert.NextKernel.main_arg4) = m ((c.tc : Thread Cert.NextKernel.nD Cert.NextKernel.τ).loc Cert.NextKernel.main_arg4))
      ∧ r.2.sem = fun _ => 0)

def quiescent_NextKernelIdeal [hNextKernelIdeal : Cert.NextKernelIdeal.Facts] : Prop :=
  ∀ (m : (ℓ : Loc Cert.NextKernelIdeal.nD Cert.NextKernelIdeal.τ Cert.NextKernelIdeal.sig) → Buf (Elt Ideal) ℓ) (g : Dev Cert.NextKernelIdeal.nD → PrngReg), Pre_NextKernelIdeal m →
    θ_run (Cert.NextKernelIdeal.defs (F := Ideal)) (onTc (τ := Cert.NextKernelIdeal.τ) (Cert.NextKernelIdeal.main (F := Ideal))) ⟨m, fun _ => 0, g⟩ (fun r => (∀ c : Dev Cert.NextKernelIdeal.nD,
      r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
      ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
      ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
      ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
      ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4))
      ∧ r.2.sem = fun _ => 0)

def quiescent_NextKernelIdeal_pre_next_finite [hNextKernelIdeal : Cert.NextKernelIdeal.Facts] [hPre_next_finite : Cert.Pre_next_finite.Facts] : Prop :=
  ∀ (m : (ℓ : Loc Cert.NextKernelIdeal.nD Cert.NextKernelIdeal.τ Cert.NextKernelIdeal.sig) → Buf (Elt Ideal) ℓ) (g : Dev Cert.NextKernelIdeal.nD → PrngReg), Pre_NextKernelIdeal_next_finite m →
    θ_run (Cert.NextKernelIdeal.defs (F := Ideal)) (onTc (τ := Cert.NextKernelIdeal.τ) (Cert.NextKernelIdeal.main (F := Ideal))) ⟨m, fun _ => 0, g⟩ (fun r => (∀ c : Dev Cert.NextKernelIdeal.nD,
      r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
      ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
      ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
      ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
      ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4))
      ∧ r.2.sem = fun _ => 0)

def quiescent_NextReferenceIdeal_pre_next_finite [hNextReferenceIdeal : Cert.NextReferenceIdeal.Facts] [hPre_next_finite : Cert.Pre_next_finite.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal_next_finite m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v10_0)) (v1 : (c : Dev Cert.FfnKernelIdeal.nD) → Buf (Elt Ideal) ((c.tc : Thread Cert.FfnKernelIdeal.nD Cert.FfnKernelIdeal.τ).loc Cert.FfnKernelIdeal.main_v10_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10_0) = v0 c
          ∧ r.2.mem ((c.tc : Thread Cert.FfnKernelIdeal.nD Cert.FfnKernelIdeal.τ).loc Cert.FfnKernelIdeal.main_v10_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v24) = v0 c
          ∧ r.2.mem ((c.tc : Thread Cert.FfnReferenceIdeal.nD Cert.FfnReferenceIdeal.τ).loc Cert.FfnReferenceIdeal.main_v27) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_NextKernel_NextKernelIdeal : Prop :=
  True

def algebraic_NextKernelIdeal_NextReferenceIdeal_pre_next_finite [hNextKernelIdeal : Cert.NextKernelIdeal.Facts] [hNextReferenceIdeal : Cert.NextReferenceIdeal.Facts] [hPre_next_finite : Cert.Pre_next_finite.Facts] : Prop :=
  ∀ (m : (ℓ : Loc Cert.NextKernelIdeal.nD Cert.NextKernelIdeal.τ Cert.NextKernelIdeal.sig) → Buf (Elt Ideal) ℓ) (g : Dev Cert.NextKernelIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextKernelIdeal_next_finite m →
    (∀ c : Dev Cert.NextKernelIdeal.nD,
      m' ((c.tc : Thread Cert.NextReferenceIdeal.nD Cert.NextReferenceIdeal.τ).loc Cert.NextReferenceIdeal.main_arg0) = m ((c.tc : Thread Cert.NextKernelIdeal.nD Cert.NextKernelIdeal.τ).loc Cert.NextKernelIdeal.main_arg0)
      ∧ m' ((c.tc : Thread Cert.NextReferenceIdeal.nD Cert.NextReferenceIdeal.τ).loc Cert.NextReferenceIdeal.main_arg1) = m ((c.tc : Thread Cert.NextKernelIdeal.nD Cert.NextKernelIdeal.τ).loc Cert.NextKernelIdeal.main_arg1)
      ∧ m' ((c.tc : Thread Cert.NextReferenceIdeal.nD Cert.NextReferenceIdeal.τ).loc Cert.NextReferenceIdeal.main_arg2) = m ((c.tc : Thread Cert.NextKernelIdeal.nD Cert.NextKernelIdeal.τ).loc Cert.NextKernelIdeal.main_arg2)
      ∧ m' ((c.tc : Thread Cert.NextReferenceIdeal.nD Cert.NextReferenceIdeal.τ).loc Cert.NextReferenceIdeal.main_arg3) = m ((c.tc : Thread Cert.NextKernelIdeal.nD Cert.NextKernelIdeal.τ).loc Cert.NextKernelIdeal.main_arg3)
      ∧ m' ((c.tc : Thread Cert.NextReferenceIdeal.nD Cert.NextReferenceIdeal.τ).loc Cert.NextReferenceIdeal.main_arg4) = m ((c.tc : Thread Cert.NextKernelIdeal.nD Cert.NextKernelIdeal.τ).loc Cert.NextKernelIdeal.main_arg4)) →
    ∃ (v0 : (c : Dev Cert.NextKernelIdeal.nD) → Buf (Elt Ideal) ((c.tc : Thread Cert.NextKernelIdeal.nD Cert.NextKernelIdeal.τ).loc Cert.NextKernelIdeal.main_v10_0)) (v1 : (c : Dev Cert.NextKernelIdeal.nD) → Buf (Elt Ideal) ((c.tc : Thread Cert.NextKernelIdeal.nD Cert.NextKernelIdeal.τ).loc Cert.NextKernelIdeal.main_v10_1)),
      θ_run (Cert.NextKernelIdeal.defs (F := Ideal)) (onTc (τ := Cert.NextKernelIdeal.τ) (Cert.NextKernelIdeal.main (F := Ideal))) ⟨m, fun _ => 0, g⟩ (fun r => ∀ c : Dev Cert.NextKernelIdeal.nD,
          r.2.mem ((c.tc : Thread Cert.NextKernelIdeal.nD Cert.NextKernelIdeal.τ).loc Cert.NextKernelIdeal.main_v10_0) = v0 c
          ∧ r.2.mem ((c.tc : Thread Cert.NextKernelIdeal.nD Cert.NextKernelIdeal.τ).loc Cert.NextKernelIdeal.main_v10_1) = v1 c
          ∧ r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
          ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
          ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
          ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
          ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v24) = v0 c
          ∧ r.2.mem ((c.tc : Thread Cert.NextReferenceIdeal.nD Cert.NextReferenceIdeal.τ).loc Cert.NextReferenceIdeal.main_v27) = v1 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2)
          ∧ r.2.mem ((c.tc : Thread Cert.NextReferenceIdeal.nD Cert.NextReferenceIdeal.τ).loc Cert.NextReferenceIdeal.main_arg3) = m' ((c.tc : Thread Cert.NextReferenceIdeal.nD Cert.NextReferenceIdeal.τ).loc Cert.NextReferenceIdeal.main_arg3)
          ∧ r.2.mem ((c.tc : Thread Cert.NextReferenceIdeal.nD Cert.NextReferenceIdeal.τ).loc Cert.NextReferenceIdeal.main_arg4) = m' ((c.tc : Thread Cert.NextReferenceIdeal.nD Cert.NextReferenceIdeal.τ).loc Cert.NextReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v6)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hNextKernel : Cert.NextKernel.Facts) (hNextKernelIdeal : Cert.NextKernelIdeal.Facts) (hNextReferenceIdeal : Cert.NextReferenceIdeal.Facts) (hDownKernel : Cert.DownKernel.Facts) (hDownKernelIdeal : Cert.DownKernelIdeal.Facts) (hDownReferenceIdeal : Cert.DownReferenceIdeal.Facts) (hPre_finite : Cert.Pre_finite.Facts) (hPre_ffn_finite : Cert.Pre_ffn_finite.Facts) (hPre_next_finite : Cert.Pre_next_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_NextKernel (hNextKernel := hNextKernel)
    ∧ quiescent_NextKernelIdeal (hNextKernelIdeal := hNextKernelIdeal)
    ∧ quiescent_NextKernelIdeal_pre_next_finite (hNextKernelIdeal := hNextKernelIdeal) (hPre_next_finite := hPre_next_finite)
    ∧ quiescent_NextReferenceIdeal (hNextReferenceIdeal := hNextReferenceIdeal)
    ∧ quiescent_NextReferenceIdeal_pre_next_finite (hNextReferenceIdeal := hNextReferenceIdeal) (hPre_next_finite := hPre_next_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_NextKernel_NextKernelIdeal
    ∧ algebraic_NextKernelIdeal_NextReferenceIdeal_pre_next_finite (hNextKernelIdeal := hNextKernelIdeal) (hNextReferenceIdeal := hNextReferenceIdeal) (hPre_next_finite := hPre_next_finite)
    ∧ preserves_DownKernel_DownKernelIdeal
    ∧ algebraic_DownKernelIdeal_DownReferenceIdeal (hDownKernelIdeal := hDownKernelIdeal) (hDownReferenceIdeal := hDownReferenceIdeal)
-- ==== Pre_ffn_finite.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S1x4096 : Shape := ⟨2, ![1, 4096]⟩
abbrev S4096 : Shape := ⟨1, ![4096]⟩
abbrev S_ : Shape := ⟨0, ![]⟩
abbrev S1x4096x11008 : Shape := ⟨3, ![1, 4096, 11008]⟩
abbrev S4096x11008 : Shape := ⟨2, ![4096, 11008]⟩

class Facts : Prop where
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)
  reducesTo_S4096_S_d0 : S4096.ReducesTo [0] S_
  h_S_ : 0 < S_.numel
  slices_S2x4096x11008_S1x4096x11008_0_0_0 : S2x4096x11008.Slices ![0, 0, 0] S1x4096x11008
  shapeCasts_S1x4096x11008_S4096x11008 : S1x4096x11008.ShapeCasts S4096x11008
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S4x2048x4096 .f32) (main_arg1 : FVec F S2x4096 .f32) (main_arg2 : FVec F S2x4096x11008 .f32) (main_arg3 : FVec F S2x4096x11008 .f32) (main_arg4 : FVec F S2x11008x4096 .f32) : IVec S_ 1 :=
  let main_v0 : FVec F S1x4096 .f32 := (extractStridedSlice S1x4096 ![0, 0] · slices_S2x4096_S1x4096_0_0) main_arg1
  let main_v1 : FVec F S4096 .f32 := shapeCast S4096 main_v0 shapeCasts_S1x4096_S4096
  let main_v2 : FVec F S4096 .f32 := Host.absf main_v1
  let main_cst : FVec F S_ .f32 := constant S_ .f32 0x7F800000#32
  let main_v3 : FVec F S4096 .f32 := broadcastInDim S4096 ![] bcast_S_S4096 main_cst
  let main_v4 : IVec S4096 1 := cmpf .olt main_v2 main_v3
  let main_c : IVec S_ 1 := constantI S_ 1 1#1
  let main_v5 : IVec S_ 1 := (fun x v => Host.reduce IntOp.andi x v reducesTo_S4096_S_d0 h_S_) main_v4 main_c
  let main_v6 : FVec F S1x4096x11008 .f32 := (extractStridedSlice S1x4096x11008 ![0, 0, 0] · slices_S2x4096x11008_S1x4096x11008_0_0_0) main_arg2
  let main_v7 : FVec F S4096x11008 .f32 := shapeCast S4096x11008 main_v6 shapeCasts_S1x4096x11008_S4096x11008
  let main_v8 : FVec F S4096x11008 .f32 := Host.absf main_v7
  let main_cst_0 : FVec F S_ .f32 := constant S_ .f32 0x7F800000#32
  let main_v9 : FVec F S4096x11008 .f32 := broadcastInDim S4096x11008 ![] bcast_S_S4096x11008 main_cst_0
  let main_v10 : IVec S4096x11008 1 := cmpf .olt main_v8 main_v9
  let main_c_1 : IVec S_ 1 := constantI S_ 1 1#1
  let main_v11 : IVec S_ 1 := (fun x v => Host.reduce IntOp.andi x v reducesTo_S4096x11008_S_d0_1 h_S_) main_v10 main_c_1
  let main_v12 : IVec S_ 1 := andi main_v5 main_v11
  main_v12
-- ==== Pre_finite.lean ====
abbrev S4x2048x6144 : Shape := ⟨3, ![4, 2048, 6144]⟩
abbrev S4x16x2048 : Shape := ⟨3, ![4, 16, 2048]⟩
abbrev S_ : Shape := ⟨0, ![]⟩

class Facts : Prop where
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x16x2048 : S_.BroadcastsInDim S4x16x2048 (![] : Fin 0 → Fin S4x16x2048.rank)
  reducesTo_S4x16x2048_S_d0_1_2 : S4x16x2048.ReducesTo [0, 1, 2] S_

variable [Facts]

def fn {F : FTy → Type} [FloatOps F] (main_arg0 : FVec F S4x2048x6144 .f32) (main_arg1 : FVec F S4x16x2048 .f32) : IVec S_ 1 :=
  let main_v0 : FVec F S4x2048x6144 .f32 := Host.absf main_arg0
  let main_cst : FVec F S_ .f32 := constant S_ .f32 0x7F800000#32
  let main_v1 : FVec F S4x2048x6144 .f32 := broadcastInDim S4x2048x6144 ![] bcast_S_S4x2048x6144 main_cst
  let main_v2 : IVec S4x2048x6144 1 := cmpf .olt main_v0 main_v1
  let main_c : IVec S_ 1 := constantI S_ 1 1#1
  let main_v3 : IVec S_ 1 := (fun x v => Host.reduce IntOp.andi x v reducesTo_S4x2048x6144_S_d0_1_2 h_S_) main_v2 main_c
  let main_v4 : FVec F S4x16x2048 .f32 := Host.absf main_arg1
  let main_cst_0 : FVec F S_ .f32 := constant S_ .f32 0x7F800000#32
  let main_v5 : FVec F S4x16x2048 .f32 := broadcastInDim S4x16x2048 ![] bcast_S_S4x16x2048 main_cst_0
  let main_v6 : IVec S4x16x2048 1 := cmpf .olt main_v4 main_v5
  let main_c_1 : IVec S_ 1 := constantI S_ 1 1#1
  let main_v7 : IVec S_ 1 := (fun x v => Host.reduce IntOp.andi x v reducesTo_S4x16x2048_S_d0_1_2 h_S_) main_v6 main_c_1
  let main_v8 : IVec S_ 1 := andi main_v3 main_v7
  main_v8
-- ==== Pre_next_finite.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S1x4096 : Shape := ⟨2, ![1, 4096]⟩
abbrev S4096 : Shape := ⟨1, ![4096]⟩
abbrev S_ : Shape := ⟨0, ![]⟩
abbrev S1x4096x11008 : Shape := ⟨3, ![1, 4096, 11008]⟩
abbrev S4096x11008 : Shape := ⟨2, ![4096, 11008]⟩

class Facts : Prop where
  slices_S2x4096_S1x4096_1_0 : S2x4096.Slices ![1, 0] S1x4096
  shapeCasts_S1x4096_S4096 : S1x4096.ShapeCasts S4096
  bcast_S_S4096 : S_.BroadcastsInDim S4096 (![] : Fin 0 → Fin S4096.rank)
  reducesTo_S4096_S_d0 : S4096.ReducesTo [0] S_
  h_S_ : 0 < S_.numel
  slices_S2x4096x11008_S1x4096x11008_1_0_0 : S2x4096x11008.Slices ![1, 0, 0] S1x4096x11008
  shapeCasts_S1x4096x11008_S4096x11008 : S1x4096x11008.ShapeCasts S4096x11008
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S4x2048x4096 .f32) (main_arg1 : FVec F S2x4096 .f32) (main_arg2 : FVec F S2x4096x11008 .f32) (main_arg3 : FVec F S2x4096x11008 .f32) (main_arg4 : FVec F S2x11008x4096 .f32) : IVec S_ 1 :=
  let main_v0 : FVec F S1x4096 .f32 := (extractStridedSlice S1x4096 ![1, 0] · slices_S2x4096_S1x4096_1_0) main_arg1
  let main_v1 : FVec F S4096 .f32 := shapeCast S4096 main_v0 shapeCasts_S1x4096_S4096
  let main_v2 : FVec F S4096 .f32 := Host.absf main_v1
  let main_cst : FVec F S_ .f32 := constant S_ .f32 0x7F800000#32
  let main_v3 : FVec F S4096 .f32 := broadcastInDim S4096 ![] bcast_S_S4096 main_cst
  let main_v4 : IVec S4096 1 := cmpf .olt main_v2 main_v3
  let main_c : IVec S_ 1 := constantI S_ 1 1#1
  let main_v5 : IVec S_ 1 := (fun x v => Host.reduce IntOp.andi x v reducesTo_S4096_S_d0 h_S_) main_v4 main_c
  let main_v6 : FVec F S1x4096x11008 .f32 := (extractStridedSlice S1x4096x11008 ![1, 0, 0] · slices_S2x4096x11008_S1x4096x11008_1_0_0) main_arg2
  let main_v7 : FVec F S4096x11008 .f32 := shapeCast S4096x11008 main_v6 shapeCasts_S1x4096x11008_S4096x11008
  let main_v8 : FVec F S4096x11008 .f32 := Host.absf main_v7
  let main_cst_0 : FVec F S_ .f32 := constant S_ .f32 0x7F800000#32
  let main_v9 : FVec F S4096x11008 .f32 := broadcastInDim S4096x11008 ![] bcast_S_S4096x11008 main_cst_0
  let main_v10 : IVec S4096x11008 1 := cmpf .olt main_v8 main_v9
  let main_c_1 : IVec S_ 1 := constantI S_ 1 1#1
  let main_v11 : IVec S_ 1 := (fun x v => Host.reduce IntOp.andi x v reducesTo_S4096x11008_S_d0_1 h_S_) main_v10 main_c_1
  let main_v12 : IVec S_ 1 := andi main_v5 main_v11
  main_v12
-- ==== Kernel.lean ====
abbrev S4x2048x6144 : Shape := ⟨3, ![4, 2048, 6144]⟩
abbrev S4x16x2048 : Shape := ⟨3, ![4, 16, 2048]⟩
abbrev S8192x6144 : Shape := ⟨2, ![8192, 6144]⟩
abbrev S_ : Shape := ⟨0, ![]⟩
abbrev S4x16x1x2048 : Shape := ⟨4, ![4, 16, 1, 2048]⟩
abbrev S8192x2048 : Shape := ⟨2, ![8192, 2048]⟩
abbrev S512x512 : Shape := ⟨2, ![512, 512]⟩
abbrev S2048x512 : Shape := ⟨2, ![2048, 512]⟩
abbrev S1x4x1x2048 : Shape := ⟨4, ![1, 4, 1, 2048]⟩
abbrev S4x512x128 : Shape := ⟨3, ![4, 512, 128]⟩
abbrev S4x512x256 : Shape := ⟨3, ![4, 512, 256]⟩
abbrev S512x128 : Shape := ⟨2, ![512, 128]⟩
abbrev S1x1x1x512 : Shape := ⟨4, ![1, 1, 1, 512]⟩
abbrev S1x512 : Shape := ⟨2, ![1, 512]⟩
abbrev S512x256 : Shape := ⟨2, ![512, 256]⟩
abbrev S128x128 : Shape := ⟨2, ![128, 128]⟩
abbrev S128x512 : Shape := ⟨2, ![128, 512]⟩
abbrev S1x512x128 : Shape := ⟨3, ![1, 512, 128]⟩
abbrev S128 : Shape := ⟨1, ![128]⟩
abbrev S128x1 : Shape := ⟨2, ![128, 1]⟩
abbrev S128x256 : Shape := ⟨2, ![128, 256]⟩
abbrev S1x512x256 : Shape := ⟨3, ![1, 512, 256]⟩

abbrev nBuf : Space → Nat
  | .hbm => 24
  | .vmem => 12
  | .smem => 0
  | _ => 0

abbrev bufTy : (tb : Table) → Fin (tcTables nBuf tb) → BufTy
  | .hbm, ⟨0, _⟩ => ⟨S4x2048x6144, .f32⟩
  | .hbm, ⟨1, _⟩ => ⟨S4x16x2048, .f32⟩
  | .hbm, ⟨2, _⟩ => ⟨S8192x6144, .f32⟩
  | .hbm, ⟨3, _⟩ => ⟨S_, .f32⟩
  | .hbm, ⟨4, _⟩ => ⟨S_, .f32⟩
  | .hbm, ⟨5, _⟩ => ⟨S8192x6144, .i32⟩
  | .hbm, ⟨6, _⟩ => ⟨S_, .i32⟩
  | .hbm, ⟨7, _⟩ => ⟨S8192x6144, .i32⟩
  | .hbm, ⟨8, _⟩ => ⟨S8192x6144, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S8192x6144, .f32⟩
  | .hbm, ⟨19, _⟩ => ⟨S8192x6144, .bf16⟩
  | .hbm, ⟨20, _⟩ => ⟨S4x16x2048, .f32⟩
  | .hbm, ⟨21, _⟩ => ⟨S4x16x2048, .f32⟩
  | .hbm, ⟨22, _⟩ => ⟨S4x16x1x2048, .f32⟩
  | .hbm, ⟨23, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x4x1x2048, .f32⟩
  | .local _ .vmem, ⟨7, _⟩ => ⟨S1x4x1x2048, .f32⟩
  | .local _ .vmem, ⟨8, _⟩ => ⟨S512x512, .bf16⟩
  | .local _ .vmem, ⟨9, _⟩ => ⟨S512x512, .bf16⟩
  | .local _ .vmem, ⟨10, _⟩ => ⟨S4x512x128, .f32⟩
  | .local _ .vmem, ⟨11, _⟩ => ⟨S4x512x256, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_9 : BitVec 32 := 1#32
  ⟨c0_i32_8, v14, c1_i32_9⟩
def k0_mult1 (i : grid0.Coords) (k0_t1 : Fin (k0_t1_loop i).trips) : BitVec 32 :=
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  v883
def k0_off1 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v885 : Index := Scalar.indexCast v884
  let c0_426 : Index := 0#32
  ![v885.toNat, 0]
def k0_off2 (i : grid0.Coords) (k0_t1 : Fin (k0_t1_loop i).trips) : Fin 4 → Nat :=
  let c0_427 : Index := 0#32
  let c0_428 : Index := 0#32
  let c0_429 : Index := 0#32
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v888 : Index := Scalar.indexCast v884
  ![0, 0, 0, v888.toNat]
def k0_off3 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1084 : Index := Scalar.indexCast v884
  let c128_524 : Index := 128#32
  ![v1084.toNat, 128]
def k0_off4 (i : grid0.Coords) (k0_t1 : Fin (k0_t1_loop i).trips) : Fin 4 → Nat :=
  let c0_525 : Index := 0#32
  let c1_526 : Index := 1#32
  let c0_527 : Index := 0#32
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1087 : Index := Scalar.indexCast v884
  ![0, 1, 0, v1087.toNat]
def k0_off5 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1283 : Index := Scalar.indexCast v884
  let c256_622 : Index := 256#32
  ![v1283.toNat, 256]
def k0_off6 (i : grid0.Coords) (k0_t1 : Fin (k0_t1_loop i).trips) : Fin 4 → Nat :=
  let c0_623 : Index := 0#32
  let c2_624 : Index := 2#32
  let c0_625 : Index := 0#32
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1286 : Index := Scalar.indexCast v884
  ![0, 2, 0, v1286.toNat]
def k0_off7 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1482 : Index := Scalar.indexCast v884
  let c384_720 : Index := 384#32
  ![v1482.toNat, 384]
def k0_off8 (i : grid0.Coords) (k0_t1 : Fin (k0_t1_loop i).trips) : Fin 4 → Nat :=
  let c0_721 : Index := 0#32
  let c3_722 : Index := 3#32
  let c0_723 : Index := 0#32
  let c0_i32_8 : BitVec 32 := 0#32
  let c1_i32_9 : BitVec 32 := 1#32
  let arg10 : BitVec 32 := Scf.iv c0_i32_8 c1_i32_9 k0_t1
  let c512_i32_425 : BitVec 32 := 512#32
  let v883 : BitVec 32 := Scalar.muli arg10 c512_i32_425
  let v884 : BitVec 32 := v883
  let v1485 : Index := Scalar.indexCast v884
  ![0, 3, 0, v1485.toNat]
@[reducible] def k0_t2_loop (i : grid0.Coords) : Scf.Loop 32 :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let v11 : BitVec 32 := Scalar.addi c0_i32_8 v10
  let c1_i32_10 : BitVec 32 := 1#32
  ⟨v14, v11, c1_i32_10⟩
def k0_mult2 (i : grid0.Coords) (k0_t2 : Fin (k0_t2_loop i).trips) : BitVec 32 :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  v883
def k0_off9 (i : grid0.Coords) (k0_t2 : Fin (k0_t2_loop i).trips) : Fin 2 → Nat :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v885 : Index := Scalar.indexCast v884
  let c0_426 : Index := 0#32
  ![v885.toNat, 0]
def k0_off10 (i : grid0.Coords) (k0_t2 : Fin (k0_t2_loop i).trips) : Fin 4 → Nat :=
  let c0_427 : Index := 0#32
  let c0_428 : Index := 0#32
  let c0_429 : Index := 0#32
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v888 : Index := Scalar.indexCast v884
  ![0, 0, 0, v888.toNat]
def k0_off11 (i : grid0.Coords) (k0_t2 : Fin (k0_t2_loop i).trips) : Fin 2 → Nat :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1084 : Index := Scalar.indexCast v884
  let c128_524 : Index := 128#32
  ![v1084.toNat, 128]
def k0_off12 (i : grid0.Coords) (k0_t2 : Fin (k0_t2_loop i).trips) : Fin 4 → Nat :=
  let c0_525 : Index := 0#32
  let c1_526 : Index := 1#32
  let c0_527 : Index := 0#32
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1087 : Index := Scalar.indexCast v884
  ![0, 1, 0, v1087.toNat]
def k0_off13 (i : grid0.Coords) (k0_t2 : Fin (k0_t2_loop i).trips) : Fin 2 → Nat :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1283 : Index := Scalar.indexCast v884
  let c256_622 : Index := 256#32
  ![v1283.toNat, 256]
def k0_off14 (i : grid0.Coords) (k0_t2 : Fin (k0_t2_loop i).trips) : Fin 4 → Nat :=
  let c0_623 : Index := 0#32
  let c2_624 : Index := 2#32
  let c0_625 : Index := 0#32
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1286 : Index := Scalar.indexCast v884
  ![0, 2, 0, v1286.toNat]
def k0_off15 (i : grid0.Coords) (k0_t2 : Fin (k0_t2_loop i).trips) : Fin 2 → Nat :=
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1482 : Index := Scalar.indexCast v884
  let c384_720 : Index := 384#32
  ![v1482.toNat, 384]
def k0_off16 (i : grid0.Coords) (k0_t2 : Fin (k0_t2_loop i).trips) : Fin 4 → Nat :=
  let c0_721 : Index := 0#32
  let c3_722 : Index := 3#32
  let c0_723 : Index := 0#32
  let c0_i32_8 : BitVec 32 := 0#32
  let arg2 : BitVec 32 := BitVec.ofNat 32 (i 2).val
  let v10 : BitVec 32 := Scalar.subi arg2 c0_i32_8
  let c1_i32 : BitVec 32 := 1#32
  let v12 : BitVec 32 := Scalar.divsi v10 c1_i32
  let v13 : BitVec 32 := Scalar.muli v12 c1_i32
  let v14 : BitVec 32 := Scalar.addi c0_i32_8 v13
  let c1_i32_10 : BitVec 32 := 1#32
  let arg10 : BitVec 32 := Scf.iv v14 c1_i32_10 k0_t2
  let c512_i32_425 : BitVec 32 := 512#32
  let v883 : BitVec 32 := Scalar.muli arg10 c512_i32_425
  let v884 : BitVec 32 := v883
  let v1485 : Index := Scalar.indexCast v884
  ![0, 3, 0, v1485.toNat]
def k0_mult3 (i : grid0.Coords) : BitVec 32 :=
  let arg2 : BitVec 32 := BitVec.ofNat 32 (i 2).val
  let c512_i32 : BitVec 32 := 512#32
  let v15 : BitVec 32 := Scalar.muli arg2 c512_i32
  v15
def k0_off17 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v23 : Index := Scalar.indexCast v16
  let c0_13 : Index := 0#32
  ![v23.toNat, 0]
def k0_off18 (i : grid0.Coords) : Fin 4 → Nat :=
  let c0_14 : Index := 0#32
  let c0_15 : Index := 0#32
  let c0_16 : Index := 0#32
  let arg2 : BitVec 32 := BitVec.ofNat 32 (i 2).val
  let c512_i32 : BitVec 32 := 512#32
  let v15 : BitVec 32 := Scalar.muli arg2 c512_i32
  let v16 : BitVec 32 := v15
  let v26 : Index := Scalar.indexCast v16
  ![0, 0, 0, v26.toNat]
def k0_off19 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v230 : Index := Scalar.indexCast v16
  let c128_108 : Index := 128#32
  ![v230.toNat, 128]
def k0_off20 (i : grid0.Coords) : Fin 4 → Nat :=
  let c0_109 : Index := 0#32
  let c1 : Index := 1#32
  let c0_110 : Index := 0#32
  let arg2 : BitVec 32 := BitVec.ofNat 32 (i 2).val
  let c512_i32 : BitVec 32 := 512#32
  let v15 : BitVec 32 := Scalar.muli arg2 c512_i32
  let v16 : BitVec 32 := v15
  let v233 : Index := Scalar.indexCast v16
  ![0, 1, 0, v233.toNat]
def k0_off21 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v437 : Index := Scalar.indexCast v16
  let c256_205 : Index := 256#32
  ![v437.toNat, 256]
def k0_off22 (i : grid0.Coords) : Fin 4 → Nat :=
  let c0_206 : Index := 0#32
  let c2 : Index := 2#32
  let c0_207 : Index := 0#32
  let arg2 : BitVec 32 := BitVec.ofNat 32 (i 2).val
  let c512_i32 : BitVec 32 := 512#32
  let v15 : BitVec 32 := Scalar.muli arg2 c512_i32
  let v16 : BitVec 32 := v15
  let v440 : Index := Scalar.indexCast v16
  ![0, 2, 0, v440.toNat]
def k0_off23 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v644 : Index := Scalar.indexCast v16
  let c384_301 : Index := 384#32
  ![v644.toNat, 384]
def k0_off24 (i : grid0.Coords) : Fin 4 → Nat :=
  let c0_302 : Index := 0#32
  let c3 : Index := 3#32
  let c0_303 : Index := 0#32
  let arg2 : BitVec 32 := BitVec.ofNat 32 (i 2).val
  let c512_i32 : BitVec 32 := 512#32
  let v15 : BitVec 32 := Scalar.muli arg2 c512_i32
  let v16 : BitVec 32 := v15
  let v647 : Index := Scalar.indexCast v16
  ![0, 3, 0, v647.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x6144 : Shape := ⟨3, ![4, 2048, 6144]⟩
abbrev S4x16x2048 : Shape := ⟨3, ![4, 16, 2048]⟩
abbrev S4x2048x2048 : Shape := ⟨3, ![4, 2048, 2048]⟩
abbrev S4x2048x16x128 : Shape := ⟨4, ![4, 2048, 16, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S4x16x128x2048 : Shape := ⟨4, ![4, 16, 128, 2048]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x16x2048, .f32⟩
  | .hbm, ⟨2, _⟩ => ⟨S4x2048x2048, .f32⟩
  | .hbm, ⟨3, _⟩ => ⟨S4x2048x16x128, .f32⟩
  | .hbm, ⟨4, _⟩ => ⟨S4x2048x2048, .f32⟩
  | .hbm, ⟨5, _⟩ => ⟨S4x2048x16x128, .f32⟩
  | .hbm, ⟨6, _⟩ => ⟨S4x2048x2048, .f32⟩
  | .hbm, ⟨7, _⟩ => ⟨S4x2048x16x128, .f32⟩
  | .hbm, ⟨8, _⟩ => ⟨S2048, .i32⟩
  | .hbm, ⟨9, _⟩ => ⟨S2048x1, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x1, .f32⟩
  | .hbm, ⟨20, _⟩ => ⟨S4x16x1x2048, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S_, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S_, .f32⟩
  | .hbm, ⟨33, _⟩ => ⟨S4x16x2048, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048, .f32⟩
  | .hbm, ⟨41, _⟩ => ⟨S4x16x2048x1, .f32⟩
  | .hbm, ⟨42, _⟩ => ⟨S4x16x2048x2048, .f32⟩
  | .hbm, ⟨43, _⟩ => ⟨S4x16x2048x2048, .f32⟩
  | .hbm, ⟨44, _⟩ => ⟨S4x16x128x2048, .f32⟩
  | .hbm, ⟨45, _⟩ => ⟨S4x2048x16x128, .f32⟩
  | .hbm, ⟨46, _⟩ => ⟨S8192x2048, .f32⟩
  | .hbm, ⟨47, _⟩ => ⟨S8192x2048, .bf16⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== FfnKernel.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩
abbrev S11008x4096 : Shape := ⟨2, ![11008, 4096]⟩
abbrev S2048x4096 : Shape := ⟨2, ![2048, 4096]⟩
abbrev S2048x1 : Shape := ⟨2, ![2048, 1]⟩
abbrev S1x1024x256 : Shape := ⟨3, ![1, 1024, 256]⟩
abbrev S1x64x4096 : Shape := ⟨3, ![1, 64, 4096]⟩
abbrev S2048x256 : Shape := ⟨2, ![2048, 256]⟩
abbrev S64x4096 : Shape := ⟨2, ![64, 4096]⟩
abbrev S2x4096x256 : Shape := ⟨3, ![2, 4096, 256]⟩
abbrev S1024x256 : Shape := ⟨2, ![1024, 256]⟩
abbrev S1x4096x256 : Shape := ⟨3, ![1, 4096, 256]⟩
abbrev S4096x256 : Shape := ⟨2, ![4096, 256]⟩
abbrev S512x4096 : Shape := ⟨2, ![512, 4096]⟩
abbrev S512x1 : Shape := ⟨2, ![512, 1]⟩
abbrev S512x256 : Shape := ⟨2, ![512, 256]⟩

abbrev nBuf : Space → Nat
  | .hbm => 18
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S8192x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x11008, .bf16⟩
  | .hbm, ⟨17, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S2048x1, .f32⟩
  | .local _ .vmem, ⟨3, _⟩ => ⟨S2048x1, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x64x4096, .f32⟩
  | .local _ .vmem, ⟨9, _⟩ => ⟨S1x64x4096, .f32⟩
  | .local _ .vmem, ⟨10, _⟩ => ⟨S2048x256, .bf16⟩
  | .local _ .vmem, ⟨11, _⟩ => ⟨S2048x256, .bf16⟩
  | .local _ .vmem, ⟨12, _⟩ => ⟨S64x4096, .bf16⟩
  | .local _ .vmem, ⟨13, _⟩ => ⟨S64x4096, .bf16⟩
  | .local _ .vmem, ⟨14, _⟩ => ⟨S2x4096x256, .bf16⟩
  | .local _ .vmem, ⟨15, _⟩ => ⟨S2x4096x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![44, 4], ![false, false]⟩

def k0_cond1 (i : grid0.Coords) : BitVec 1 :=
  let arg0 : BitVec 32 := BitVec.ofNat 32 (i 0).val
  let c43_i32 : BitVec 32 := 43#32
  let v10 : BitVec 1 := Scalar.cmpi .slt arg0 c43_i32
  let v11 : BitVec 32 := Scalar.extui v10
  let c0_i32_3 : BitVec 32 := 0#32
  let v12 : BitVec 1 := Scalar.cmpi .ne v11 c0_i32_3
  v12

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let arg1 : BitVec 32 := BitVec.ofNat 32 (i 1).val
  let c1024_i32 : BitVec 32 := 1024#32
  let v20 : BitVec 32 := Scalar.muli arg1 c1024_i32
  let v21 : BitVec 32 := v20
  let v26 : Index := Scalar.indexCast v21
  let c0_13 : Index := 0#32
  ![v25.toNat, v26.toNat, 0]
def k0_cond2 (i : grid0.Coords) : BitVec 1 :=
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .ne v18 c0_i32_9
  v19

def k0_off2 (i : grid0.Coords) : Fin 3 → Nat :=
  let c1_i32_10 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : BitVec 32 := Scalar.subi c1_i32_10 v9
  let v21 : Index := Scalar.indexCast v20
  let c0_11 : Index := 0#32
  let c0_12 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  ![c0_i32.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c4_i32 : BitVec 32 := 4#32
  let v1 : BitVec 32 := Scalar.muli arg0 c4_i32
  let v2 : BitVec 32 := Scalar.addi v1 arg1
  let c171_i32 : BitVec 32 := 171#32
  let v3 : BitVec 32 := Scalar.select v0 v2 c171_i32
  let c0_i32 : BitVec 32 := 0#32
  let c0_i32_0 : BitVec 32 := 0#32
  let c0_i32_1 : BitVec 32 := 0#32
  ![c0_i32.toNat, v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c4_i32 : BitVec 32 := 4#32
  let v1 : BitVec 32 := Scalar.muli arg0 c4_i32
  let v2 : BitVec 32 := Scalar.addi v1 arg1
  let c171_i32 : BitVec 32 := 171#32
  let v3 : BitVec 32 := Scalar.select v0 v2 c171_i32
  let c0_i32 : BitVec 32 := 0#32
  let c0_i32_0 : BitVec 32 := 0#32
  ![v3.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S_ : Shape := ⟨0, ![]⟩
abbrev S4x2048 : Shape := ⟨2, ![4, 2048]⟩
abbrev S4x2048x1 : Shape := ⟨3, ![4, 2048, 1]⟩
abbrev S1x4096 : Shape := ⟨2, ![1, 4096]⟩
abbrev S4096 : Shape := ⟨1, ![4096]⟩
abbrev S1x1x4096 : Shape := ⟨3, ![1, 1, 4096]⟩
abbrev S1x4096x11008 : Shape := ⟨3, ![1, 4096, 11008]⟩
abbrev S4096x11008 : Shape := ⟨2, ![4096, 11008]⟩
abbrev S4x2048x11008 : Shape := ⟨3, ![4, 2048, 11008]⟩
abbrev S8192x11008 : Shape := ⟨2, ![8192, 11008]⟩
abbrev S1x11008x4096 : Shape := ⟨3, ![1, 11008, 4096]⟩
abbrev S11008x4096 : Shape := ⟨2, ![11008, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S1x4096x11008, .f32⟩
  | .hbm, ⟨24, _⟩ => ⟨S4096x11008, .f32⟩
  | .hbm, ⟨25, _⟩ => ⟨S4x2048x11008, .f32⟩
  | .hbm, ⟨26, _⟩ => ⟨S4x2048x11008, .f32⟩
  | .hbm, ⟨27, _⟩ => ⟨S4x2048x11008, .f32⟩
  | .hbm, ⟨28, _⟩ => ⟨S_, .f32⟩
  | .hbm, ⟨29, _⟩ => ⟨S4x2048x11008, .f32⟩
  | .hbm, ⟨30, _⟩ => ⟨S4x2048x11008, .f32⟩
  | .hbm, ⟨31, _⟩ => ⟨S_, .f32⟩
  | .hbm, ⟨32, _⟩ => ⟨S4x2048x11008, .f32⟩
  | .hbm, ⟨33, _⟩ => ⟨S4x2048x11008, .f32⟩
  | .hbm, ⟨34, _⟩ => ⟨S4x2048x11008, .f32⟩
  | .hbm, ⟨35, _⟩ => ⟨S1x4096x11008, .f32⟩
  | .hbm, ⟨36, _⟩ => ⟨S4096x11008, .f32⟩
  | .hbm, ⟨37, _⟩ => ⟨S4x2048x11008, .f32⟩
  | .hbm, ⟨38, _⟩ => ⟨S4x2048x11008, .f32⟩
  | .hbm, ⟨39, _⟩ => ⟨S8192x11008, .f32⟩
  | .hbm, ⟨40, _⟩ => ⟨S8192x11008, .bf16⟩
  | .hbm, ⟨41, _⟩ => ⟨S1x11008x4096, .f32⟩
  | .hbm, ⟨42, _⟩ => ⟨S11008x4096, .f32⟩
  | .hbm, ⟨43, _⟩ => ⟨S11008x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== NextKernel.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩
abbrev S11008x4096 : Shape := ⟨2, ![11008, 4096]⟩
abbrev S2048x4096 : Shape := ⟨2, ![2048, 4096]⟩
abbrev S2048x1 : Shape := ⟨2, ![2048, 1]⟩
abbrev S1x1024x256 : Shape := ⟨3, ![1, 1024, 256]⟩
abbrev S1x64x4096 : Shape := ⟨3, ![1, 64, 4096]⟩
abbrev S2048x256 : Shape := ⟨2, ![2048, 256]⟩
abbrev S64x4096 : Shape := ⟨2, ![64, 4096]⟩
abbrev S2x4096x256 : Shape := ⟨3, ![2, 4096, 256]⟩
abbrev S1024x256 : Shape := ⟨2, ![1024, 256]⟩
abbrev S1x4096x256 : Shape := ⟨3, ![1, 4096, 256]⟩
abbrev S4096x256 : Shape := ⟨2, ![4096, 256]⟩
abbrev S512x4096 : Shape := ⟨2, ![512, 4096]⟩
abbrev S512x1 : Shape := ⟨2, ![512, 1]⟩
abbrev S512x256 : Shape := ⟨2, ![512, 256]⟩

abbrev nBuf : Space → Nat
  | .hbm => 18
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S8192x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x11008, .bf16⟩
  | .hbm, ⟨17, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S2048x1, .f32⟩
  | .local _ .vmem, ⟨3, _⟩ => ⟨S2048x1, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x64x4096, .f32⟩
  | .local _ .vmem, ⟨9, _⟩ => ⟨S1x64x4096, .f32⟩
  | .local _ .vmem, ⟨10, _⟩ => ⟨S2048x256, .bf16⟩
  | .local _ .vmem, ⟨11, _⟩ => ⟨S2048x256, .bf16⟩
  | .local _ .vmem, ⟨12, _⟩ => ⟨S64x4096, .bf16⟩
  | .local _ .vmem, ⟨13, _⟩ => ⟨S64x4096, .bf16⟩
  | .local _ .vmem, ⟨14, _⟩ => ⟨S2x4096x256, .bf16⟩
  | .local _ .vmem, ⟨15, _⟩ => ⟨S2x4096x256, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![44, 4], ![false, false]⟩

def k0_cond1 (i : grid0.Coords) : BitVec 1 :=
  let arg0 : BitVec 32 := BitVec.ofNat 32 (i 0).val
  let c43_i32 : BitVec 32 := 43#32
  let v10 : BitVec 1 := Scalar.cmpi .slt arg0 c43_i32
  let v11 : BitVec 32 := Scalar.extui v10
  let c0_i32_3 : BitVec 32 := 0#32
  let v12 : BitVec 1 := Scalar.cmpi .ne v11 c0_i32_3
  v12

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let arg1 : BitVec 32 := BitVec.ofNat 32 (i 1).val
  let c1024_i32 : BitVec 32 := 1024#32
  let v20 : BitVec 32 := Scalar.muli arg1 c1024_i32
  let v21 : BitVec 32 := v20
  let v26 : Index := Scalar.indexCast v21
  let c0_13 : Index := 0#32
  ![v25.toNat, v26.toNat, 0]
def k0_cond2 (i : grid0.Coords) : BitVec 1 :=
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .ne v18 c0_i32_9
  v19

def k0_off2 (i : grid0.Coords) : Fin 3 → Nat :=
  let c1_i32_10 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : BitVec 32 := Scalar.subi c1_i32_10 v9
  let v21 : Index := Scalar.indexCast v20
  let c0_11 : Index := 0#32
  let c0_12 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c1_i32 : BitVec 32 := 1#32
  let c0_i32 : BitVec 32 := 0#32
  ![c1_i32.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c1_i32 : BitVec 32 := 1#32
  let c0_i32 : BitVec 32 := 0#32
  ![c1_i32.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c4_i32 : BitVec 32 := 4#32
  let v1 : BitVec 32 := Scalar.muli arg0 c4_i32
  let v2 : BitVec 32 := Scalar.addi v1 arg1
  let c171_i32 : BitVec 32 := 171#32
  let v3 : BitVec 32 := Scalar.select v0 v2 c171_i32
  let c1_i32 : BitVec 32 := 1#32
  let c0_i32 : BitVec 32 := 0#32
  let c0_i32_0 : BitVec 32 := 0#32
  ![c1_i32.toNat, v3.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 1 := Scalar.cmpi .slt arg0 c43_i32
  let c4_i32 : BitVec 32 := 4#32
  let v1 : BitVec 32 := Scalar.muli arg0 c4_i32
  let v2 : BitVec 32 := Scalar.addi v1 arg1
  let c171_i32 : BitVec 32 := 171#32
  let v3 : BitVec 32 := Scalar.select v0 v2 c171_i32
  let c0_i32 : BitVec 32 := 0#32
  let c0_i32_0 : BitVec 32 := 0#32
  ![v3.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NextReferenceIdeal.lean ====
abbrev S4x2048x4096 : Shape := ⟨3, ![4, 2048, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S_ : Shape := ⟨0, ![]⟩
abbrev S4x2048 : Shape := ⟨2, ![4, 2048]⟩
abbrev S4x2048x1 : Shape := ⟨3, ![4, 2048, 1]⟩
abbrev S1x4096 : Shape := ⟨2, ![1, 4096]⟩
abbrev S4096 : Shape := ⟨1, ![4096]⟩
abbrev S1x1x4096 : Shape := ⟨3, ![1, 1, 4096]⟩
abbrev S1x4096x11008 : Shape := ⟨3, ![1, 4096, 11008]⟩
abbrev S4096x11008 : Shape := ⟨2, ![4096, 11008]⟩
abbrev S4x2048x11008 : Shape := ⟨3, ![4, 2048, 11008]⟩
abbrev S8192x11008 : Shape := ⟨2, ![8192, 11008]⟩
abbrev S1x11008x4096 : Shape := ⟨3, ![1, 11008, 4096]⟩
abbrev S11008x4096 : Shape := ⟨2, ![11008, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x11008, .f32⟩
  | .hbm, ⟨3, _⟩ => ⟨S2x4096x11008, .f32⟩
  | .hbm, ⟨4, _⟩ => ⟨S2x11008x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S1x4096x11008, .f32⟩
  | .hbm, ⟨24, _⟩ => ⟨S4096x11008, .f32⟩
  | .hbm, ⟨25, _⟩ => ⟨S4x2048x11008, .f32⟩
  | .hbm, ⟨26, _⟩ => ⟨S4x2048x11008, .f32⟩
  | .hbm, ⟨27, _⟩ => ⟨S4x2048x11008, .f32⟩
  | .hbm, ⟨28, _⟩ => ⟨S_, .f32⟩
  | .hbm, ⟨29, _⟩ => ⟨S4x2048x11008, .f32⟩
  | .hbm, ⟨30, _⟩ => ⟨S4x2048x11008, .f32⟩
  | .hbm, ⟨31, _⟩ => ⟨S_, .f32⟩
  | .hbm, ⟨32, _⟩ => ⟨S4x2048x11008, .f32⟩
  | .hbm, ⟨33, _⟩ => ⟨S4x2048x11008, .f32⟩
  | .hbm, ⟨34, _⟩ => ⟨S4x2048x11008, .f32⟩
  | .hbm, ⟨35, _⟩ => ⟨S1x4096x11008, .f32⟩
  | .hbm, ⟨36, _⟩ => ⟨S4096x11008, .f32⟩
  | .hbm, ⟨37, _⟩ => ⟨S4x2048x11008, .f32⟩
  | .hbm, ⟨38, _⟩ => ⟨S4x2048x11008, .f32⟩
  | .hbm, ⟨39, _⟩ => ⟨S8192x11008, .f32⟩
  | .hbm, ⟨40, _⟩ => ⟨S8192x11008, .bf16⟩
  | .hbm, ⟨41, _⟩ => ⟨S1x11008x4096, .f32⟩
  | .hbm, ⟨42, _⟩ => ⟨S11008x4096, .f32⟩
  | .hbm, ⟨43, _⟩ => ⟨S11008x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== DownKernel.lean ====
abbrev S4x2048x4096 : Shape := ⟨3, ![4, 2048, 4096]⟩
abbrev S4x2048x11008 : Shape := ⟨3, ![4, 2048, 11008]⟩
abbrev S2x11008x4096 : Shape := ⟨3, ![2, 11008, 4096]⟩
abbrev S8192x4096 : Shape := ⟨2, ![8192, 4096]⟩
abbrev S8192x11008 : Shape := ⟨2, ![8192, 11008]⟩
abbrev S1x11008x4096 : Shape := ⟨3, ![1, 11008, 4096]⟩
abbrev S11008x4096 : Shape := ⟨2, ![11008, 4096]⟩
abbrev S64x11008 : Shape := ⟨2, ![64, 11008]⟩
abbrev S11008x512 : Shape := ⟨2, ![11008, 512]⟩
abbrev S512x512 : Shape := ⟨2, ![512, 512]⟩
abbrev S2x512x11008 : Shape := ⟨3, ![2, 512, 11008]⟩
abbrev S1x64x11008 : Shape := ⟨3, ![1, 64, 11008]⟩
abbrev S1x512x11008 : Shape := ⟨3, ![1, 512, 11008]⟩
abbrev S512x11008 : Shape := ⟨2, ![512, 11008]⟩
abbrev S256x11008 : Shape := ⟨2, ![256, 11008]⟩
abbrev S256x512 : Shape := ⟨2, ![256, 512]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4x2048x11008, .f32⟩
  | .hbm, ⟨2, _⟩ => ⟨S2x11008x4096, .f32⟩
  | .hbm, ⟨3, _⟩ => ⟨S8192x4096, .f32⟩
  | .hbm, ⟨4, _⟩ => ⟨S8192x11008, .f32⟩
  | .hbm, ⟨5, _⟩ => ⟨S8192x11008, .bf16⟩
  | .hbm, ⟨6, _⟩ => ⟨S1x11008x4096, .f32⟩
  | .hbm, ⟨7, _⟩ => ⟨S11008x4096, .f32⟩
  | .hbm, ⟨8, _⟩ => ⟨S11008x4096, .bf16⟩
  | .hbm, ⟨9, _⟩ => ⟨S8192x4096, .f32⟩
  | .local _ .vmem, ⟨0, _⟩ => ⟨S64x11008, .bf16⟩
  | .local _ .vmem, ⟨1, _⟩ => ⟨S64x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512x11008, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c64_i32 : BitVec 32 := 64#32
  let v29 : BitVec 32 := Scalar.muli arg1 c64_i32
  v29
def k0_off1 (i : grid0.Coords) : Fin 3 → Nat :=
  let arg0 : BitVec 32 := BitVec.ofNat 32 (i 0).val
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let v31 : Index := Scalar.indexCast v28
  let arg1 : BitVec 32 := BitVec.ofNat 32 (i 1).val
  let c64_i32 : BitVec 32 := 64#32
  let v29 : BitVec 32 := Scalar.muli arg1 c64_i32
  let v30 : BitVec 32 := v29
  let v32 : Index := Scalar.indexCast v30
  let c0_14 : Index := 0#32
  ![v31.toNat, v32.toNat, 0]
def k0_cond2 (i : grid0.Coords) : BitVec 1 :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .ne v15 c0_i32_6
  v16

def k0_off2 (i : grid0.Coords) : Fin 3 → Nat :=
  let c1_i32_4 : BitVec 32 := 1#32
  let arg0 : BitVec 32 := BitVec.ofNat 32 (i 0).val
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi c1_i32_4 v12
  let c0_i32_7 : BitVec 32 := 0#32
  let c0_i32_8 : BitVec 32 := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c8_i32 : BitVec 32 := 8#32
  let v1 : BitVec 32 := Scalar.muli arg0 c8_i32
  let v2 : BitVec 32 := Scalar.addi v1 arg1
  let c127_i32 : BitVec 32 := 127#32
  let v3 : BitVec 32 := Scalar.select v0 v2 c127_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S64x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4x2048x4096 : Shape := ⟨3, ![4, 2048, 4096]⟩
abbrev S4x2048x11008 : Shape := ⟨3, ![4, 2048, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S_ : Shape := ⟨0, ![]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x11008, .f32⟩
  | .hbm, ⟨2, _⟩ => ⟨S2x11008x4096, .f32⟩
  | .hbm, ⟨3, _⟩ => ⟨S1x11008x4096, .f32⟩
  | .hbm, ⟨4, _⟩ => ⟨S11008x4096, .f32⟩
  | .hbm, ⟨5, _⟩ => ⟨S4x2048x4096, .f32⟩
  | .hbm, ⟨6, _⟩ => ⟨S_, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Fox.Math.lean ====
/- The arithmetic of a running softmax in base 2, over the extended reals: one row's state (the running maximum and the
   weighted sums) after a number of keys, one chunk's update of it, and the quotient that ends it. -/
module

public import Idealize.ShloMosaic.PureOps.Ideal

@[expose] public section

noncomputable section

namespace Cert.Fox

open Idealize.ShloMosaic

/-- `x` is a base-2 logit of weight `w`: a masked key (minus infinity, weight 0) or a real `r` of weight `2 ^ r`. -/
def IsLogit (x : EReal) (w : ℝ) : Prop := (x = ⊥ ∧ w = 0) ∨ ∃ r : ℝ, x = r ∧ w = (2 : ℝ) ^ r

/-- A logit less a real `M`, exponentiated: its weight times `2 ^ (-M)`. -/
theorem IsLogit.exp2_sub {x : EReal} {w : ℝ} (h : IsLogit x w) (M : ℝ) :
    Ideal.exp2 (x - (M : EReal)) = (((2 : ℝ) ^ (-M) * w : ℝ) : EReal) := by
  rcases h with ⟨rfl, rfl⟩ | ⟨r, rfl, rfl⟩
  · simp [Ideal.exp2_bot]
  · rw [← EReal.coe_sub, Ideal.exp2_coe]
    congr 1
    show (2 : ℝ) ^ (r - M) = _
    rw [← Real.rpow_add (by norm_num)]
    congr 1
    ring

/-- A logit is below plus infinity. -/
theorem IsLogit.ne_top {x : EReal} {w : ℝ} (h : IsLogit x w) : x ≠ ⊤ := by
  rcases h with ⟨rfl, -⟩ | ⟨r, rfl, -⟩
  · exact bot_ne_top
  · exact EReal.coe_ne_top r

/-- ONE ROW of the running softmax after the first `n` keys, whose weights are `w` and values `v`: nothing seen yet, or
    the maximum's lanes all hold one real `M`, and column `d` holds `2 ^ (-M)` times the weighted sum of the values. -/
def RowAt {L C : Type} (w : ℕ → ℝ) (v : ℕ → C → ℝ) (n : ℕ) (m : L → EReal) (a : C → EReal) : Prop :=
  (n = 0 ∧ (∀ l, m l = ⊥) ∧ ∀ d, a d = 0)
  ∨ ∃ M : ℝ, (∀ l, m l = M) ∧ ∀ d, a d = (((2 : ℝ) ^ (-M) * ∑ s ∈ Finset.range n, w s * v s d : ℝ) : EReal)

/-- The state before the first key. -/
theorem rowAt_zero {L C : Type} (w : ℕ → ℝ) (v : ℕ → C → ℝ) (m : L → EReal) (a : C → EReal)
    (hm : ∀ l, m l = ⊥) (ha : ∀ d, a d = 0) : RowAt w v 0 m a := .inl ⟨rfl, hm, ha⟩

/-- The sum of a coerced family is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- ONE CHUNK of `B` keys with logits `x`: the maximum rises to cover `mc`, an upper bound of the logits below plus
    infinity; the sums are rescaled and the chunk's weighted values added. -/
theorem RowAt.step {L C : Type} {w : ℕ → ℝ} {v : ℕ → C → ℝ} {n B : ℕ} {m : L → EReal} {a : C → EReal}
    (h : RowAt w v n m a) [Nonempty L] (x : Fin B → EReal) (hx : ∀ j, IsLogit (x j) (w (n + j))) (mc : EReal)
    (hle : ∀ j, x j ≤ mc) (hmc : mc ≠ ⊤) (hb : ∃ j, x j ≠ ⊥) (m' : L → EReal) (hm' : ∀ l, m' l = max (m l) mc)
    (a' : C → EReal) (l₁ : C → L) (l₂ : Fin B → L)
    (ha' : ∀ d, a' d = Ideal.exp2 (m (l₁ d) - m' (l₁ d)) * a d
      + ∑ j : Fin B, Ideal.exp2 (x j - m' (l₂ j)) * (v (n + j) d : EReal)) :
    RowAt w v (n + B) m' a' := by
  have hmcb : mc ≠ ⊥ := by
    obtain ⟨j, hj⟩ := hb
    intro hbot
    exact hj (le_bot_iff.mp (hbot ▸ hle j))
  obtain ⟨c, rfl⟩ : ∃ c : ℝ, mc = c := ⟨mc.toReal, (EReal.coe_toReal hmc hmcb).symm⟩
  have hsum : ∀ (M : ℝ), (∀ l, m' l = (M : EReal)) → ∀ d,
      ∑ j : Fin B, Ideal.exp2 (x j - m' (l₂ j)) * (v (n + j) d : EReal)
        = (((2 : ℝ) ^ (-M) * ∑ j : Fin B, w (n + j) * v (n + j) d : ℝ) : EReal) := by
    intro M hM d
    rw [Finset.mul_sum, ← coe_sum]
    refine Finset.sum_congr rfl fun j _ => ?_
    rw [hM, (hx j).exp2_sub, ← EReal.coe_mul, mul_assoc]
  have hrange : ∀ d, ∑ s ∈ Finset.range (n + B), w s * v s d
      = ∑ s ∈ Finset.range n, w s * v s d + ∑ j : Fin B, w (n + j) * v (n + j) d := by
    intro d
    rw [Finset.sum_range_add, Finset.sum_range (fun j => w (n + j) * v (n + j) d)]
  rcases h with ⟨rfl, hm, ha⟩ | ⟨M, hm, ha⟩
  · have hM : ∀ l, m' l = (c : EReal) := fun l => by rw [hm', hm, max_eq_right bot_le]
    refine .inr ⟨c, hM, fun d => ?_⟩
    rw [ha', hsum c hM, ha, mul_zero, zero_add, hrange]
    simp
  · have hM : ∀ l, m' l = ((max M c : ℝ) : EReal) := fun l => by
      rw [hm', hm]
      exact (EReal.coe_strictMono.monotone.map_max (a := M) (b := c)).symm
    refine .inr ⟨max M c, hM, fun d => ?_⟩
    rw [ha', hsum _ hM, ha, hm, hM, hrange, ← EReal.coe_sub, Ideal.exp2_coe, ← EReal.coe_mul, ← EReal.coe_add]
    congr 1
    show (2 : ℝ) ^ (M - max M c) * _ + _ = _
    rw [mul_add, ← mul_assoc, ← Real.rpow_add (by norm_num)]
    congr 3
    ring

/-- The quotient that ends a row: a column of values over a column of ones is the weighted mean. -/
theorem RowAt.quotient {L C : Type} {w : ℕ → ℝ} {v : ℕ → C → ℝ} {n : ℕ} {m : L → EReal} {a : C → EReal}
    (h : RowAt w v n m a) (hn : n ≠ 0) (d e : C) (he : ∀ s, v s e = 1) (hw : ∑ s ∈ Finset.range n, w s ≠ 0) :
    Ideal.div (a d) (a e)
      = (((∑ s ∈ Finset.range n, w s * v s d) / ∑ s ∈ Finset.range n, w s : ℝ) : EReal) := by
  rcases h with ⟨rfl, -⟩ | ⟨M, -, ha⟩
  · exact absurd rfl hn
  · rw [ha, ha]
    simp only [he, mul_one]
    have h2 : (2 : ℝ) ^ (-M) ≠ 0 := (Real.rpow_pos_of_pos (by norm_num) _).ne'
    rw [Ideal.div_coe (mul_ne_zero h2 hw), ← EReal.coe_mul]
    congr 1
    field_simp

end Cert.Fox

end
-- ==== Proof.Fox.Tile.lean ====
module

public import proofs.«01_k».proof.Proof.Gen.KernelIdeal.Skeleton
public import proofs.«01_k».proof.Proof.Fox.Math
public import Idealize.ShloMosaic.Lib.Pointwise

@[expose] public section

noncomputable section

namespace Cert.Fox

open Idealize.ShloMosaic Cert.KernelIdeal Cert.KernelIdeal.Gen Idealize.ShloMosaic.Pointwise

/-- The scores of 128 queries against 512 keys, less the keys' bias. -/
def scores (q : FVec Ideal S128x128 .bf16) (k : FVec Ideal S512x128 .bf16) (ck : FVec Ideal S1x512 .f32) : FVec Ideal S128x512 .f32 :=
  subf (matmul dot_S128x128_S512x128_S128x512_1_1_0_0_n_n none q k (constant S128x512 .f32 0x00000000#32))
    (broadcastTo S128x512 ck broadcasts_S1x512_S128x512)

/-- The values beside 128 columns of ones. -/
def withOnes (v : FVec Ideal S512x128 .bf16) : FVec Ideal S512x256 .bf16 :=
  concatenate S512x256 1 [⟨S512x128, v⟩, ⟨S512x128, broadcast S512x128 (Scalar.ofBits .bf16 0x3F80#16)⟩]
    concatenates_S512x128_S512x128_S512x256_d1

def lanes0 (s : FVec Ideal S128x512 .f32) : FVec Ideal S128x128 .f32 := extractStridedSlice S128x128 ![0, 0] s slices_S128x512_o0_0_S128x128
def lanes1 (s : FVec Ideal S128x512 .f32) : FVec Ideal S128x128 .f32 := extractStridedSlice S128x128 ![0, 128] s slices_S128x512_o0_128_S128x128
def lanes2 (s : FVec Ideal S128x512 .f32) : FVec Ideal S128x128 .f32 := extractStridedSlice S128x128 ![0, 256] s slices_S128x512_o0_256_S128x128
def lanes3 (s : FVec Ideal S128x512 .f32) : FVec Ideal S128x128 .f32 := extractStridedSlice S128x128 ![0, 384] s slices_S128x512_o0_384_S128x128

/-- The largest of the four chunks, lane by lane. -/
def lanesMax (s : FVec Ideal S128x512 .f32) : FVec Ideal S128x128 .f32 :=
  maximumf (maximumf (maximumf (lanes0 s) (lanes1 s)) (lanes2 s)) (lanes3 s)

/-- The largest score of each row. -/
def rowMax (s : FVec Ideal S128x512 .f32) : FVec Ideal S128 .f32 :=
  multiReduction .maximumf [1] S128 (lanesMax s) 0xFF800000#32 reduces_S128x128_S128 (.inl rfl) rfl

/-- The new running maximum. -/
def mNew (s : FVec Ideal S128x512 .f32) (mp : FVec Ideal S128x128 .f32) : FVec Ideal S128x128 .f32 :=
  maximumf mp (broadcastTo S128x128 (shapeCast S128x1 (rowMax s) shapeCasts_S128_S128x1) broadcasts_S128x1_S128x128)

/-- The new weighted sums. -/
def aNew (s : FVec Ideal S128x512 .f32) (v : FVec Ideal S512x256 .bf16) (mp : FVec Ideal S128x128 .f32) (ap : FVec Ideal S128x256 .f32) :
    FVec Ideal S128x256 .f32 :=
  addf (mulf (concatenate S128x256 1 [⟨S128x128, exp2 (subf mp (mNew s mp))⟩, ⟨S128x128, exp2 (subf mp (mNew s mp))⟩]
        concatenates_S128x128_S128x128_S128x256_d1) ap)
    (matmul dot_S128x512_S512x256_S128x256_1_0_0_1_n_n none
      (truncf .bf16 (concatenate S128x512 1 [⟨S128x128, exp2 (subf (lanes0 s) (mNew s mp))⟩, ⟨S128x128, exp2 (subf (lanes1 s) (mNew s mp))⟩,
          ⟨S128x128, exp2 (subf (lanes2 s) (mNew s mp))⟩, ⟨S128x128, exp2 (subf (lanes3 s) (mNew s mp))⟩]
        concatenates_S128x128_S128x128_S128x128_S128x128_S128x512_d1) bitsLt_bf16_f32)
      v (constant S128x256 .f32 0x00000000#32))

theorem scores_apply (q : FVec Ideal S128x128 .bf16) (k : FVec Ideal S512x128 .bf16) (ck : FVec Ideal S1x512 .f32) (a : Fin 128) (j : Fin 512) :
    scores q k ck (ix2 a j) = ∑ d : Fin 128, q (ix2 a d) * k (ix2 j d) - ck (ix2 0 j) := by
  pointwise [scores]

theorem withOnes_apply (v : FVec Ideal S512x128 .bf16) (j : Fin 512) (d : Fin 256) :
    withOnes v (ix2 j d) = if h : d.val < 128 then v (ix2 j ⟨d.val, h⟩) else 1 := by
  pointwise [withOnes]

theorem mNew_apply (s : FVec Ideal S128x512 .f32) (mp : FVec Ideal S128x128 .f32) (a b : Fin 128) :
    mNew s mp (ix2 a b) = max (mp (ix2 a b)) (rowMax s (ix1 a)) := by
  pointwise [mNew]

/-- The lane of 128 an index falls on. -/
def lane {n : ℕ} (d : Fin n) : Fin 128 := ⟨d.val % 128, Nat.mod_lt _ (by norm_num)⟩

theorem rowMax_apply (s : FVec Ideal S128x512 .f32) (a : Fin 128) :
    rowMax s (ix1 a) = Finset.univ.fold max (⊥ : EReal) fun x : Fin 128 =>
      max (max (max (s (ix2 a ⟨x.val, by omega⟩)) (s (ix2 a ⟨128 + x.val, by omega⟩))) (s (ix2 a ⟨256 + x.val, by omega⟩)))
        (s (ix2 a ⟨384 + x.val, by omega⟩)) := by
  pointwise [rowMax, lanesMax, lanes0, lanes1, lanes2, lanes3]
  congr 1

/-- Every score is at most the row's largest. -/
theorem le_rowMax (s : FVec Ideal S128x512 .f32) (a : Fin 128) (j : Fin 512) : s (ix2 a j) ≤ rowMax s (ix1 a) := by
  rw [rowMax_apply, Finset.le_fold_max]
  refine .inr ⟨lane j, Finset.mem_univ _, ?_⟩
  have hj : j.val = 128 * (j.val / 128) + j.val % 128 := (Nat.div_add_mod _ _).symm
  have h4 : j.val / 128 < 4 := by omega
  simp only [le_max_iff]
  interval_cases h : j.val / 128
  · exact .inl (.inl (.inl (le_of_eq (congrArg (fun i => s (ix2 a i)) (Fin.ext (by simpa [lane] using hj))))))
  · exact .inl (.inl (.inr (le_of_eq (congrArg (fun i => s (ix2 a i)) (Fin.ext (by simpa [lane] using hj))))))
  · exact .inl (.inr (le_of_eq (congrArg (fun i => s (ix2 a i)) (Fin.ext (by simpa [lane] using hj)))))
  · exact .inr (le_of_eq (congrArg (fun i => s (ix2 a i)) (Fin.ext (by simpa [lane] using hj))))

/-- The row's largest score is below plus infinity where every score is. -/
theorem rowMax_ne_top (s : FVec Ideal S128x512 .f32) (a : Fin 128) (h : ∀ j, s (ix2 a j) ≠ ⊤) : rowMax s (ix1 a) ≠ ⊤ := by
  rw [rowMax_apply]
  refine ne_of_lt ?_
  rw [Finset.fold_max_lt]
  exact ⟨bot_lt_top, fun x _ => max_lt (max_lt (max_lt (lt_top_iff_ne_top.mpr (h _)) (lt_top_iff_ne_top.mpr (h _)))
    (lt_top_iff_ne_top.mpr (h _))) (lt_top_iff_ne_top.mpr (h _))⟩

theorem aNew_apply (s : FVec Ideal S128x512 .f32) (v : FVec Ideal S512x256 .bf16) (mp : FVec Ideal S128x128 .f32) (ap : FVec Ideal S128x256 .f32)
    (a : Fin 128) (d : Fin 256) :
    aNew s v mp ap (ix2 a d)
      = Ideal.exp2 (mp (ix2 a (lane d)) - mNew s mp (ix2 a (lane d))) * ap (ix2 a d)
        + ∑ j : Fin 512, Ideal.exp2 (s (ix2 a j) - mNew s mp (ix2 a (lane j))) * v (ix2 j d) := by
  pointwise [aNew, lanes0, lanes1, lanes2, lanes3]
  refine congrArg₂ (· + ·) (congrArg₂ (· * ·) ?_ rfl) (Finset.sum_congr rfl fun j _ => congrArg₂ (· * ·) ?_ rfl)
  · have key : ∀ l : Fin 128, l = lane d →
        Ideal.exp2 (mp (ix2 a l) - mNew s mp (ix2 a l)) = Ideal.exp2 (mp (ix2 a (lane d)) - mNew s mp (ix2 a (lane d))) := by
      rintro _ rfl; rfl
    by_cases h : d.val < 128
    · exact (dif_pos h).trans (key _ (Fin.ext (by simp only [lane]; omega)))
    · exact (dif_neg h).trans (key _ (Fin.ext (by simp only [lane]; omega)))
  · have key : ∀ (x : Fin 512) (l : Fin 128), x = j → l = lane j →
        Ideal.exp2 (s (ix2 a x) - mNew s mp (ix2 a l)) = Ideal.exp2 (s (ix2 a j) - mNew s mp (ix2 a (lane j))) := by
      rintro _ _ rfl rfl; rfl
    by_cases h1 : j.val < 128
    · exact (dif_pos h1).trans (key _ _ rfl (Fin.ext (by simp only [lane]; omega)))
    refine (dif_neg h1).trans ?_
    by_cases h2 : j.val - 128 < 128
    · exact (dif_pos h2).trans (key _ _ (Fin.ext (show 128 + (j.val - 128) = j.val by omega)) (Fin.ext (by simp only [lane]; omega)))
    refine (dif_neg h2).trans ?_
    by_cases h3 : j.val - 128 - 128 < 128
    · exact (dif_pos h3).trans (key _ _ (Fin.ext (show 256 + (j.val - 128 - 128) = j.val by omega)) (Fin.ext (by simp only [lane]; omega)))
    · exact (dif_neg h3).trans (key _ _ (Fin.ext (show 384 + (j.val - 128 - 128 - 128) = j.val by omega)) (Fin.ext (by simp only [lane]; omega)))

/-- ONE ROW OF A TILE: the update takes the row's state after `n` keys to its state after `n + 512`. -/
theorem tile_row (s : FVec Ideal S128x512 .f32) (v : FVec Ideal S512x256 .bf16) (mp : FVec Ideal S128x128 .f32) (ap : FVec Ideal S128x256 .f32)
    (w : ℕ → ℝ) (val : ℕ → Fin 256 → ℝ) (n : ℕ) (a : Fin 128)
    (h : RowAt w val n (fun l : Fin 128 => mp (ix2 a l)) (fun d : Fin 256 => ap (ix2 a d)))
    (hs : ∀ j : Fin 512, IsLogit (s (ix2 a j)) (w (n + j))) (hb : ∃ j, s (ix2 a j) ≠ ⊥)
    (hv : ∀ (j : Fin 512) (d : Fin 256), v (ix2 j d) = (val (n + j) d : EReal)) :
    RowAt w val (n + 512) (fun l : Fin 128 => mNew s mp (ix2 a l)) (fun d : Fin 256 => aNew s v mp ap (ix2 a d)) :=
  h.step (fun j => s (ix2 a j)) hs (rowMax s (ix1 a)) (le_rowMax s a) (rowMax_ne_top s a fun j => (hs j).ne_top) hb _
    (fun l => mNew_apply s mp a l) _ lane lane (fun d => by
      simp only [aNew_apply, hv])

end Cert.Fox

end
-- ==== Proof.Fox.Pieces.lean ====
module

public import proofs.«01_k».proof.Proof.Gen.KernelIdeal.Loops
public import proofs.«01_k».proof.Proof.Fox.Tile

@[expose] public section

noncomputable section

namespace Cert.Fox

open Idealize.ShloMosaic Cert.KernelIdeal Cert.KernelIdeal.Gen Idealize.ShloMosaic.Pointwise

theorem inb_head {n : ℕ} (hd : ℕ) (h : hd < 4) :
    ∀ a, (![hd, 0, 0] : Fin 3 → ℕ) a + (![1, 512, n] : Fin 3 → ℕ) a ≤ (⟨3, ![4, 512, n]⟩ : Shape).size a := by
  intro a; fin_cases a <;> simp <;> omega

theorem inb_rows {n : ℕ} (r : ℕ) (h : r < 4) :
    ∀ a, (![128 * r, 0] : Fin 2 → ℕ) a + (![128, n] : Fin 2 → ℕ) a ≤ (⟨2, ![512, n]⟩ : Shape).size a := by
  intro a; fin_cases a <;> simp <;> omega

/-- The rows `128 r …` of head `hd`'s page of a scratch of `n` lanes. -/
def tileRect (n hd r : ℕ) (h : hd < 4) (hr : r < 4) : Rect ⟨3, ![4, 512, n]⟩ :=
  (Rect.unit ![hd, 0, 0] ![1, 512, n] (inb_head hd h)).within
    ((Rect.unit (s := ⟨2, ![512, n]⟩) ![128 * r, 0] ![128, n] (inb_rows r hr)).consLift ![1, 512, n] rfl (fun i => by fin_cases i <;> rfl))
    (fun _ => rfl)

theorem numel_tile (n hd r : ℕ) (h : hd < 4) (hr : r < 4) :
    (tileRect n hd r h hr).shape.numel = (⟨2, ![128, n]⟩ : Shape).numel :=
  Rect.numel_consLift (Rect.unit (s := ⟨2, ![512, n]⟩) ![128 * r, 0] ![128, n] (inb_rows r hr)) ![1, 512, n] rfl (fun i => by fin_cases i <;> rfl)

/-- The same rows as a box to load from. -/
def tileBox (n hd r : ℕ) (h : hd < 4) (hr : r < 4) : LoadRect ⟨3, ![4, 512, n]⟩ :=
  (Rect.unit ![hd, 0, 0] ![1, 512, n] (inb_head hd h)).withinL
    ((Rect.unit (s := ⟨2, ![512, n]⟩) ![128 * r, 0] ![128, n] (inb_rows r hr)).consLift ![1, 512, n] rfl (fun i => by fin_cases i <;> rfl)).toLoadRect
    (fun _ => rfl)

/-- What the tile's load finds in contents `f`. -/
def tileLoad (n : ℕ) (v : View sig .tc .vmem ⟨3, ![4, 512, n]⟩ .f32) (f : v.ty.Contents (Elt Ideal)) (hd r : ℕ) (h : hd < 4) (hr : r < 4) :
    FVec Ideal ⟨2, ![128, n]⟩ .f32 :=
  LoadRect.valAlong (LR := tileBox n hd r h hr)
    (lr := (Rect.unit (s := ⟨2, ![512, n]⟩) ![128 * r, 0] ![128, n] (inb_rows r hr)).toLoadRect) (numel_tile n hd r h hr).symm
    (v.readAt (Elt Ideal) (tileBox n hd r h hr) f)

theorem slices_tile (hd r : ℕ) (h : hd < 4) (hr : r < 4) : S512x512.Slices ![128 * r, 128 * hd] S128x128 := by
  interval_cases hd <;> interval_cases r <;> decide

/-- The tile's queries. -/
def tileQ (q : FVec Ideal S512x512 .bf16) (hd r : ℕ) (h : hd < 4) (hr : r < 4) : FVec Ideal S128x128 .bf16 :=
  extractStridedSlice S128x128 ![128 * r, 128 * hd] q (slices_tile hd r h hr)

/-- The two stores of one tile: the running maximum's and the sums'. -/
def piece8 (s : FVec Ideal S128x512 .f32) (mp : FVec Ideal S128x128 .f32)
    (hd r : ℕ) (h : hd < 4) (hr : r < 4) : View.Piece (Elt Ideal) S4x512x128 .f32 :=
  ⟨tileRect 128 hd r h hr, Rect.payAlong (r := Rect.unit (s := ⟨2, ![512, 128]⟩) ![128 * r, 0] ![128, 128] (inb_rows r hr))
    (R := tileRect 128 hd r h hr) (numel_tile 128 hd r h hr)
    (shapeCast S128x128 (mNew s mp) shapeCasts_S128x128_S128x128)⟩

def piece9 (s : FVec Ideal S128x512 .f32) (v : FVec Ideal S512x256 .bf16) (mp : FVec Ideal S128x128 .f32) (ap : FVec Ideal S128x256 .f32)
    (hd r : ℕ) (h : hd < 4) (hr : r < 4) : View.Piece (Elt Ideal) S4x512x256 .f32 :=
  ⟨tileRect 256 hd r h hr, Rect.payAlong (r := Rect.unit (s := ⟨2, ![512, 256]⟩) ![128 * r, 0] ![128, 256] (inb_rows r hr))
    (R := tileRect 256 hd r h hr) (numel_tile 256 hd r h hr)
    (shapeCast S128x256 (aNew s v mp ap) shapeCasts_S128x256_S128x256)⟩

/-- A block of keys or values, and of the keys' bias, loaded at an offset. -/
def rowsAt (arg : Memref sig .tc .vmem S2048x512 .bf16) (X : BufTy.Contents (Elt Ideal) arg.view.ty) (off : Fin 2 → ℕ)
    (inb : ∀ a, off a + S512x128.size a ≤ S2048x512.size a) : FVec Ideal S512x128 .bf16 :=
  shapeCast S512x128 (arg.view.readAt (Elt Ideal) (Rect.unit (s := S2048x512) off S512x128.size inb).toLoadRect X) shapeCasts_S512x128_S512x128

def biasAt (arg : Memref sig .tc .vmem S1x4x1x2048 .f32) (X : BufTy.Contents (Elt Ideal) arg.view.ty) (off : Fin 4 → ℕ)
    (inb : ∀ a, off a + S1x1x1x512.size a ≤ S1x4x1x2048.size a) : FVec Ideal S1x512 .f32 :=
  shapeCast S1x512 (arg.view.readAt (Elt Ideal) (Rect.unit (s := S1x4x1x2048) off S1x1x1x512.size inb).toLoadRect X) shapeCasts_S1x1x1x512_S1x512

section trip
variable (arg4 : Memref sig .tc .vmem S2048x512 .bf16) (arg5 : Memref sig .tc .vmem S2048x512 .bf16) (arg6 : Memref sig .tc .vmem S1x4x1x2048 .f32)
  (X4 : BufTy.Contents (Elt Ideal) arg4.view.ty) (X5 : BufTy.Contents (Elt Ideal) arg5.view.ty) (X6 : BufTy.Contents (Elt Ideal) arg6.view.ty)
  (i : grid0.Coords) (k : Fin (k0_t1_loop i).trips)

def tripK : Fin 4 → FVec Ideal S512x128 .bf16 :=
  ![rowsAt arg4 X4 (k0_off1 i k) (k0_off1_inb i k), rowsAt arg4 X4 (k0_off3 i k) (k0_off3_inb i k),
    rowsAt arg4 X4 (k0_off5 i k) (k0_off5_inb i k), rowsAt arg4 X4 (k0_off7 i k) (k0_off7_inb i k)]
def tripV : Fin 4 → FVec Ideal S512x128 .bf16 :=
  ![rowsAt arg5 X5 (k0_off1 i k) (k0_off1_inb i k), rowsAt arg5 X5 (k0_off3 i k) (k0_off3_inb i k),
    rowsAt arg5 X5 (k0_off5 i k) (k0_off5_inb i k), rowsAt arg5 X5 (k0_off7 i k) (k0_off7_inb i k)]
def tripC : Fin 4 → FVec Ideal S1x512 .f32 :=
  ![biasAt arg6 X6 (k0_off2 i k) (k0_off2_inb i k), biasAt arg6 X6 (k0_off4 i k) (k0_off4_inb i k),
    biasAt arg6 X6 (k0_off6 i k) (k0_off6_inb i k), biasAt arg6 X6 (k0_off8 i k) (k0_off8_inb i k)]
end trip

/-- The stores of one pass over the 16 tiles (4 heads of 4 row blocks), the first `n` of them, latest first: every tile
    finds its page as the pass found it. -/
def pass8 (arg8 : Memref sig .tc .vmem S4x512x128 .f32) (s : Fin 4 → Fin 4 → FVec Ideal S128x512 .f32)
    (f8 : BufTy.Contents (Elt Ideal) arg8.view.ty) : (n : ℕ) → n ≤ 16 → List (View.Piece (Elt Ideal) S4x512x128 .f32)
  | 0, _ => []
  | n + 1, hn => piece8 (s ⟨n / 4, by omega⟩ ⟨n % 4, by omega⟩) (tileLoad 128 arg8.view f8 (n / 4) (n % 4) (by omega) (by omega))
      (n / 4) (n % 4) (by omega) (by omega) :: pass8 arg8 s f8 n (by omega)

def pass9 (arg8 : Memref sig .tc .vmem S4x512x128 .f32) (arg9 : Memref sig .tc .vmem S4x512x256 .f32)
    (s : Fin 4 → Fin 4 → FVec Ideal S128x512 .f32) (v : Fin 4 → FVec Ideal S512x256 .bf16)
    (f8 : BufTy.Contents (Elt Ideal) arg8.view.ty) (f9 : BufTy.Contents (Elt Ideal) arg9.view.ty) :
    (n : ℕ) → n ≤ 16 → List (View.Piece (Elt Ideal) S4x512x256 .f32)
  | 0, _ => []
  | n + 1, hn => piece9 (s ⟨n / 4, by omega⟩ ⟨n % 4, by omega⟩) (v ⟨n / 4, by omega⟩)
      (tileLoad 128 arg8.view f8 (n / 4) (n % 4) (by omega) (by omega)) (tileLoad 256 arg9.view f9 (n / 4) (n % 4) (by omega) (by omega))
      (n / 4) (n % 4) (by omega) (by omega) :: pass9 arg8 arg9 s v f8 f9 n (by omega)

/-- The stores of one trip of the loop, the maxima's: a pass over the 16 tiles. -/
theorem trip8 (𝒱 : Variants) (c : Dev nD) (bd : Option 𝒱.V) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x4x1x2048 .f32) (harg6 : arg6.IsWhole) (arg7) (harg7) (arg8) (harg8) (arg9) (harg9) (v0 X4 X5 X6 k f8 f9) :
    (trip_k0_t1 (F := Ideal) 𝒱 c bd i arg3 harg3 arg4 harg4 arg5 harg5 arg6 harg6 arg7 harg7 arg8 harg8 arg9 harg9 v0 X4 X5 X6 k).1 f8 f9
      = pass8 arg8 (fun hd r => scores (tileQ (k0_pay312 v0) hd r hd.2 r.2) (tripK arg4 X4 i k hd) (tripC arg6 X6 i k hd)) f8 16 le_rfl := by
  unfold trip_k0_t1
  dsimp only
  simp only [pass8]
  repeat' refine congrArg₂ List.cons ?_ ?_
  all_goals rfl

-- (the sixteen stores unfold together)
set_option maxHeartbeats 2000000 in
/-- The same of the sums' stores. -/
theorem trip9 (𝒱 : Variants) (c : Dev nD) (bd : Option 𝒱.V) (i : grid0.Coords) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x4x1x2048 .f32) (harg6 : arg6.IsWhole) (arg7) (harg7) (arg8) (harg8) (arg9) (harg9) (v0 X4 X5 X6 k f8 f9) :
    (trip_k0_t1 (F := Ideal) 𝒱 c bd i arg3 harg3 arg4 harg4 arg5 harg5 arg6 harg6 arg7 harg7 arg8 harg8 arg9 harg9 v0 X4 X5 X6 k).2.1 f8 f9
      = pass9 arg8 arg9 (fun hd r => scores (tileQ (k0_pay312 v0) hd r hd.2 r.2) (tripK arg4 X4 i k hd) (tripC arg6 X6 i k hd))
          (fun hd => withOnes (tripV arg5 X5 i k hd)) f8 f9 16 le_rfl := by
  unfold trip_k0_t1
  dsimp only
  simp only [pass9]
  repeat' refine congrArg₂ List.cons ?_ ?_
  all_goals rfl

end Cert.Fox

end
-- ==== Proof.Fox.Pass.lean ====
/- One pass over the 16 tiles, read back: what a tile's store leaves, that the other tiles miss it, and the running softmax of
   every row carried through the pass. -/
module

public import proofs.«01_k».proof.Proof.Fox.Pieces

@[expose] public section

noncomputable section

namespace Cert.Fox

open Idealize.ShloMosaic Cert.KernelIdeal Cert.KernelIdeal.Gen Idealize.ShloMosaic.Pointwise

/-- Row `a` of block `r` of a page. -/
def row (r : Fin 4) (a : Fin 128) : Fin 512 := ⟨128 * r + a, by omega⟩

theorem tileRect_emb {n : ℕ} (hd r : ℕ) (h : hd < 4) (hr : r < 4) (a : Fin 128) (l : Fin n) (z : (tileRect n hd r h hr).shape.Idx)
    (h1 : (z 1).val = a) (h2 : (z 2).val = l) :
    (tileRect n hd r h hr).emb z = ix3 ⟨hd, h⟩ (row ⟨r, hr⟩ a) l := by
  apply Rect.emb_eq_of_coords
  intro i
  fin_cases i
  · have : (z 0).val < 1 := (z 0).isLt
    show hd = hd + 0 + 1 * (z 0).val
    omega
  · show 128 * r + a = 0 + 128 * r + 1 * (z 1).val
    omega
  · show l.val = 0 + 0 + 1 * (z 2).val
    omega

theorem not_mem_tileRect {n : ℕ} (hd r : ℕ) (h : hd < 4) (hr : r < 4) (hd' r' : Fin 4) (a : Fin 128) (l : Fin n)
    (hne : 4 * hd + r ≠ 4 * hd'.val + r'.val) : (ix3 hd' (row r' a) l : (⟨3, ![4, 512, n]⟩ : Shape).Idx) ∉ (tileRect n hd r h hr).set := by
  by_cases hh : hd = hd'.val
  · refine Rect.not_mem_set_of_axis _ _ 1 (128 * r) 128 ?_ rfl rfl ?_
    · show 0 + 128 * r = 128 * r
      omega
    · show 128 * r'.val + a.val < 128 * r ∨ 128 * r + 128 ≤ 128 * r'.val + a.val
      omega
  · refine Rect.not_mem_set_of_axis _ _ 0 hd 1 ?_ rfl rfl ?_
    · show hd + 0 = hd
      omega
    · show hd'.val < hd ∨ hd + 1 ≤ hd'.val
      omega

/-- A tile's load, at an index. -/
theorem tileLoad_apply {n : ℕ} (v : View sig .tc .vmem ⟨3, ![4, 512, n]⟩ .f32) (f : v.ty.Contents (Elt Ideal)) (hd r : Fin 4)
    (a : Fin 128) (l : Fin n) :
    tileLoad n v f hd r hd.2 r.2 (ix2 a l) = v.read (Elt Ideal) f (ix3 hd (row r a) l) := by
  show v.readAt (Elt Ideal) (tileBox n hd r hd.2 r.2) f _ = _
  rw [View.readAt_apply]
  refine congrArg _ ?_
  set x := Shape.reshapeEquiv (numel_tile n hd r hd.2 r.2).symm (ix2 a l) with hx
  have hz := fun i => (Rect.unit (s := ⟨2, ![512, n]⟩) ![128 * r.val, 0] ![128, n] (inb_rows r.val r.2)).reshapeEquiv_consLift_succ ![1, 512, n] rfl
    (fun i => by fin_cases i <;> rfl) x i
  have hb : Shape.reshapeEquiv (numel_tile n hd r hd.2 r.2) x = ix2 a l := by
    rw [hx, Shape.reshapeEquiv_reshapeEquiv]
    exact Shape.reshapeEquiv_self (s := ⟨2, ![128, n]⟩) rfl (ix2 a l)
  refine tileRect_emb hd r hd.2 r.2 a l x ?_ ?_
  · exact (hz 0).trans (congrArg (fun y => (y 0).val) hb)
  · exact (hz 1).trans (congrArg (fun y => (y 1).val) hb)

/-- A tile's store, read at one of its own places. -/
theorem read_piece_hit {n : ℕ} (v : View sig .tc .vmem ⟨3, ![4, 512, n]⟩ .f32) (f : v.ty.Contents (Elt Ideal))
    (L : List (View.Piece (Elt Ideal) ⟨3, ![4, 512, n]⟩ .f32)) (hd r : Fin 4) (a : Fin 128) (l : Fin n)
    (w : FVec Ideal ⟨2, ![128, n]⟩ .f32) :
    v.read (Elt Ideal) (v.writes (Elt Ideal) f (⟨tileRect n hd r hd.2 r.2,
        Rect.payAlong (r := Rect.unit (s := ⟨2, ![512, n]⟩) ![128 * r.val, 0] ![128, n] (inb_rows r r.2)) (R := tileRect n hd r hd.2 r.2)
          (numel_tile n hd r hd.2 r.2) w⟩ :: L)) (ix3 hd (row r a) l) = w (ix2 a l) := by
  refine (View.read_writes_cons_hit v f (tileRect n hd r hd.2 r.2) _ L (ix3 (0 : Fin 1) a l) _ (tileRect_emb hd r hd.2 r.2 a l _ rfl rfl)).trans ?_
  exact Rect.payAlong_consLift (Rect.unit (s := ⟨2, ![512, n]⟩) ![128 * r.val, 0] ![128, n] (inb_rows r r.2)) ![1, 512, n] rfl
    (fun i => by fin_cases i <;> rfl) w _ _ (ix2 a l) (fun i => by fin_cases i <;> rfl)

/-- A tile's store, read at a place of another tile. -/
theorem read_piece_miss {n : ℕ} (v : View sig .tc .vmem ⟨3, ![4, 512, n]⟩ .f32) (f : v.ty.Contents (Elt Ideal))
    (L : List (View.Piece (Elt Ideal) ⟨3, ![4, 512, n]⟩ .f32)) (hd' r' : ℕ) (h : hd' < 4) (hr : r' < 4) (hd r : Fin 4) (a : Fin 128) (l : Fin n)
    (w : (tileRect n hd' r' h hr).shape.Idx → Elt Ideal .f32) (hne : 4 * hd' + r' ≠ 4 * hd.val + r.val) :
    v.read (Elt Ideal) (v.writes (Elt Ideal) f (⟨tileRect n hd' r' h hr, w⟩ :: L)) (ix3 hd (row r a) l)
      = v.read (Elt Ideal) (v.writes (Elt Ideal) f L) (ix3 hd (row r a) l) :=
  View.read_writes_cons_miss v f ⟨tileRect n hd' r' h hr, w⟩ L _ (not_mem_tileRect hd' r' h hr hd r a l hne)

section pass
variable (arg8 : Memref sig .tc .vmem S4x512x128 .f32) (arg9 : Memref sig .tc .vmem S4x512x256 .f32)
  (s : Fin 4 → Fin 4 → FVec Ideal S128x512 .f32) (v : Fin 4 → FVec Ideal S512x256 .bf16)
  (f8 g8 : BufTy.Contents (Elt Ideal) arg8.view.ty) (f9 g9 : BufTy.Contents (Elt Ideal) arg9.view.ty)

theorem pass8_succ (n : ℕ) (hn : n + 1 ≤ 16) : pass8 arg8 s f8 (n + 1) hn
    = piece8 (s ⟨n / 4, by omega⟩ ⟨n % 4, by omega⟩) (tileLoad 128 arg8.view f8 (n / 4) (n % 4) (by omega) (by omega))
      (n / 4) (n % 4) (by omega) (by omega) :: pass8 arg8 s f8 n (by omega) := rfl

theorem pass9_succ (n : ℕ) (hn : n + 1 ≤ 16) : pass9 arg8 arg9 s v f8 f9 (n + 1) hn
    = piece9 (s ⟨n / 4, by omega⟩ ⟨n % 4, by omega⟩) (v ⟨n / 4, by omega⟩)
      (tileLoad 128 arg8.view f8 (n / 4) (n % 4) (by omega) (by omega)) (tileLoad 256 arg9.view f9 (n / 4) (n % 4) (by omega) (by omega))
      (n / 4) (n % 4) (by omega) (by omega) :: pass9 arg8 arg9 s v f8 f9 n (by omega) := rfl

theorem read_pass8_miss (n : ℕ) (hn : n ≤ 16) (hd r : Fin 4) (a : Fin 128) (l : Fin 128) (h : n ≤ 4 * hd.val + r.val) :
    arg8.view.read (Elt Ideal) (arg8.view.writes (Elt Ideal) g8 (pass8 arg8 s f8 n hn)) (ix3 hd (row r a) l)
      = arg8.view.read (Elt Ideal) g8 (ix3 hd (row r a) l) := by
  induction n with
  | zero => rfl
  | succ n ih =>
    rw [pass8_succ]
    exact (read_piece_miss _ _ _ (n / 4) (n % 4) _ _ hd r a l _ (by omega)).trans (ih _ (by omega))

theorem read_pass9_miss (n : ℕ) (hn : n ≤ 16) (hd r : Fin 4) (a : Fin 128) (l : Fin 256) (h : n ≤ 4 * hd.val + r.val) :
    arg9.view.read (Elt Ideal) (arg9.view.writes (Elt Ideal) g9 (pass9 arg8 arg9 s v f8 f9 n hn)) (ix3 hd (row r a) l)
      = arg9.view.read (Elt Ideal) g9 (ix3 hd (row r a) l) := by
  induction n with
  | zero => rfl
  | succ n ih =>
    rw [pass9_succ]
    exact (read_piece_miss _ _ _ (n / 4) (n % 4) _ _ hd r a l _ (by omega)).trans (ih _ (by omega))

theorem read_pass8_hit (n : ℕ) (hn : n ≤ 16) (hd r : Fin 4) (a : Fin 128) (l : Fin 128) (h : 4 * hd.val + r.val < n) :
    arg8.view.read (Elt Ideal) (arg8.view.writes (Elt Ideal) g8 (pass8 arg8 s f8 n hn)) (ix3 hd (row r a) l)
      = mNew (s hd r) (tileLoad 128 arg8.view f8 hd r hd.2 r.2) (ix2 a l) := by
  induction n with
  | zero => omega
  | succ n ih =>
    by_cases he : 4 * hd.val + r.val = n
    · have key : ∀ (hd' r' : ℕ) (p : hd' < 4) (q : r' < 4) L, hd' = hd.val → r' = r.val →
          arg8.view.read (Elt Ideal) (arg8.view.writes (Elt Ideal) g8
            (piece8 (s ⟨hd', p⟩ ⟨r', q⟩) (tileLoad 128 arg8.view f8 hd' r' p q) hd' r' p q :: L)) (ix3 hd (row r a) l)
            = mNew (s hd r) (tileLoad 128 arg8.view f8 hd r hd.2 r.2) (ix2 a l) := by
        rintro _ _ p q L rfl rfl
        refine (read_piece_hit arg8.view g8 L hd r a l _).trans ?_
        rw [shapeCast_self]
      rw [pass8_succ]
      exact key (n / 4) (n % 4) _ _ _ (by omega) (by omega)
    · rw [pass8_succ]
      exact (read_piece_miss _ _ _ (n / 4) (n % 4) _ _ hd r a l _ (by omega)).trans (ih _ (by omega))

theorem read_pass9_hit (n : ℕ) (hn : n ≤ 16) (hd r : Fin 4) (a : Fin 128) (l : Fin 256) (h : 4 * hd.val + r.val < n) :
    arg9.view.read (Elt Ideal) (arg9.view.writes (Elt Ideal) g9 (pass9 arg8 arg9 s v f8 f9 n hn)) (ix3 hd (row r a) l)
      = aNew (s hd r) (v hd) (tileLoad 128 arg8.view f8 hd r hd.2 r.2) (tileLoad 256 arg9.view f9 hd r hd.2 r.2) (ix2 a l) := by
  induction n with
  | zero => omega
  | succ n ih =>
    by_cases he : 4 * hd.val + r.val = n
    · have key : ∀ (hd' r' : ℕ) (p : hd' < 4) (q : r' < 4) L, hd' = hd.val → r' = r.val →
          arg9.view.read (Elt Ideal) (arg9.view.writes (Elt Ideal) g9
            (piece9 (s ⟨hd', p⟩ ⟨r', q⟩) (v ⟨hd', p⟩) (tileLoad 128 arg8.view f8 hd' r' p q) (tileLoad 256 arg9.view f9 hd' r' p q)
              hd' r' p q :: L)) (ix3 hd (row r a) l)
            = aNew (s hd r) (v hd) (tileLoad 128 arg8.view f8 hd r hd.2 r.2) (tileLoad 256 arg9.view f9 hd r hd.2 r.2) (ix2 a l) := by
        rintro _ _ p q L rfl rfl
        refine (read_piece_hit arg9.view g9 L hd r a l _).trans ?_
        rw [shapeCast_self]
      rw [pass9_succ]
      exact key (n / 4) (n % 4) _ _ _ (by omega) (by omega)
    · rw [pass9_succ]
      exact (read_piece_miss _ _ _ (n / 4) (n % 4) _ _ hd r a l _ (by omega)).trans (ih _ (by omega))

/-- Every row of every head holds the running softmax of the first `n` keys. -/
def State (w : Fin 4 → Fin 512 → ℕ → ℝ) (val : Fin 4 → ℕ → Fin 256 → ℝ) (n : ℕ) : Prop :=
  ∀ hd r a, RowAt (w hd (row r a)) (val hd) n (fun l : Fin 128 => arg8.view.read (Elt Ideal) f8 (ix3 hd (row r a) l))
    (fun d => arg9.view.read (Elt Ideal) f9 (ix3 hd (row r a) d))

variable {arg8 arg9 s v f8 f9}

/-- One pass takes every row past the 512 keys it scores. -/
theorem State.pass {w : Fin 4 → Fin 512 → ℕ → ℝ} {val : Fin 4 → ℕ → Fin 256 → ℝ} {n : ℕ} (h : State arg8 arg9 f8 f9 w val n)
    (hs : ∀ hd r a, ∀ j : Fin 512, IsLogit (s hd r (ix2 a j)) (w hd (row r a) (n + j)))
    (hb : ∀ hd r a, ∃ j, s hd r (ix2 a j) ≠ ⊥)
    (hv : ∀ hd, ∀ (j : Fin 512) d, v hd (ix2 j d) = (val hd (n + j) d : EReal)) :
    State arg8 arg9 (arg8.view.writes (Elt Ideal) f8 (pass8 arg8 s f8 16 le_rfl))
      (arg9.view.writes (Elt Ideal) f9 (pass9 arg8 arg9 s v f8 f9 16 le_rfl)) w val (n + 512) := by
  intro hd r a
  have ht := tile_row (s hd r) (v hd) (tileLoad 128 arg8.view f8 hd r hd.2 r.2) (tileLoad 256 arg9.view f9 hd r hd.2 r.2)
    (w hd (row r a)) (val hd) n a ?_ (hs hd r a) (hb hd r a) (hv hd)
  · have e8 : (fun l : Fin 128 => arg8.view.read (Elt Ideal) (arg8.view.writes (Elt Ideal) f8 (pass8 arg8 s f8 16 le_rfl)) (ix3 hd (row r a) l))
        = fun l => mNew (s hd r) (tileLoad 128 arg8.view f8 hd r hd.2 r.2) (ix2 a l) :=
      funext fun l => read_pass8_hit arg8 s f8 f8 16 le_rfl hd r a l (by omega)
    have e9 : (fun l : Fin 256 => arg9.view.read (Elt Ideal) (arg9.view.writes (Elt Ideal) f9 (pass9 arg8 arg9 s v f8 f9 16 le_rfl)) (ix3 hd (row r a) l))
        = fun l => aNew (s hd r) (v hd) (tileLoad 128 arg8.view f8 hd r hd.2 r.2) (tileLoad 256 arg9.view f9 hd r hd.2 r.2) (ix2 a l) :=
      funext fun l => read_pass9_hit arg8 arg9 s v f8 f9 f9 16 le_rfl hd r a l (by omega)
    rw [e8, e9]
    exact ht
  · have e8 : (fun l : Fin 128 => tileLoad 128 arg8.view f8 hd r hd.2 r.2 (ix2 a l)) = fun l => arg8.view.read (Elt Ideal) f8 (ix3 hd (row r a) l) :=
      funext fun l => tileLoad_apply arg8.view f8 hd r a l
    have e9 : (fun l : Fin 256 => tileLoad 256 arg9.view f9 hd r hd.2 r.2 (ix2 a l)) = fun l => arg9.view.read (Elt Ideal) f9 (ix3 hd (row r a) l) :=
      funext fun l => tileLoad_apply arg9.view f9 hd r a l
    rw [e8, e9]
    exact h hd r a

end pass

end Cert.Fox

end
-- ==== Proof.Fox.Run.lean ====
/- The stores of one grid point's run, as passes over the 16 tiles: the loop's, then the diagonal block's. -/
module

public import proofs.«01_k».proof.Proof.Gen.KernelIdeal.Frame
public import proofs.«01_k».proof.Proof.Fox.Pass

@[expose] public section

noncomputable section

namespace Cert.Fox

open Idealize.ShloMosaic Cert.KernelIdeal Cert.KernelIdeal.Gen Idealize.ShloMosaic.Pointwise

section diag
variable (arg8 : Memref sig .tc .vmem S4x512x128 .f32) (arg9 : Memref sig .tc .vmem S4x512x256 .f32)
  (s : Fin 4 → Fin 4 → FVec Ideal S128x512 .f32) (v : Fin 4 → FVec Ideal S512x256 .bf16)
  (f8 : BufTy.Contents (Elt Ideal) arg8.view.ty) (f9 : BufTy.Contents (Elt Ideal) arg9.view.ty)

theorem tileLoad_congr {n : ℕ} (v : View sig .tc .vmem ⟨3, ![4, 512, n]⟩ .f32) (f g : v.ty.Contents (Elt Ideal)) (hd r : Fin 4)
    (h : ∀ a l, v.read (Elt Ideal) f (ix3 hd (row r a) l) = v.read (Elt Ideal) g (ix3 hd (row r a) l)) :
    tileLoad n v f hd r hd.2 r.2 = tileLoad n v g hd r hd.2 r.2 := by
  funext x
  rw [eq_ix2 x]
  exact (tileLoad_apply v f hd r (x 0) (x 1)).trans ((h _ _).trans (tileLoad_apply v g hd r (x 0) (x 1)).symm)

/-- A list of stores that grows tile by tile, each tile loaded after the earlier ones' stores, is the pass from the start. -/
theorem diag8 (B : List (View.Piece (Elt Ideal) S4x512x128 .f32)) (n : ℕ) (hn : n + 1 ≤ 16) {H H' : List (View.Piece (Elt Ideal) S4x512x128 .f32)}
    (hH : H = pass8 arg8 s (arg8.view.writes (Elt Ideal) f8 B) n (by omega) ++ B)
    (hH' : H' = piece8 (s ⟨n / 4, by omega⟩ ⟨n % 4, by omega⟩)
      (tileLoad 128 arg8.view (arg8.view.writes (Elt Ideal) f8 H) (n / 4) (n % 4) (by omega) (by omega)) (n / 4) (n % 4) (by omega) (by omega) :: H) :
    H' = pass8 arg8 s (arg8.view.writes (Elt Ideal) f8 B) (n + 1) hn ++ B := by
  rw [hH', pass8_succ, List.cons_append, ← hH]
  refine congrArg (fun t => piece8 _ t _ _ _ _ :: H) ?_
  refine tileLoad_congr arg8.view _ _ ⟨n / 4, by omega⟩ ⟨n % 4, by omega⟩ fun a l => ?_
  rw [hH, View.writes_append]
  exact read_pass8_miss arg8 s _ _ n (by omega) _ _ a l (by simp; omega)

theorem diag9 (B8 : List (View.Piece (Elt Ideal) S4x512x128 .f32)) (B9 : List (View.Piece (Elt Ideal) S4x512x256 .f32)) (n : ℕ) (hn : n + 1 ≤ 16)
    {H8 : List (View.Piece (Elt Ideal) S4x512x128 .f32)} {H H' : List (View.Piece (Elt Ideal) S4x512x256 .f32)}
    (hH8 : H8 = pass8 arg8 s (arg8.view.writes (Elt Ideal) f8 B8) n (by omega) ++ B8)
    (hH : H = pass9 arg8 arg9 s v (arg8.view.writes (Elt Ideal) f8 B8) (arg9.view.writes (Elt Ideal) f9 B9) n (by omega) ++ B9)
    (hH' : H' = piece9 (s ⟨n / 4, by omega⟩ ⟨n % 4, by omega⟩) (v ⟨n / 4, by omega⟩)
      (tileLoad 128 arg8.view (arg8.view.writes (Elt Ideal) f8 H8) (n / 4) (n % 4) (by omega) (by omega))
      (tileLoad 256 arg9.view (arg9.view.writes (Elt Ideal) f9 H) (n / 4) (n % 4) (by omega) (by omega)) (n / 4) (n % 4) (by omega) (by omega) :: H) :
    H' = pass9 arg8 arg9 s v (arg8.view.writes (Elt Ideal) f8 B8) (arg9.view.writes (Elt Ideal) f9 B9) (n + 1) hn ++ B9 := by
  rw [hH', pass9_succ, List.cons_append, ← hH]
  refine congrArg₂ (fun t u => piece9 _ _ t u _ _ _ _ :: H) ?_ ?_
  · refine tileLoad_congr arg8.view _ _ ⟨n / 4, by omega⟩ ⟨n % 4, by omega⟩ fun a l => ?_
    rw [hH8, View.writes_append]
    exact read_pass8_miss arg8 s _ _ n (by omega) _ _ a l (by simp; omega)
  · refine tileLoad_congr arg9.view _ _ ⟨n / 4, by omega⟩ ⟨n % 4, by omega⟩ fun a l => ?_
    rw [hH, View.writes_append]
    exact read_pass9_miss arg8 arg9 s v _ _ _ n (by omega) _ _ a l (by simp; omega)

end diag

section run
variable (c : Dev nD) (i : grid0.Coords) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x4x1x2048 .f32) (harg6 : arg6.IsWhole) (arg7 : Memref sig .tc .vmem S512x512 .bf16) (harg7 : arg7.IsWhole)
  (arg8 : Memref sig .tc .vmem S4x512x128 .f32) (harg8 : arg8.IsWhole) (arg9 : Memref sig .tc .vmem S4x512x256 .f32) (harg9 : arg9.IsWhole)
  (x0 : Vec Ideal S512x512 .bf16) (x1 : Vec Ideal S2048x512 .bf16) (x2 : Vec Ideal S2048x512 .bf16) (x3 : Vec Ideal S1x4x1x2048 .f32)

def diagK : Fin 4 → FVec Ideal S512x128 .bf16 :=
  ![rowsAt arg4 (harg4.unread x1) (k0_off17 i) (k0_off17_inb i), rowsAt arg4 (harg4.unread x1) (k0_off19 i) (k0_off19_inb i),
    rowsAt arg4 (harg4.unread x1) (k0_off21 i) (k0_off21_inb i), rowsAt arg4 (harg4.unread x1) (k0_off23 i) (k0_off23_inb i)]
def diagV : Fin 4 → FVec Ideal S512x128 .bf16 :=
  ![rowsAt arg5 (harg5.unread x2) (k0_off17 i) (k0_off17_inb i), rowsAt arg5 (harg5.unread x2) (k0_off19 i) (k0_off19_inb i),
    rowsAt arg5 (harg5.unread x2) (k0_off21 i) (k0_off21_inb i), rowsAt arg5 (harg5.unread x2) (k0_off23 i) (k0_off23_inb i)]
def diagC : Fin 4 → FVec Ideal S1x512 .f32 :=
  ![biasAt arg6 (harg6.unread x3) (k0_off18 i) (k0_off18_inb i), biasAt arg6 (harg6.unread x3) (k0_off20 i) (k0_off20_inb i),
    biasAt arg6 (harg6.unread x3) (k0_off22 i) (k0_off22_inb i), biasAt arg6 (harg6.unread x3) (k0_off24 i) (k0_off24_inb i)]

/-- The query block as loaded. -/
def loadQ : Vec Ideal S512x512 .bf16 :=
  arg3.view.readAt (Elt Ideal) (Rect.unit (s := S512x512) ![0, 0] S512x512.size inb_S512x512_S512x512_0_0).toLoadRect (harg3.unread x0)

theorem slices_rows (r : ℕ) (hr : r < 4) : S512x512.Slices ![128 * r, 0] S128x512 := by
  interval_cases r <;> decide

/-- The diagonal block's scores: those of a whole block, plus the causal bias. -/
def diagS (hd r : Fin 4) : FVec Ideal S128x512 .f32 :=
  addf (scores (tileQ (k0_pay312 (loadQ arg3 harg3 x0)) hd r hd.2 r.2) (diagK i arg4 harg4 x1 hd) (diagC i arg6 harg6 x3 hd))
    (extractStridedSlice S128x512 ![128 * r.val, 0] k0_pay319 (slices_rows r r.2))

/-- The loop's stores. -/
def loopL : List (View.Piece (Elt Ideal) S4x512x128 .f32) × List (View.Piece (Elt Ideal) S4x512x256 .f32) :=
  pb_k0_t1 (F := Ideal) Variants.none c none i arg3 harg3 arg4 harg4 arg5 harg5 arg6 harg6 arg7 harg7 arg8 harg8 arg9 harg9 (loadQ arg3 harg3 x0) (harg4.unread x1) (harg5.unread x2) (harg6.unread x3)
    (arg8.view.writes (Elt Ideal) arg8.view.junk kernelRun0_A.sl.HS0_1) (arg9.view.writes (Elt Ideal) arg9.view.junk kernelRun0_A.sl.HS1_1)
    (Scf.trips (k0_t1_loop i).lb (k0_t1_loop i).ub (k0_t1_loop i).st)

/-- The stores before the diagonal block: the loop's over the fill. -/
def base8 : List (View.Piece (Elt Ideal) S4x512x128 .f32) :=
  (pb_k0_t2 (F := Ideal) Variants.none c none i arg3 harg3 arg4 harg4 arg5 harg5 arg6 harg6 arg7 harg7 arg8 harg8 arg9 harg9 (loadQ arg3 harg3 x0) (kernelRun0_A.sl.v14 i) (harg4.unread x1) (harg5.unread x2) (harg6.unread x3)
    (arg8.view.writes (Elt Ideal) arg8.view.junk ((loopL c i arg3 harg3 arg4 harg4 arg5 harg5 arg6 harg6 arg7 harg7 arg8 harg8 arg9 harg9 x0 x1 x2 x3).1 ++ kernelRun0_A.sl.HS0_1)) (arg9.view.writes (Elt Ideal) arg9.view.junk ((loopL c i arg3 harg3 arg4 harg4 arg5 harg5 arg6 harg6 arg7 harg7 arg8 harg8 arg9 harg9 x0 x1 x2 x3).2 ++ kernelRun0_A.sl.HS1_1))
    (Scf.trips (k0_t2_loop i).lb (k0_t2_loop i).ub (k0_t2_loop i).st)).1 ++ ((loopL c i arg3 harg3 arg4 harg4 arg5 harg5 arg6 harg6 arg7 harg7 arg8 harg8 arg9 harg9 x0 x1 x2 x3).1 ++ kernelRun0_A.sl.HS0_1)

def base9 : List (View.Piece (Elt Ideal) S4x512x256 .f32) :=
  (pb_k0_t2 (F := Ideal) Variants.none c none i arg3 harg3 arg4 harg4 arg5 harg5 arg6 harg6 arg7 harg7 arg8 harg8 arg9 harg9 (loadQ arg3 harg3 x0) (kernelRun0_A.sl.v14 i) (harg4.unread x1) (harg5.unread x2) (harg6.unread x3)
    (arg8.view.writes (Elt Ideal) arg8.view.junk ((loopL c i arg3 harg3 arg4 harg4 arg5 harg5 arg6 harg6 arg7 harg7 arg8 harg8 arg9 harg9 x0 x1 x2 x3).1 ++ kernelRun0_A.sl.HS0_1)) (arg9.view.writes (Elt Ideal) arg9.view.junk ((loopL c i arg3 harg3 arg4 harg4 arg5 harg5 arg6 harg6 arg7 harg7 arg8 harg8 arg9 harg9 x0 x1 x2 x3).2 ++ kernelRun0_A.sl.HS1_1))
    (Scf.trips (k0_t2_loop i).lb (k0_t2_loop i).ub (k0_t2_loop i).st)).2 ++ ((loopL c i arg3 harg3 arg4 harg4 arg5 harg5 arg6 harg6 arg7 harg7 arg8 harg8 arg9 harg9 x0 x1 x2 x3).2 ++ kernelRun0_A.sl.HS1_1)

-- (sixteen stores are compared with their named terms)
set_option maxHeartbeats 8000000 in
/-- The sums' stores, all of them: the diagonal block's pass over the loop's stores. -/
theorem run9 : kernelRun0_A.sl.HS1_16 (F := Ideal) c i arg3 harg3 arg4 harg4 arg5 harg5 arg6 harg6 arg7 harg7 arg8 harg8 arg9 harg9 x0 x1 x2 x3
    = pass9 arg8 arg9 (diagS i arg3 harg3 arg4 harg4 arg6 harg6 x0 x1 x3) (fun hd => withOnes (diagV i arg5 harg5 x2 hd))
        (arg8.view.writes (Elt Ideal) arg8.view.junk (base8 c i arg3 harg3 arg4 harg4 arg5 harg5 arg6 harg6 arg7 harg7 arg8 harg8 arg9 harg9 x0 x1 x2 x3))
        (arg9.view.writes (Elt Ideal) arg9.view.junk (base9 c i arg3 harg3 arg4 harg4 arg5 harg5 arg6 harg6 arg7 harg7 arg8 harg8 arg9 harg9 x0 x1 x2 x3)) 16 le_rfl
      ++ (base9 c i arg3 harg3 arg4 harg4 arg5 harg5 arg6 harg6 arg7 harg7 arg8 harg8 arg9 harg9 x0 x1 x2 x3) := by
  have h0 : (base8 c i arg3 harg3 arg4 harg4 arg5 harg5 arg6 harg6 arg7 harg7 arg8 harg8 arg9 harg9 x0 x1 x2 x3) = pass8 arg8 (diagS i arg3 harg3 arg4 harg4 arg6 harg6 x0 x1 x3)
      (arg8.view.writes (Elt Ideal) arg8.view.junk (base8 c i arg3 harg3 arg4 harg4 arg5 harg5 arg6 harg6 arg7 harg7 arg8 harg8 arg9 harg9 x0 x1 x2 x3)) 0 (by omega) ++ (base8 c i arg3 harg3 arg4 harg4 arg5 harg5 arg6 harg6 arg7 harg7 arg8 harg8 arg9 harg9 x0 x1 x2 x3) := rfl
  have g0 : (base9 c i arg3 harg3 arg4 harg4 arg5 harg5 arg6 harg6 arg7 harg7 arg8 harg8 arg9 harg9 x0 x1 x2 x3) = pass9 arg8 arg9 (diagS i arg3 harg3 arg4 harg4 arg6 harg6 x0 x1 x3) (fun hd => withOnes (diagV i arg5 harg5 x2 hd))
      (arg8.view.writes (Elt Ideal) arg8.view.junk (base8 c i arg3 harg3 arg4 harg4 arg5 harg5 arg6 harg6 arg7 harg7 arg8 harg8 arg9 harg9 x0 x1 x2 x3))
      (arg9.view.writes (Elt Ideal) arg9.view.junk (base9 c i arg3 harg3 arg4 harg4 arg5 harg5 arg6 harg6 arg7 harg7 arg8 harg8 arg9 harg9 x0 x1 x2 x3)) 0 (by omega) ++ (base9 c i arg3 harg3 arg4 harg4 arg5 harg5 arg6 harg6 arg7 harg7 arg8 harg8 arg9 harg9 x0 x1 x2 x3) := rfl
  have h1 := diag8 arg8 _ _ _ 0 (by omega) h0 (H' := kernelRun0_A.sl.HS0_1_1 (F := Ideal) c i arg3 harg3 arg4 harg4 arg5 harg5 arg6 harg6 arg7 harg7 arg8 harg8 arg9 harg9 x0 x1 x2 x3)
    (by unfold kernelRun0_A.sl.HS0_1_1 piece8 base8 loopL loadQ; exact congrArg₂ List.cons (congrArg (Sigma.mk _) (congrArg _ rfl)) rfl)
  have g1 := diag9 arg8 arg9 _ _ _ _ _ _ 0 (by omega) h0 g0 (H' := kernelRun0_A.sl.HS1_1_1 (F := Ideal) c i arg3 harg3 arg4 harg4 arg5 harg5 arg6 harg6 arg7 harg7 arg8 harg8 arg9 harg9 x0 x1 x2 x3)
    (by unfold kernelRun0_A.sl.HS1_1_1 piece9 base9 loopL loadQ; exact congrArg₂ List.cons (congrArg (Sigma.mk _) (congrArg _ rfl)) rfl)
  have h2 := diag8 arg8 _ _ _ 1 (by omega) h1 (H' := kernelRun0_A.sl.HS0_2 (F := Ideal) c i arg3 harg3 arg4 harg4 arg5 harg5 arg6 harg6 arg7 harg7 arg8 harg8 arg9 harg9 x0 x1 x2 x3)
    (by unfold kernelRun0_A.sl.HS0_2 piece8; exact congrArg₂ List.cons (congrArg (Sigma.mk _) (congrArg _ rfl)) rfl)
  have g2 := diag9 arg8 arg9 _ _ _ _ _ _ 1 (by omega) h1 g1 (H' := kernelRun0_A.sl.HS1_2 (F := Ideal) c i arg3 harg3 arg4 harg4 arg5 harg5 arg6 harg6 arg7 harg7 arg8 harg8 arg9 harg9 x0 x1 x2 x3)
    (by unfold kernelRun0_A.sl.HS1_2 piece9; exact congrArg₂ List.cons (congrArg (Sigma.mk _) (congrArg _ rfl)) rfl)
  have h3 := diag8 arg8 _ _ _ 2 (by omega) h2 (H' := kernelRun0_A.sl.HS0_3 (F := Ideal) c i arg3 harg3 arg4 harg4 arg5 harg5 arg6 harg6 arg7 harg7 arg8 harg8 arg9 harg9 x0 x1 x2 x3)
    (by unfold kernelRun0_A.sl.HS0_3 piece8; exact congrArg₂ List.cons (congrArg (Sigma.mk _) (congrArg _ rfl)) rfl)
  have g3 := diag9 arg8 arg9 _ _ _ _ _ _ 2 (by omega) h2 g2 (H' := kernelRun0_A.sl.HS1_3 (F := Ideal) c i arg3 harg3 arg4 harg4 arg5 harg5 arg6 harg6 arg7 harg7 arg8 harg8 arg9 harg9 x0 x1 x2 x3)
    (by unfold kernelRun0_A.sl.HS1_3 piece9; exact congrArg₂ List.cons (congrArg (Sigma.mk _) (congrArg _ rfl)) rfl)
  have h4 := diag8 arg8 _ _ _ 3 (by omega) h3 (H' := kernelRun0_A.sl.HS0_4 (F := Ideal) c i arg3 harg3 arg4 harg4 arg5 harg5 arg6 harg6 arg7 harg7 arg8 harg8 arg9 harg9 x0 x1 x2 x3)
    (by unfold kernelRun0_A.sl.HS0_4 piece8; exact congrArg₂ List.cons (congrArg (Sigma.mk _) (congrArg _ rfl)) rfl)
  have g4 := diag9 arg8 arg9 _ _ _ _ _ _ 3 (by omega) h3 g3 (H' := kernelRun0_A.sl.HS1_4 (F := Ideal) c i arg3 harg3 arg4 harg4 arg5 harg5 arg6 harg6 arg7 harg7 arg8 harg8 arg9 harg9 x0 x1 x2 x3)
    (by unfold kernelRun0_A.sl.HS1_4 piece9; exact congrArg₂ List.cons (congrArg (Sigma.mk _) (congrArg _ rfl)) rfl)
  have h5 := diag8 arg8 _ _ _ 4 (by omega) h4 (H' := kernelRun0_A.sl.HS0_5 (F := Ideal) c i arg3 harg3 arg4 harg4 arg5 harg5 arg6 harg6 arg7 harg7 arg8 harg8 arg9 harg9 x0 x1 x2 x3)
    (by unfold kernelRun0_A.sl.HS0_5 piece8; exact congrArg₂ List.cons (congrArg (Sigma.mk _) (congrArg _ rfl)) rfl)
  have g5 := diag9 arg8 arg9 _ _ _ _ _ _ 4 (by omega) h4 g4 (H' := kernelRun0_A.sl.HS1_5 (F := Ideal) c i arg3 harg3 arg4 harg4 arg5 harg5 arg6 harg6 arg7 harg7 arg8 harg8 arg9 harg9 x0 x1 x2 x3)
    (by unfold kernelRun0_A.sl.HS1_5 piece9; exact congrArg₂ List.cons (congrArg (Sigma.mk _) (congrArg _ rfl)) rfl)
  have h6 := diag8 arg8 _ _ _ 5 (by omega) h5 (H' := kernelRun0_A.sl.HS0_6 (F := Ideal) c i arg3 harg3 arg4 harg4 arg5 harg5 arg6 harg6 arg7 harg7 arg8 harg8 arg9 harg9 x0 x1 x2 x3)
    (by unfold kernelRun0_A.sl.HS0_6 piece8; exact congrArg₂ List.cons (congrArg (Sigma.mk _) (congrArg _ rfl)) rfl)
  have g6 := diag9 arg8 arg9 _ _ _ _ _ _ 5 (by omega) h5 g5 (H' := kernelRun0_A.sl.HS1_6 (F := Ideal) c i arg3 harg3 arg4 harg4 arg5 harg5 arg6 harg6 arg7 harg7 arg8 harg8 arg9 harg9 x0 x1 x2 x3)
    (by unfold kernelRun0_A.sl.HS1_6 piece9; exact congrArg₂ List.cons (congrArg (Sigma.mk _) (congrArg _ rfl)) rfl)
  have h7 := diag8 arg8 _ _ _ 6 (by omega) h6 (H' := kernelRun0_A.sl.HS0_7 (F := Ideal) c i arg3 harg3 arg4 harg4 arg5 harg5 arg6 harg6 arg7 harg7 arg8 harg8 arg9 harg9 x0 x1 x2 x3)
    (by unfold kernelRun0_A.sl.HS0_7 piece8; exact congrArg₂ List.cons (congrArg (Sigma.mk _) (congrArg _ rfl)) rfl)
  have g7 := diag9 arg8 arg9 _ _ _ _ _ _ 6 (by omega) h6 g6 (H' := kernelRun0_A.sl.HS1_7 (F := Ideal) c i arg3 harg3 arg4 harg4 arg5 harg5 arg6 harg6 arg7 harg7 arg8 harg8 arg9 harg9 x0 x1 x2 x3)
    (by unfold kernelRun0_A.sl.HS1_7 piece9; exact congrArg₂ List.cons (congrArg (Sigma.mk _) (congrArg _ rfl)) rfl)
  have h8 := diag8 arg8 _ _ _ 7 (by omega) h7 (H' := kernelRun0_A.sl.HS0_8 (F := Ideal) c i arg3 harg3 arg4 harg4 arg5 harg5 arg6 harg6 arg7 harg7 arg8 harg8 arg9 harg9 x0 x1 x2 x3)
    (by unfold kernelRun0_A.sl.HS0_8 piece8; exact congrArg₂ List.cons (congrArg (Sigma.mk _) (congrArg _ rfl)) rfl)
  have g8 := diag9 arg8 arg9 _ _ _ _ _ _ 7 (by omega) h7 g7 (H' := kernelRun0_A.sl.HS1_8 (F := Ideal) c i arg3 harg3 arg4 harg4 arg5 harg5 arg6 harg6 arg7 harg7 arg8 harg8 arg9 harg9 x0 x1 x2 x3)
    (by unfold kernelRun0_A.sl.HS1_8 piece9; exact congrArg₂ List.cons (congrArg (Sigma.mk _) (congrArg _ rfl)) rfl)
  have h9 := diag8 arg8 _ _ _ 8 (by omega) h8 (H' := kernelRun0_A.sl.HS0_9 (F := Ideal) c i arg3 harg3 arg4 harg4 arg5 harg5 arg6 harg6 arg7 harg7 arg8 harg8 arg9 harg9 x0 x1 x2 x3)
    (by unfold kernelRun0_A.sl.HS0_9 piece8; exact congrArg₂ List.cons (congrArg (Sigma.mk _) (congrArg _ rfl)) rfl)
  have g9 := diag9 arg8 arg9 _ _ _ _ _ _ 8 (by omega) h8 g8 (H' := kernelRun0_A.sl.HS1_9 (F := Ideal) c i arg3 harg3 arg4 harg4 arg5 harg5 arg6 harg6 arg7 harg7 arg8 harg8 arg9 harg9 x0 x1 x2 x3)
    (by unfold kernelRun0_A.sl.HS1_9 piece9; exact congrArg₂ List.cons (congrArg (Sigma.mk _) (congrArg _ rfl)) rfl)
  have h10 := diag8 arg8 _ _ _ 9 (by omega) h9 (H' := kernelRun0_A.sl.HS0_10 (F := Ideal) c i arg3 harg3 arg4 harg4 arg5 harg5 arg6 harg6 arg7 harg7 arg8 harg8 arg9 harg9 x0 x1 x2 x3)
    (by unfold kernelRun0_A.sl.HS0_10 piece8; exact congrArg₂ List.cons (congrArg (Sigma.mk _) (congrArg _ rfl)) rfl)
  have g10 := diag9 arg8 arg9 _ _ _ _ _ _ 9 (by omega) h9 g9 (H' := kernelRun0_A.sl.HS1_10 (F := Ideal) c i arg3 harg3 arg4 harg4 arg5 harg5 arg6 harg6 arg7 harg7 arg8 harg8 arg9 harg9 x0 x1 x2 x3)
    (by unfold kernelRun0_A.sl.HS1_10 piece9; exact congrArg₂ List.cons (congrArg (Sigma.mk _) (congrArg _ rfl)) rfl)
  have h11 := diag8 arg8 _ _ _ 10 (by omega) h10 (H' := kernelRun0_A.sl.HS0_11 (F := Ideal) c i arg3 harg3 arg4 harg4 arg5 harg5 arg6 harg6 arg7 harg7 arg8 harg8 arg9 harg9 x0 x1 x2 x3)
    (by unfold kernelRun0_A.sl.HS0_11 piece8; exact congrArg₂ List.cons (congrArg (Sigma.mk _) (congrArg _ rfl)) rfl)
  have g11 := diag9 arg8 arg9 _ _ _ _ _ _ 10 (by omega) h10 g10 (H' := kernelRun0_A.sl.HS1_11 (F := Ideal) c i arg3 harg3 arg4 harg4 arg5 harg5 arg6 harg6 arg7 harg7 arg8 harg8 arg9 harg9 x0 x1 x2 x3)
    (by unfold kernelRun0_A.sl.HS1_11 piece9; exact congrArg₂ List.cons (congrArg (Sigma.mk _) (congrArg _ rfl)) rfl)
  have h12 := diag8 arg8 _ _ _ 11 (by omega) h11 (H' := kernelRun0_A.sl.HS0_12 (F := Ideal) c i arg3 harg3 arg4 harg4 arg5 harg5 arg6 harg6 arg7 harg7 arg8 harg8 arg9 harg9 x0 x1 x2 x3)
    (by unfold kernelRun0_A.sl.HS0_12 piece8; exact congrArg₂ List.cons (congrArg (Sigma.mk _) (congrArg _ rfl)) rfl)
  have g12 := diag9 arg8 arg9 _ _ _ _ _ _ 11 (by omega) h11 g11 (H' := kernelRun0_A.sl.HS1_12 (F := Ideal) c i arg3 harg3 arg4 harg4 arg5 harg5 arg6 harg6 arg7 harg7 arg8 harg8 arg9 harg9 x0 x1 x2 x3)
    (by unfold kernelRun0_A.sl.HS1_12 piece9; exact congrArg₂ List.cons (congrArg (Sigma.mk _) (congrArg _ rfl)) rfl)
  have h13 := diag8 arg8 _ _ _ 12 (by omega) h12 (H' := kernelRun0_A.sl.HS0_13 (F := Ideal) c i arg3 harg3 arg4 harg4 arg5 harg5 arg6 harg6 arg7 harg7 arg8 harg8 arg9 harg9 x0 x1 x2 x3)
    (by unfold kernelRun0_A.sl.HS0_13 piece8; exact congrArg₂ List.cons (congrArg (Sigma.mk _) (congrArg _ rfl)) rfl)
  have g13 := diag9 arg8 arg9 _ _ _ _ _ _ 12 (by omega) h12 g12 (H' := kernelRun0_A.sl.HS1_13 (F := Ideal) c i arg3 harg3 arg4 harg4 arg5 harg5 arg6 harg6 arg7 harg7 arg8 harg8 arg9 harg9 x0 x1 x2 x3)
    (by unfold kernelRun0_A.sl.HS1_13 piece9; exact congrArg₂ List.cons (congrArg (Sigma.mk _) (congrArg _ rfl)) rfl)
  have h14 := diag8 arg8 _ _ _ 13 (by omega) h13 (H' := kernelRun0_A.sl.HS0_14 (F := Ideal) c i arg3 harg3 arg4 harg4 arg5 harg5 arg6 harg6 arg7 harg7 arg8 harg8 arg9 harg9 x0 x1 x2 x3)
    (by unfold kernelRun0_A.sl.HS0_14 piece8; exact congrArg₂ List.cons (congrArg (Sigma.mk _) (congrArg _ rfl)) rfl)
  have g14 := diag9 arg8 arg9 _ _ _ _ _ _ 13 (by omega) h13 g13 (H' := kernelRun0_A.sl.HS1_14 (F := Ideal) c i arg3 harg3 arg4 harg4 arg5 harg5 arg6 harg6 arg7 harg7 arg8 harg8 arg9 harg9 x0 x1 x2 x3)
    (by unfold kernelRun0_A.sl.HS1_14 piece9; exact congrArg₂ List.cons (congrArg (Sigma.mk _) (congrArg _ rfl)) rfl)
  have h15 := diag8 arg8 _ _ _ 14 (by omega) h14 (H' := kernelRun0_A.sl.HS0_15 (F := Ideal) c i arg3 harg3 arg4 harg4 arg5 harg5 arg6 harg6 arg7 harg7 arg8 harg8 arg9 harg9 x0 x1 x2 x3)
    (by unfold kernelRun0_A.sl.HS0_15 piece8; exact congrArg₂ List.cons (congrArg (Sigma.mk _) (congrArg _ rfl)) rfl)
  have g15 := diag9 arg8 arg9 _ _ _ _ _ _ 14 (by omega) h14 g14 (H' := kernelRun0_A.sl.HS1_15 (F := Ideal) c i arg3 harg3 arg4 harg4 arg5 harg5 arg6 harg6 arg7 harg7 arg8 harg8 arg9 harg9 x0 x1 x2 x3)
    (by unfold kernelRun0_A.sl.HS1_15 piece9; exact congrArg₂ List.cons (congrArg (Sigma.mk _) (congrArg _ rfl)) rfl)
  have g16 := diag9 arg8 arg9 _ _ _ _ _ _ 15 (by omega) h15 g15 (H' := kernelRun0_A.sl.HS1_16 (F := Ideal) c i arg3 harg3 arg4 harg4 arg5 harg5 arg6 harg6 arg7 harg7 arg8 harg8 arg9 harg9 x0 x1 x2 x3)
    (by unfold kernelRun0_A.sl.HS1_16 piece9; exact congrArg₂ List.cons (congrArg (Sigma.mk _) (congrArg _ rfl)) rfl)
  exact g16

end run

end Cert.Fox

end
-- ==== Proof.Fox.Loads.lean ====
/- What one grid point's loads find in its blocks, and the causal bias. -/
module

public import proofs.«01_k».proof.Proof.Fox.Run

@[expose] public section

noncomputable section

namespace Cert.Fox

open Idealize.ShloMosaic Cert.KernelIdeal Cert.KernelIdeal.Gen Idealize.ShloMosaic.Pointwise

theorem trips1 (i : grid0.Coords) : (k0_t1_loop i).trips = (i 2).val :=
  (by decide : ∀ x : Fin 4, Scf.trips 0#32 (Scalar.addi 0#32 (Scalar.muli (Scalar.divsi (Scalar.subi (BitVec.ofNat 32 x.val) 0#32) 1#32) 1#32)) 1#32
    = x.val) (i 2)

theorem trips2 (i : grid0.Coords) : (k0_t2_loop i).trips = 0 :=
  (by decide : ∀ x : Fin 4, Scf.trips (Scalar.addi 0#32 (Scalar.muli (Scalar.divsi (Scalar.subi (BitVec.ofNat 32 x.val) 0#32) 1#32) 1#32))
    (Scalar.addi 0#32 (Scalar.subi (BitVec.ofNat 32 x.val) 0#32)) 1#32 = 0) (i 2)

theorem loopStart (i : grid0.Coords) (k : Fin (k0_t1_loop i).trips) :
    (Scalar.indexCast (Scalar.muli (Scf.iv 0#32 1#32 k) 512#32) : Index).toNat = 512 * k.val := by
  have h : k.val < 4 := lt_trans (lt_of_lt_of_eq k.2 (trips1 i)) (i 2).2
  exact (by decide : ∀ x : Fin 4, (Scalar.indexCast (Scalar.muli (Scf.iv 0#32 1#32 x.val) 512#32) : Index).toNat = 512 * x.val) ⟨k.val, h⟩

theorem diagStart (i : grid0.Coords) :
    (Scalar.indexCast (Scalar.muli (BitVec.ofNat 32 (i 2).val) 512#32) : Index).toNat = 512 * (i 2).val :=
  (by decide : ∀ x : Fin 4, (Scalar.indexCast (Scalar.muli (BitVec.ofNat 32 x.val) 512#32) : Index).toNat = 512 * x.val) (i 2)

theorem rowsAt_apply (arg : Memref sig .tc .vmem S2048x512 .bf16) (harg : arg.IsWhole) (x : Vec Ideal S2048x512 .bf16) (off : Fin 2 → ℕ)
    (inb : ∀ a, off a + S512x128.size a ≤ S2048x512.size a) (j : Fin 512) (d : Fin 128) (s : Fin 2048) (e : Fin 512)
    (hs : s.val = off 0 + j.val) (he : e.val = off 1 + d.val) :
    rowsAt arg (harg.unread x) off inb (ix2 j d) = x (ix2 s e) := by
  unfold rowsAt
  pointwise []
  rw [View.readAt_apply, harg.read_unread]
  refine congrArg x (Rect.emb_eq_of_coords _ _ _ fun a => ?_)
  fin_cases a
  · show s.val = off 0 + 1 * j.val
    omega
  · show e.val = off 1 + 1 * d.val
    omega

theorem biasAt_apply (arg : Memref sig .tc .vmem S1x4x1x2048 .f32) (harg : arg.IsWhole) (x : Vec Ideal S1x4x1x2048 .f32) (off : Fin 4 → ℕ)
    (inb : ∀ a, off a + S1x1x1x512.size a ≤ S1x4x1x2048.size a) (j : Fin 512) (hd : Fin 4) (s : Fin 2048)
    (h0 : off 0 = 0) (h1 : off 1 = hd.val) (h2 : off 2 = 0) (hs : s.val = off 3 + j.val) :
    biasAt arg (harg.unread x) off inb (ix2 0 j) = x (ix4 0 hd 0 s) := by
  unfold biasAt
  pointwise []
  rw [View.readAt_apply, harg.read_unread]
  refine congrArg x (Rect.emb_eq_of_coords _ _ _ fun a => ?_)
  fin_cases a
  · show 0 = off 0 + 1 * 0
    omega
  · show hd.val = off 1 + 1 * 0
    omega
  · show 0 = off 2 + 1 * 0
    omega
  · show s.val = off 3 + 1 * j.val
    omega

section trip
variable (arg4 : Memref sig .tc .vmem S2048x512 .bf16) (harg4 : arg4.IsWhole) (arg6 : Memref sig .tc .vmem S1x4x1x2048 .f32) (harg6 : arg6.IsWhole)
  (x1 : Vec Ideal S2048x512 .bf16) (x3 : Vec Ideal S1x4x1x2048 .f32) (i : grid0.Coords) (k : Fin (k0_t1_loop i).trips)
  (hd : Fin 4) (j : Fin 512) (d : Fin 128) (s : Fin 2048)

theorem tripK_apply (hs : s.val = 512 * k.val + j.val) : tripK arg4 (harg4.unread x1) i k hd (ix2 j d) = x1 (ix2 s (row hd d)) := by
  have h := loopStart i k
  fin_cases hd <;> refine rowsAt_apply arg4 harg4 x1 _ _ j d s _ (hs.trans (congrArg (· + j.val) h.symm)) ?_ <;> rfl

theorem tripC_apply (hs : s.val = 512 * k.val + j.val) : tripC arg6 (harg6.unread x3) i k hd (ix2 0 j) = x3 (ix4 0 hd 0 s) := by
  have h := loopStart i k
  fin_cases hd <;> exact biasAt_apply arg6 harg6 x3 _ _ j _ s rfl rfl rfl (hs.trans (congrArg (· + j.val) h.symm))

theorem diagK_apply (hs : s.val = 512 * (i 2).val + j.val) : diagK i arg4 harg4 x1 hd (ix2 j d) = x1 (ix2 s (row hd d)) := by
  have h := diagStart i
  fin_cases hd <;> refine rowsAt_apply arg4 harg4 x1 _ _ j d s _ (hs.trans (congrArg (· + j.val) h.symm)) ?_ <;> rfl

theorem diagC_apply (hs : s.val = 512 * (i 2).val + j.val) : diagC i arg6 harg6 x3 hd (ix2 0 j) = x3 (ix4 0 hd 0 s) := by
  have h := diagStart i
  fin_cases hd <;> exact biasAt_apply arg6 harg6 x3 _ _ j _ s rfl rfl rfl (hs.trans (congrArg (· + j.val) h.symm))
end trip

theorem tileQ_apply (arg3 : Memref sig .tc .vmem S512x512 .bf16) (harg3 : arg3.IsWhole) (x0 : Vec Ideal S512x512 .bf16) (hd r : Fin 4) (a d : Fin 128) :
    tileQ (k0_pay312 (loadQ arg3 harg3 x0)) hd r hd.2 r.2 (ix2 a d) = x0 (ix2 (row r a) (row hd d)) := by
  have hq : k0_pay312 (loadQ arg3 harg3 x0) = x0 := by
    unfold k0_pay312 loadQ
    dsimp only
    rw [shapeCast_self]
    funext y
    rw [View.readAt_apply, harg3.read_unread]
    refine congrArg x0 (Rect.emb_eq_of_coords _ _ _ fun a => ?_)
    fin_cases a
    · show (y 0).val = 0 + 1 * (y 0).val
      omega
    · show (y 1).val = 0 + 1 * (y 1).val
      omega
  rw [hq]
  unfold tileQ extractStridedSlice
  refine congrArg x0 (funext fun a => Fin.ext ?_)
  fin_cases a <;> rfl

/-- The causal bias: zero up to the diagonal, minus infinity past it. -/
theorem pay319_apply (a j : Fin 512) : (k0_pay319 (F := Ideal)) (ix2 a j) = if j.val ≤ a.val then 0 else ⊥ := by
  pointwise [k0_pay319]
  have hm : (Named.named (F := Ideal) κ "mask" 4048155338#32 : Ideal .f32) = ⊥ := rfl
  have hc : IntOp.cmpi .sge (BitVec.ofNat 32 a.val) (BitVec.ofNat 32 j.val) = BitVec.ofBool (decide (j.val ≤ a.val)) :=
    WordCmp.cmpi_sge_ofNat (by omega) (by omega)
  rw [hm, hc]
  by_cases h : j.val ≤ a.val <;> simp [h, Scalar.select]

end Cert.Fox

end
-- ==== Proof.Fox.Point.lean ====
/- One grid point: every row of its output block is the quotient of the weighted sum of the values by the sum of the weights. -/
module

public import proofs.«01_k».proof.Proof.Fox.Loads

@[expose] public section

noncomputable section

namespace Cert.Fox

open Idealize.ShloMosaic Cert.KernelIdeal Cert.KernelIdeal.Gen Idealize.ShloMosaic.Pointwise

/-- The weight of key `n` for row `a` of the query block `b`: 2 to the power of its logit up to the row's own place, 0 after. -/
def weight (b : ℕ) (r : Fin 4 → Fin 512 → Fin 2048 → ℝ) (hd : Fin 4) (a : Fin 512) (n : ℕ) : ℝ :=
  if h : n < 2048 then if n ≤ 512 * b + a.val then (2 : ℝ) ^ r hd a ⟨n, h⟩ else 0 else 0

/-- The value of key `n` in a column: the head's in the first 128, one in the rest. -/
def value (u : Fin 4 → Fin 2048 → Fin 128 → ℝ) (hd : Fin 4) (n : ℕ) (d : Fin 256) : ℝ :=
  if hd' : d.val < 128 then if h : n < 2048 then u hd ⟨n, h⟩ ⟨d.val, hd'⟩ else 0 else 1

section point
variable (c : Dev nD) (i : grid0.Coords) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x4x1x2048 .f32) (harg6 : arg6.IsWhole) (arg7 : Memref sig .tc .vmem S512x512 .bf16) (harg7 : arg7.IsWhole)
  (arg8 : Memref sig .tc .vmem S4x512x128 .f32) (harg8 : arg8.IsWhole) (arg9 : Memref sig .tc .vmem S4x512x256 .f32) (harg9 : arg9.IsWhole)
  (x0 : Vec Ideal S512x512 .bf16) (x1 : Vec Ideal S2048x512 .bf16) (x2 : Vec Ideal S2048x512 .bf16) (x3 : Vec Ideal S1x4x1x2048 .f32)
  (r : Fin 4 → Fin 512 → Fin 2048 → ℝ) (u : Fin 4 → Fin 2048 → Fin 128 → ℝ)

/-- The blocks hold real scores `r` (in base 2) and real values `u`. -/
structure Reals : Prop where
  score : ∀ hd a s, ∑ d : Fin 128, x0 (ix2 a (row hd d)) * x1 (ix2 s (row hd d)) - x3 (ix4 0 hd 0 s) = (r hd a s : EReal)
  val : ∀ hd s d, x2 (ix2 s (row hd d)) = (u hd s d : EReal)

variable {x0 x1 x2 x3 r u}

theorem init_state (val : Fin 4 → ℕ → Fin 256 → ℝ) (w : Fin 4 → Fin 512 → ℕ → ℝ) :
    State arg8 arg9 (arg8.view.writes (Elt Ideal) arg8.view.junk kernelRun0_A.sl.HS0_1)
      (arg9.view.writes (Elt Ideal) arg9.view.junk kernelRun0_A.sl.HS1_1) w val 0 := by
  intro hd r a
  refine rowAt_zero _ _ _ _ (fun l => ?_) fun d => ?_
  · unfold kernelRun0_A.sl.HS0_1
    refine (View.read_writes_cons_hit_of_coords _ _ _ _ _ (ix3 hd (row r a) l) _ fun b => ?_).trans ?_
    · fin_cases b
      · show hd.val = 0 + 1 * hd.val
        omega
      · show (row r a).val = 0 + 1 * (row r a).val
        omega
      · show l.val = 0 + 1 * l.val
        omega
    · pointwise [k0_pay313]
      rfl
  · unfold kernelRun0_A.sl.HS1_1
    refine (View.read_writes_cons_hit_of_coords _ _ _ _ _ (ix3 hd (row r a) d) _ fun b => ?_).trans ?_
    · fin_cases b
      · show hd.val = 0 + 1 * hd.val
        omega
      · show (row r a).val = 0 + 1 * (row r a).val
        omega
      · show d.val = 0 + 1 * d.val
        omega
    · pointwise [k0_pay314]

/-- The blocks' values, as a pass takes them. -/
theorem ones_value (hv : ∀ hd s d, x2 (ix2 s (row hd d)) = (u hd s d : EReal)) (v : Fin 4 → FVec Ideal S512x128 .bf16) (n : ℕ)
    (hn : n + 512 ≤ 2048)
    (hx : ∀ hd j d, v hd (ix2 j d) = x2 (ix2 ⟨n + j.val, by omega⟩ (row hd d))) (hd : Fin 4) (j : Fin 512) (d : Fin 256) :
    withOnes (v hd) (ix2 j d) = (value u hd (n + j) d : EReal) := by
  rw [withOnes_apply]
  unfold value
  by_cases h : d.val < 128
  · rw [dif_pos h, dif_pos h, dif_pos (show n + j.val < 2048 by omega), hx, hv]
  · rw [dif_neg h, dif_neg h]
    rfl

theorem loop_state (h : Reals x0 x1 x2 x3 r u) (k : ℕ) (hk : k ≤ (i 2).val) :
    State arg8 arg9
      (arg8.view.writes (Elt Ideal) (arg8.view.writes (Elt Ideal) arg8.view.junk kernelRun0_A.sl.HS0_1)
        (pb_k0_t1 (F := Ideal) Variants.none c none i arg3 harg3 arg4 harg4 arg5 harg5 arg6 harg6 arg7 harg7 arg8 harg8 arg9 harg9 (loadQ arg3 harg3 x0) (harg4.unread x1) (harg5.unread x2) (harg6.unread x3)
          (arg8.view.writes (Elt Ideal) arg8.view.junk kernelRun0_A.sl.HS0_1) (arg9.view.writes (Elt Ideal) arg9.view.junk kernelRun0_A.sl.HS1_1) k).1)
      (arg9.view.writes (Elt Ideal) (arg9.view.writes (Elt Ideal) arg9.view.junk kernelRun0_A.sl.HS1_1)
        (pb_k0_t1 (F := Ideal) Variants.none c none i arg3 harg3 arg4 harg4 arg5 harg5 arg6 harg6 arg7 harg7 arg8 harg8 arg9 harg9 (loadQ arg3 harg3 x0) (harg4.unread x1) (harg5.unread x2) (harg6.unread x3)
          (arg8.view.writes (Elt Ideal) arg8.view.junk kernelRun0_A.sl.HS0_1) (arg9.view.writes (Elt Ideal) arg9.view.junk kernelRun0_A.sl.HS1_1) k).2)
      (weight (i 2).val r) (value u) (512 * k) := by
  have hi : (i 2).val < 4 := (i 2).2
  induction k with
  | zero => exact init_state arg8 arg9 _ _
  | succ k ih =>
    have hkt : k < (k0_t1_loop i).trips := by rw [trips1]; omega
    rw [pb_k0_t1_succ (k := ⟨k, hkt⟩)]
    dsimp only [tripL_k0_t1]
    rw [View.writes_append, View.writes_append, trip8, trip9]
    have hs : ∀ (hd rb : Fin 4) (a : Fin 128) (j : Fin 512), scores (tileQ (k0_pay312 (loadQ arg3 harg3 x0)) hd rb hd.2 rb.2) (tripK arg4 (harg4.unread x1) i ⟨k, hkt⟩ hd)
        (tripC arg6 (harg6.unread x3) i ⟨k, hkt⟩ hd) (ix2 a j) = (r hd (row rb a) ⟨512 * k + j.val, by omega⟩ : EReal) := by
      intro hd rb a j
      rw [scores_apply, ← h.score]
      refine congrArg₂ (· - ·) (Finset.sum_congr rfl fun d _ => congrArg₂ (· * ·) ?_ ?_) ?_
      · exact tileQ_apply arg3 harg3 x0 hd rb a d
      · exact tripK_apply arg4 harg4 x1 i ⟨k, hkt⟩ hd j d _ rfl
      · exact tripC_apply arg6 harg6 x3 i ⟨k, hkt⟩ hd j _ rfl
    refine (ih (by omega)).pass ?_ ?_ ?_
    · intro hd rb a j
      refine .inr ⟨_, hs hd rb a j, ?_⟩
      unfold weight
      rw [dif_pos (show 512 * k + j.val < 2048 by omega), if_pos (by omega)]
    · intro hd rb a
      exact ⟨0, by rw [hs]; exact EReal.coe_ne_bot _⟩
    · exact ones_value h.val _ (512 * k) (by omega) fun hd j d => tripK_apply arg5 harg5 x2 i ⟨k, hkt⟩ hd j d _ rfl

/-- After the diagonal block every row has taken in all the keys up to its own place. -/
theorem final_state (h : Reals x0 x1 x2 x3 r u) :
    State arg8 arg9
      (arg8.view.writes (Elt Ideal) (arg8.view.writes (Elt Ideal) arg8.view.junk (base8 c i arg3 harg3 arg4 harg4 arg5 harg5 arg6 harg6 arg7 harg7 arg8 harg8 arg9 harg9 x0 x1 x2 x3))
        (pass8 arg8 (diagS i arg3 harg3 arg4 harg4 arg6 harg6 x0 x1 x3)
          (arg8.view.writes (Elt Ideal) arg8.view.junk (base8 c i arg3 harg3 arg4 harg4 arg5 harg5 arg6 harg6 arg7 harg7 arg8 harg8 arg9 harg9 x0 x1 x2 x3)) 16 le_rfl))
      (arg9.view.writes (Elt Ideal) arg9.view.junk (kernelRun0_A.sl.HS1_16 c i arg3 harg3 arg4 harg4 arg5 harg5 arg6 harg6 arg7 harg7 arg8 harg8 arg9 harg9 x0 x1 x2 x3))
      (weight (i 2).val r) (value u) (512 * (i 2).val + 512) := by
  have hi : (i 2).val < 4 := (i 2).2
  have h2 : Scf.trips (k0_t2_loop i).lb (k0_t2_loop i).ub (k0_t2_loop i).st = 0 := trips2 i
  have h1 : Scf.trips (k0_t1_loop i).lb (k0_t1_loop i).ub (k0_t1_loop i).st = (i 2).val := trips1 i
  rw [run9, View.writes_append]
  have hb : State arg8 arg9 (arg8.view.writes (Elt Ideal) arg8.view.junk (base8 c i arg3 harg3 arg4 harg4 arg5 harg5 arg6 harg6 arg7 harg7 arg8 harg8 arg9 harg9 x0 x1 x2 x3))
      (arg9.view.writes (Elt Ideal) arg9.view.junk (base9 c i arg3 harg3 arg4 harg4 arg5 harg5 arg6 harg6 arg7 harg7 arg8 harg8 arg9 harg9 x0 x1 x2 x3)) (weight (i 2).val r) (value u) (512 * (i 2).val) := by
    have hl := loop_state c i arg3 harg3 arg4 harg4 arg5 harg5 arg6 harg6 arg7 harg7 arg8 harg8 arg9 harg9 h (i 2).val le_rfl
    unfold base8 base9
    rw [h2]
    dsimp only [pb_k0_t2, List.nil_append]
    rw [View.writes_append, View.writes_append]
    unfold loopL
    rw [h1]
    exact hl
  have hs : ∀ (hd rb : Fin 4) (a : Fin 128) (j : Fin 512), scores (tileQ (k0_pay312 (loadQ arg3 harg3 x0)) hd rb hd.2 rb.2) (diagK i arg4 harg4 x1 hd)
      (diagC i arg6 harg6 x3 hd) (ix2 a j) = (r hd (row rb a) ⟨512 * (i 2).val + j.val, by omega⟩ : EReal) := by
    intro hd rb a j
    rw [scores_apply, ← h.score]
    refine congrArg₂ (· - ·) (Finset.sum_congr rfl fun d _ => congrArg₂ (· * ·) ?_ ?_) ?_
    · exact tileQ_apply arg3 harg3 x0 hd rb a d
    · exact diagK_apply arg4 harg4 x1 i hd j d _ rfl
    · exact diagC_apply arg6 harg6 x3 i hd j _ rfl
  have hd : ∀ (hd rb : Fin 4) (a : Fin 128) (j : Fin 512), diagS i arg3 harg3 arg4 harg4 arg6 harg6 x0 x1 x3 hd rb (ix2 a j)
      = (r hd (row rb a) ⟨512 * (i 2).val + j.val, by omega⟩ : EReal) + if j.val ≤ (row rb a).val then 0 else ⊥ := by
    intro hd rb a j
    refine congrArg₂ (· + ·) (hs hd rb a j) ((pay319_apply (row rb a) j).symm ▸ ?_)
    refine congrArg k0_pay319 (funext fun b => Fin.ext ?_)
    fin_cases b
    · rfl
    · show 0 + j.val = j.val
      omega
  refine hb.pass ?_ ?_ ?_
  · intro hh rb a j
    rw [hd]
    unfold weight
    rw [dif_pos (show 512 * (i 2).val + j.val < 2048 by omega)]
    by_cases hj : j.val ≤ (row rb a).val
    · rw [if_pos hj, if_pos (by omega), add_zero]
      exact .inr ⟨_, rfl, rfl⟩
    · rw [if_neg hj, if_neg (by omega), EReal.add_bot]
      exact .inl ⟨rfl, rfl⟩
  · intro hh rb a
    refine ⟨0, ?_⟩
    rw [hd, if_pos (by simp), add_zero]
    exact EReal.coe_ne_bot _
  · exact ones_value h.val _ (512 * (i 2).val) (by omega) fun hd j d => diagK_apply arg5 harg5 x2 i hd j d _ rfl

end point

end Cert.Fox

end
-- ==== Proof.Fox.Out.lean ====
/- The output block a grid point writes. -/
module

public import proofs.«01_k».proof.Proof.Fox.Point

@[expose] public section

noncomputable section

namespace Cert.Fox

open Idealize.ShloMosaic Cert.KernelIdeal Cert.KernelIdeal.Gen Idealize.ShloMosaic.Pointwise

theorem inb_page : ∀ a, (![0, 0] : Fin 2 → ℕ) a + (![512, 256] : Fin 2 → ℕ) a ≤ (⟨2, ![512, 256]⟩ : Shape).size a := by
  intro a; fin_cases a <;> decide

/-- Head `hd`'s page of the sums, as a box to load from. -/
def pageBox (hd : ℕ) (h : hd < 4) : LoadRect ⟨3, ![4, 512, 256]⟩ :=
  (Rect.unit (s := ⟨3, ![4, 512, 256]⟩) ![hd, 0, 0] ![1, 512, 256] (inb_head hd h)).withinL
    ((Rect.unit (s := ⟨2, ![512, 256]⟩) ![0, 0] ![512, 256] inb_page).consLift ![1, 512, 256] rfl (fun i => by fin_cases i <;> rfl)).toLoadRect
    (fun _ => rfl)

theorem numel_page (hd : ℕ) (h : hd < 4) : (pageBox hd h).shape.numel = (⟨2, ![512, 256]⟩ : Shape).numel :=
  Rect.numel_consLift (Rect.unit (s := ⟨2, ![512, 256]⟩) ![0, 0] ![512, 256] inb_page) ![1, 512, 256] rfl (fun i => by fin_cases i <;> rfl)

def pageLoad (v : View sig .tc .vmem ⟨3, ![4, 512, 256]⟩ .f32) (f : v.ty.Contents (Elt Ideal)) (hd : ℕ) (h : hd < 4) : FVec Ideal ⟨2, ![512, 256]⟩ .f32 :=
  LoadRect.valAlong (LR := pageBox hd h) (lr := (Rect.unit (s := ⟨2, ![512, 256]⟩) ![0, 0] ![512, 256] inb_page).toLoadRect) (numel_page hd h).symm
    (v.readAt (Elt Ideal) (pageBox hd h) f)

theorem pageLoad_apply (v : View sig .tc .vmem ⟨3, ![4, 512, 256]⟩ .f32) (f : v.ty.Contents (Elt Ideal)) (hd : Fin 4) (a : Fin 512) (l : Fin 256) :
    pageLoad v f hd hd.2 (ix2 a l) = v.read (Elt Ideal) f (ix3 hd a l) := by
  show v.readAt (Elt Ideal) (pageBox hd hd.2) f _ = _
  rw [View.readAt_apply]
  refine congrArg _ ?_
  set x := Shape.reshapeEquiv (numel_page hd hd.2).symm (ix2 a l) with hx
  have hz := fun i => (Rect.unit (s := ⟨2, ![512, 256]⟩) ![0, 0] ![512, 256] inb_page).reshapeEquiv_consLift_succ ![1, 512, 256] rfl
    (fun i => by fin_cases i <;> rfl) x i
  have hb : Shape.reshapeEquiv (numel_page hd hd.2) x = ix2 a l := by
    rw [hx, Shape.reshapeEquiv_reshapeEquiv]
    exact Shape.reshapeEquiv_self (s := ⟨2, ![512, 256]⟩) rfl (ix2 a l)
  have h1 : (x 1).val = a.val := (hz 0).trans (congrArg (fun y => (y 0).val) hb)
  have h2 : (x 2).val = l.val := (hz 1).trans (congrArg (fun y => (y 1).val) hb)
  have h0 : (x 0).val < 1 := (x 0).isLt
  funext i
  apply Fin.ext
  fin_cases i
  · show hd.val + 0 + 1 * (x 0).val = hd.val
    omega
  · show 0 + 0 + 1 * (x 1).val = a.val
    omega
  · show 0 + 0 + 1 * (x 2).val = l.val
    omega

/-- The sums over the sums of the weights. -/
def quot (p : FVec Ideal S512x256 .f32) : FVec Ideal S512x128 .bf16 :=
  truncf .bf16 (divf (extractStridedSlice S512x128 ![0, 0] p slices_S512x256_o0_0_S512x128)
    (extractStridedSlice S512x128 ![0, 128] p slices_S512x256_o0_128_S512x128)) bitsLt_bf16_f32

theorem quot_apply (p : FVec Ideal S512x256 .f32) (a : Fin 512) (d : Fin 128) :
    quot p (ix2 a d) = Ideal.div (p (ix2 a ⟨d.val, by omega⟩)) (p (ix2 a ⟨128 + d.val, by omega⟩)) := by
  pointwise [quot]
  try rfl

theorem read_cols_hit (v : View sig .tc .vmem S512x512 .bf16) (f : v.ty.Contents (Elt Ideal)) (o : ℕ)
    (inb : ∀ b, (![0, o] : Fin 2 → ℕ) b + (![512, 128] : Fin 2 → ℕ) b ≤ S512x512.size b) (w : FVec Ideal ⟨2, ![512, 128]⟩ .bf16) (L)
    (hd : Fin 4) (a : Fin 512) (d : Fin 128) (ho : o = 128 * hd.val) :
    v.read (Elt Ideal) (v.writes (Elt Ideal) f (⟨Rect.unit (s := S512x512) ![0, o] ![512, 128] inb, w⟩ :: L)) (ix2 a (row hd d)) = w (ix2 a d) := by
  refine View.read_writes_cons_hit_of_coords v f (Rect.unit (s := S512x512) ![0, o] ![512, 128] inb) w L (ix2 a d) _ fun b => ?_
  fin_cases b
  · show a.val = 0 + 1 * a.val
    omega
  · show 128 * hd.val + d.val = o + 1 * d.val
    omega

theorem read_cols_miss (v : View sig .tc .vmem S512x512 .bf16) (f : v.ty.Contents (Elt Ideal)) (o : ℕ)
    (inb : ∀ b, (![0, o] : Fin 2 → ℕ) b + (![512, 128] : Fin 2 → ℕ) b ≤ S512x512.size b) (w : FVec Ideal ⟨2, ![512, 128]⟩ .bf16) (L)
    (hd : Fin 4) (a : Fin 512) (d : Fin 128) (ho : 128 * hd.val + 128 ≤ o) :
    v.read (Elt Ideal) (v.writes (Elt Ideal) f (⟨Rect.unit (s := S512x512) ![0, o] ![512, 128] inb, w⟩ :: L)) (ix2 a (row hd d))
      = v.read (Elt Ideal) (v.writes (Elt Ideal) f L) (ix2 a (row hd d)) := by
  refine View.read_writes_cons_miss_of_axis v f _ L _ 1 o 128 rfl rfl rfl (.inl ?_)
  show 128 * hd.val + d.val < o
  omega

/-- Four column blocks written, read back at a column of one. -/
theorem read_cols (v : View sig .tc .vmem S512x512 .bf16) (f : v.ty.Contents (Elt Ideal)) (w : Fin 4 → FVec Ideal ⟨2, ![512, 128]⟩ .bf16)
    (h3 h2 h1 h0) (hd : Fin 4) (a : Fin 512) (d : Fin 128) :
    v.read (Elt Ideal) (v.writes (Elt Ideal) f
      [⟨Rect.unit (s := S512x512) ![0, 384] ![512, 128] h3, w 3⟩, ⟨Rect.unit (s := S512x512) ![0, 256] ![512, 128] h2, w 2⟩,
       ⟨Rect.unit (s := S512x512) ![0, 128] ![512, 128] h1, w 1⟩, ⟨Rect.unit (s := S512x512) ![0, 0] ![512, 128] h0, w 0⟩]) (ix2 a (row hd d))
      = w hd (ix2 a d) := by
  have m := fun o inb w' L ho => read_cols_miss v f o inb w' L hd a d ho
  have t := fun o inb w' L ho => read_cols_hit v f o inb w' L hd a d ho
  match hd with
  | 0 => exact (m 384 _ _ _ (by decide)).trans ((m 256 _ _ _ (by decide)).trans ((m 128 _ _ _ (by decide)).trans (t 0 _ _ _ rfl)))
  | 1 => exact (m 384 _ _ _ (by decide)).trans ((m 256 _ _ _ (by decide)).trans (t 128 _ _ _ rfl))
  | 2 => exact (m 384 _ _ _ (by decide)).trans (t 256 _ _ _ rfl)
  | 3 => exact t 384 _ _ _ rfl

section out
variable (c : Dev nD) (i : grid0.Coords) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x4x1x2048 .f32) (harg6 : arg6.IsWhole) (arg7 : Memref sig .tc .vmem S512x512 .bf16) (harg7 : arg7.IsWhole)
  (arg8 : Memref sig .tc .vmem S4x512x128 .f32) (harg8 : arg8.IsWhole) (arg9 : Memref sig .tc .vmem S4x512x256 .f32) (harg9 : arg9.IsWhole)
  (x0 : Vec Ideal S512x512 .bf16) (x1 : Vec Ideal S2048x512 .bf16) (x2 : Vec Ideal S2048x512 .bf16) (x3 : Vec Ideal S1x4x1x2048 .f32)
  (r : Fin 4 → Fin 512 → Fin 2048 → ℝ) (u : Fin 4 → Fin 2048 → Fin 128 → ℝ)

/-- The sums when the loads of the output are made. -/
def sums : BufTy.Contents (Elt Ideal) arg9.view.ty :=
  arg9.view.writes (Elt Ideal) arg9.view.junk (kernelRun0_A.sl.HS1_16 c i arg3 harg3 arg4 harg4 arg5 harg5 arg6 harg6 arg7 harg7 arg8 harg8 arg9 harg9 x0 x1 x2 x3)

set_option maxHeartbeats 1000000 in
theorem out_pieces : (kernelRun0_A (F := Ideal) c i arg3 harg3 arg4 harg4 arg5 harg5 arg6 harg6 arg7 harg7 arg8 harg8 arg9 harg9 x0 x1 x2 x3).1
    = [⟨Rect.unit (s := S512x512) ![0, 384] ![512, 128] inb_S512x512_S512x128_0_384,
          quot (pageLoad arg9.view (sums c i arg3 harg3 arg4 harg4 arg5 harg5 arg6 harg6 arg7 harg7 arg8 harg8 arg9 harg9 x0 x1 x2 x3) 3 (by omega))⟩,
       ⟨Rect.unit (s := S512x512) ![0, 256] ![512, 128] inb_S512x512_S512x128_0_256,
          quot (pageLoad arg9.view (sums c i arg3 harg3 arg4 harg4 arg5 harg5 arg6 harg6 arg7 harg7 arg8 harg8 arg9 harg9 x0 x1 x2 x3) 2 (by omega))⟩,
       ⟨Rect.unit (s := S512x512) ![0, 128] ![512, 128] inb_S512x512_S512x128_0_128,
          quot (pageLoad arg9.view (sums c i arg3 harg3 arg4 harg4 arg5 harg5 arg6 harg6 arg7 harg7 arg8 harg8 arg9 harg9 x0 x1 x2 x3) 1 (by omega))⟩,
       ⟨Rect.unit (s := S512x512) ![0, 0] ![512, 128] inb_S512x512_S512x128_0_0,
          quot (pageLoad arg9.view (sums c i arg3 harg3 arg4 harg4 arg5 harg5 arg6 harg6 arg7 harg7 arg8 harg8 arg9 harg9 x0 x1 x2 x3) 0 (by omega))⟩] := by
  unfold kernelRun0_A quot pageLoad sums
  dsimp only
  unfold kernelRun0_A.sl.r_5 kernelRun0_A.sl.r_6 kernelRun0_A.sl.v857 kernelRun0_A.sl.v856 kernelRun0_A.sl.v855 kernelRun0_A.sl.v854
    kernelRun0_A.sl.v853 kernelRun0_A.sl.v861 kernelRun0_A.sl.v869 kernelRun0_A.sl.v877 View.readCov
  refine congrArg₂ List.cons (congrArg (Sigma.mk _) rfl) (congrArg₂ List.cons (congrArg (Sigma.mk _) rfl)
    (congrArg₂ List.cons (congrArg (Sigma.mk _) rfl) (congrArg₂ List.cons (congrArg (Sigma.mk _) rfl) rfl)))

theorem out_quot (hd : Fin 4) (a : Fin 512) (d : Fin 128) :
    out0_A_4 (F := Ideal) c i arg3 harg3 arg4 harg4 arg5 harg5 arg6 harg6 arg7 harg7 arg8 harg8 arg9 harg9 x0 x1 x2 x3 (ix2 a (row hd d)) = quot (pageLoad arg9.view (sums c i arg3 harg3 arg4 harg4 arg5 harg5 arg6 harg6 arg7 harg7 arg8 harg8 arg9 harg9 x0 x1 x2 x3) hd hd.2) (ix2 a d) := by
  unfold out0_A_4
  rw [out_pieces]
  exact read_cols VO0_4 VO0_4.junk (fun hd => quot (pageLoad arg9.view (sums c i arg3 harg3 arg4 harg4 arg5 harg5 arg6 harg6 arg7 harg7 arg8 harg8 arg9 harg9 x0 x1 x2 x3) hd hd.2)) _ _ _ _ hd a d

variable {x0 x1 x2 x3 r u}

theorem range_fin (b : ℕ) (hb : b < 4) (f : ℕ → ℝ) (hf : ∀ n, 512 * b + 512 ≤ n → f n = 0) :
    ∑ s ∈ Finset.range (512 * b + 512), f s = ∑ s : Fin 2048, f s := by
  rw [← Finset.sum_range]
  refine Finset.sum_subset (fun n hn => ?_) fun n _ hn => hf n (by simpa using hn)
  simp only [Finset.mem_range] at hn ⊢
  omega

/-- THE OUTPUT BLOCK: the values averaged by the weights of the keys up to the row's own place. -/
theorem out_apply (h : Reals x0 x1 x2 x3 r u) (hd : Fin 4) (a : Fin 512) (d : Fin 128) :
    out0_A_4 (F := Ideal) c i arg3 harg3 arg4 harg4 arg5 harg5 arg6 harg6 arg7 harg7 arg8 harg8 arg9 harg9 x0 x1 x2 x3 (ix2 a (row hd d))
      = (((∑ s : Fin 2048, (if s.val ≤ 512 * (i 2).val + a.val then (2 : ℝ) ^ r hd a s else 0) * u hd s d)
          / (∑ s : Fin 2048, if s.val ≤ 512 * (i 2).val + a.val then (2 : ℝ) ^ r hd a s else 0) : ℝ) : EReal) := by
  have hi : (i 2).val < 4 := (i 2).2
  have hw : ∀ s : Fin 2048, weight (i 2).val r hd a s = if s.val ≤ 512 * (i 2).val + a.val then (2 : ℝ) ^ r hd a s else 0 :=
    fun s => dif_pos s.2
  have hv : ∀ s : Fin 2048, value u hd s ⟨d.val, by omega⟩ = u hd s d := fun s => (dif_pos d.2).trans (dif_pos s.2)
  have hz : ∀ n, 512 * (i 2).val + 512 ≤ n → weight (i 2).val r hd a n = 0 := fun n hn => by
    unfold weight
    split
    · exact if_neg (by omega)
    · rfl
  have hpos : 0 < ∑ s : Fin 2048, weight (i 2).val r hd a s := by
    refine Finset.sum_pos' (fun s _ => ?_) ⟨⟨0, by omega⟩, Finset.mem_univ _, ?_⟩
    · rw [hw]
      split
      · exact (Real.rpow_pos_of_pos two_pos _).le
      · exact le_rfl
    · rw [hw, if_pos (Nat.zero_le _)]
      exact Real.rpow_pos_of_pos two_pos _
  rw [out_quot, quot_apply, pageLoad_apply, pageLoad_apply]
  obtain ⟨rb, a', rfl⟩ : ∃ rb a', row rb a' = a := ⟨⟨a.val / 128, by omega⟩, ⟨a.val % 128, by omega⟩, Fin.ext (by simp [row]; omega)⟩
  have hs := (final_state c i arg3 harg3 arg4 harg4 arg5 harg5 arg6 harg6 arg7 harg7 arg8 harg8 arg9 harg9 h hd rb a').quotient (by omega) ⟨d.val, by omega⟩ ⟨128 + d.val, by omega⟩
  rw [range_fin _ hi _ hz, range_fin _ hi _ (fun n hn => by rw [hz n hn, zero_mul])] at hs
  simp only [hw, hv] at hs hpos
  refine hs (fun s => dif_neg (by simp)) hpos.ne'

end out

end Cert.Fox

end
-- ==== Proof.Fox.Attn.lean ====
/- The forgetting attention over the reals, and the constants both programs write. -/
module

public import proofs.«01_k».proof.Proof.Fox.Math
public import Idealize.ShloMosaic.PureOps.Reduce

@[expose] public section

noncomputable section

namespace Cert.Fox

open Idealize.ShloMosaic

theorem bits_128 : Ideal.ofBits .f32 0x43000000#32 = ((128 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_neg_inf : Ideal.ofBits .f32 0xFF800000#32 = ⊥ := by
  simp [Ideal.ofBits, Ideal.ieee]

theorem bits_inf : Ideal.ofBits .f32 0x7F800000#32 = ⊤ := by
  simp [Ideal.ofBits, Ideal.ieee]

theorem sqrt_128 : Ideal.sqrt (Ideal.ofBits .f32 0x43000000#32) = ((Real.sqrt 128 : ℝ) : EReal) := by
  rw [bits_128, Ideal.sqrt_coe, if_neg (by norm_num)]

theorem log_2 : Ideal.log (Ideal.ofBits .f32 0x40000000#32) = ((Real.log 2 : ℝ) : EReal) := by
  rw [bits_2, Ideal.log_coe, if_neg (by norm_num)]

/-- A maximum over an axis, from minus infinity, is a real when no element is plus infinity and one is a real. -/
theorem reduce_max_real {s t u : Shape} {axes : List (Fin s.rank)} (h : s.ReducesTo axes t) (x : s.Idx → Ideal .f32) (init : u.Idx → Ideal .f32) (hu : 0 < u.numel)
    (h0 : init (Shape.Idx.first hu) = (⊥ : EReal)) (j : t.Idx) (i : s.Idx) (hi : h.drop i = j) (hf : ∀ i, (x i : EReal) < ⊤) (r : ℝ) (hx : x i = (r : EReal)) :
    ∃ M : ℝ, Host.reduce (FloatOps.maximumf (F := Ideal)) x init h hu j = (M : EReal) := by
  have e : Host.reduce (FloatOps.maximumf (F := Ideal)) x init h hu j
      = (Finset.univ.filter fun i => h.drop i = j).fold (max : EReal → EReal → EReal) (init (Shape.Idx.first hu)) x :=
    Host.reduce_eq_fold (max : EReal → EReal → EReal) x init h hu j
  rw [e, h0]
  have ht : Finset.fold (max : EReal → EReal → EReal) ⊥ x (Finset.univ.filter fun i => h.drop i = j) < ⊤ :=
    (Finset.fold_max_lt _).2 ⟨bot_lt_top, fun x _ => hf x⟩
  have hb : (r : EReal) ≤ Finset.fold (max : EReal → EReal → EReal) ⊥ x (Finset.univ.filter fun i => h.drop i = j) :=
    (Finset.le_fold_max _).2 (.inr ⟨i, Finset.mem_filter.2 ⟨Finset.mem_univ _, hi⟩, hx.ge⟩)
  exact ⟨_, (EReal.coe_toReal ht.ne (ne_bot_of_le_ne_bot (EReal.coe_ne_bot _) hb)).symm⟩

theorem maximumf_neg_inf (y : Ideal .f32) : FloatOps.maximumf (F := Ideal) (FloatOps.ofBits (F := Ideal) .f32 0xFF800000#32) y = y := by
  have h : (FloatOps.ofBits (F := Ideal) .f32 0xFF800000#32 : EReal) = ⊥ := bits_neg_inf
  exact (congrArg (fun z : EReal => max z y) h).trans (max_eq_right bot_le)

theorem maximumf_neg_inf_apply {s : Shape} (a y : FVec Ideal s .f32) (ha : ∀ i, a i = FloatOps.ofBits (F := Ideal) .f32 0xFF800000#32) (i : s.Idx) :
    maximumf a y i = y i :=
  (congrArg (fun z => FloatOps.maximumf (F := Ideal) z (y i)) (ha i)).trans (maximumf_neg_inf (y i))

/-- The logit of key `s` for query `t` of head `h`: the scaled product and the difference of the cumulative gates. -/
def logit (p : Fin 4 → Fin 2048 → Fin 6144 → ℝ) (g : Fin 4 → Fin 16 → Fin 2048 → ℝ) (b : Fin 4) (h : Fin 16) (t s : Fin 2048) : ℝ :=
  (∑ x : Fin 128, p b t ⟨h.val * 128 + x.val, by omega⟩ * p b s ⟨2048 + (h.val * 128 + x.val), by omega⟩) / Real.sqrt 128
    + (g b h t - g b h s)

/-- The attention's result in column `j` (head `j / 128`) at query `t`. -/
def attn (p : Fin 4 → Fin 2048 → Fin 6144 → ℝ) (g : Fin 4 → Fin 16 → Fin 2048 → ℝ) (b : Fin 4) (t j : Fin 2048) : ℝ :=
  (∑ s : Fin 2048, (if s.val ≤ t.val then Real.exp (logit p g b ⟨j.val / 128, by omega⟩ t s) else 0) * p b s ⟨4096 + j.val, by omega⟩)
    / ∑ s : Fin 2048, if s.val ≤ t.val then Real.exp (logit p g b ⟨j.val / 128, by omega⟩ t s) else 0

/-- A weighted mean does not change when all the weights are scaled. -/
theorem mean_scale (n : ℕ) (w w' v : Fin n → ℝ) (k : ℝ) (hk : k ≠ 0) (h : ∀ s, w' s = k * w s) :
    (∑ s, w' s * v s) / ∑ s, w' s = (∑ s, w s * v s) / ∑ s, w s := by
  simp only [h, mul_assoc, ← Finset.mul_sum]
  exact mul_div_mul_left _ _ hk

end Cert.Fox

end
-- ==== Proof.Fox.Host.lean ====
/- The host operations before the kernel: the projection with its query columns scaled, and the cumulative gates over ln 2. -/
module

public import proofs.«01_k».proof.Proof.Gen.KernelIdeal.Value
public import Idealize.ShloMosaic.Lib.Pointwise
public import Idealize.ShloMosaic.PureOps.Ideal
public import Idealize.ShloMosaic.Lib.WordCmp
public import proofs.«01_k».proof.Proof.Fox.Attn

@[expose] public section

noncomputable section

namespace Cert.Fox

open Idealize.ShloMosaic Idealize.ShloMosaic.TcCoe Cert.KernelIdeal Cert.KernelIdeal.Gen Idealize.ShloMosaic.Pointwise

/-- ln 2, as the host computes it. -/
def hLn2 : FVec Ideal S_ .f32 := Host.log (constant (F := Ideal) S_ .f32 0x40000000#32)

/-- The projection, its query columns scaled. -/
def hProj (p : FVec Ideal S4x2048x6144 .f32) : FVec Ideal S8192x6144 .bf16 :=
  truncf .bf16 (mulf (shapeCast S8192x6144 p shapeCasts_S4x2048x6144_S8192x6144)
    (select (cmpi .slt (iotaInDim S8192x6144 32 1) (broadcastInDim S8192x6144 ![] bcast_S_S8192x6144 (constantI S_ 32 2048#32)))
      (broadcastInDim S8192x6144 ![] bcast_S_S8192x6144
        (Host.divf (constant S_ .f32 0x3F800000#32) (mulf (Host.sqrt (constant (F := Ideal) S_ .f32 0x43000000#32)) hLn2)))
      (broadcastInDim S8192x6144 ![] bcast_S_S8192x6144 (constant S_ .f32 0x3F800000#32)))) bitsLt_bf16_f32

/-- The cumulative gates over ln 2. -/
def hCum (g : FVec Ideal S4x16x2048 .f32) : FVec Ideal S4x16x1x2048 .f32 :=
  broadcastInDim S4x16x1x2048 ![0, 1, 3] bcast_S4x16x2048_S4x16x1x2048_0_1_3
    (Host.divf g (broadcastInDim S4x16x2048 ![] bcast_S_S4x16x2048 hLn2))

variable (m : (ℓ : Loc nD τ sig) → Buf (Elt Ideal) ℓ)

theorem V_proj (c : Dev nD) : V m c main_v10 = hProj (m ((c : Thread nD τ).loc main_arg0)) := by
  unfold V
  simp only [hostOps0, hostOps0_1, hostOps0_2, List.flatten_cons, List.flatten_nil, List.append_nil, List.cons_append,
      List.nil_append, StableHlo.TRef.ternary, StableHlo.TRef.unary, StableHlo.TRef.toBuf, StableHlo.TRef.ofBuf, cast_eq]
  after_results_simp
  rfl

theorem V_cum (c : Dev nD) : V m c main_v13 = hCum (m ((c : Thread nD τ).loc main_arg1)) := by
  unfold V
  simp only [hostOps0, hostOps0_1, hostOps0_2, List.flatten_cons, List.flatten_nil, List.append_nil, List.cons_append,
      List.nil_append, StableHlo.TRef.ternary, StableHlo.TRef.unary, StableHlo.TRef.toBuf, StableHlo.TRef.ofBuf, cast_eq]
  after_results_simp
  rfl

theorem hProj_apply (P : FVec Ideal S4x2048x6144 .f32) (p : Fin 4 → Fin 2048 → Fin 6144 → ℝ) (hp : ∀ b t j, P (ix3 b t j) = (p b t j : EReal))
    (i : Fin 8192) (j : Fin 6144) :
    hProj P (ix2 i j) = ((p ⟨i.val / 2048, by omega⟩ ⟨i.val % 2048, by omega⟩ j
      * (if j.val < 2048 then 1 / (Real.sqrt 128 * Real.log 2) else 1) : ℝ) : EReal) := by
  pointwise [hProj, hLn2]
  have hc : IntOp.cmpi .slt (BitVec.ofNat 32 j.val) (2048#32) = BitVec.ofBool (decide (j.val < 2048)) :=
    WordCmp.cmpi_slt_ofNat (by omega) (by omega)
  have hl : (0 : ℝ) < Real.log 2 := Real.log_pos one_lt_two
  rw [hc, sqrt_128, log_2, hp, ← EReal.coe_mul, Ideal.div_coe (by positivity), one_mul, EReal.coe_mul]
  by_cases h : j.val < 2048 <;> simp [h, Scalar.select]

theorem hCum_apply (G : FVec Ideal S4x16x2048 .f32) (g : Fin 4 → Fin 16 → Fin 2048 → ℝ) (hg : ∀ b h t, G (ix3 b h t) = (g b h t : EReal))
    (b : Fin 4) (h : Fin 16) (z : Fin 1) (j : Fin 2048) : hCum G (ix4 b h z j) = ((g b h j / Real.log 2 : ℝ) : EReal) := by
  pointwise [hCum, hLn2]
  have hl : (0 : ℝ) < Real.log 2 := Real.log_pos one_lt_two
  rw [log_2, hg, Ideal.div_coe hl.ne', ← EReal.coe_mul, mul_one_div]

end Cert.Fox

end
-- ==== Proof.Fox.Block.lean ====
/- The whole result array: every block, and where the blocks lie. -/
module

public import proofs.«01_k».proof.Proof.Fox.Out
public import proofs.«01_k».proof.Proof.Fox.Host

@[expose] public section

noncomputable section

namespace Cert.Fox

open Idealize.ShloMosaic Idealize.ShloMosaic.TcCoe Cert.KernelIdeal Cert.KernelIdeal.Gen Cert.KernelIdeal.Value Idealize.ShloMosaic.Pointwise Idealize.SL.Sem

/-- The place `o + x` of an axis. -/
abbrev at' {n k : ℕ} (o : ℕ) (x : Fin k) (h : o + k ≤ n) : Fin n := ⟨o + x.val, by omega⟩

/-- Two to the power of a block's logit is the exponential of the attention's, but for a factor of the row's. -/
theorem two_rpow (S l g k : ℝ) (hl : l = Real.log 2) (hk : 0 < k) (gt : ℝ) :
    (2 : ℝ) ^ (S * (1 / (k * l)) - g / l) = Real.exp (-gt) * Real.exp (S / k + (gt - g)) := by
  have h2 : (0 : ℝ) < Real.log 2 := Real.log_pos one_lt_two
  rw [Real.rpow_def_of_pos two_pos, ← Real.exp_add, hl]
  refine congrArg Real.exp ?_
  field_simp
  ring

section block
variable (c : Dev nD) (i : grid0.Coords) (arg3 : Memref sig .tc .vmem S512x512 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1x4x1x2048 .f32) (harg6 : arg6.IsWhole) (arg7 : Memref sig .tc .vmem S512x512 .bf16) (harg7 : arg7.IsWhole)
  (arg8 : Memref sig .tc .vmem S4x512x128 .f32) (harg8 : arg8.IsWhole) (arg9 : Memref sig .tc .vmem S4x512x256 .f32) (harg9 : arg9.IsWhole)

  {P : FVec Ideal S4x2048x6144 .f32} {G : FVec Ideal S4x16x2048 .f32}
  {p : Fin 4 → Fin 2048 → Fin 6144 → ℝ} {g : Fin 4 → Fin 16 → Fin 2048 → ℝ}

/-- A grid point's block is the attention's, at the rows and columns the point has. -/
theorem block_apply (hp : ∀ b t j, P (ix3 b t j) = (p b t j : EReal)) (hg : ∀ b h t, G (ix3 b h t) = (g b h t : EReal))
    (x0 : Vec Ideal S512x512 .bf16) (x1 : Vec Ideal S2048x512 .bf16) (x2 : Vec Ideal S2048x512 .bf16) (x3 : Vec Ideal S1x4x1x2048 .f32)
    (b hh q : Fin 4) (hq : (i 2).val = q.val)
    (h0 : ∀ (a : Fin 512) (l : Fin 512), x0 (ix2 a l) = hProj P (ix2 (at' ((b.val * 4 + q.val) * 512) a (by omega)) (at' (hh.val * 512) l (by omega))))
    (h1 : ∀ (s : Fin 2048) (l : Fin 512), x1 (ix2 s l) = hProj P (ix2 (at' (b.val * 2048) s (by omega)) (at' ((4 + hh.val) * 512) l (by omega))))
    (h2 : ∀ (s : Fin 2048) (l : Fin 512), x2 (ix2 s l) = hProj P (ix2 (at' (b.val * 2048) s (by omega)) (at' ((8 + hh.val) * 512) l (by omega))))
    (h3 : ∀ (hd : Fin 4) (s : Fin 2048), x3 (ix4 0 hd 0 s) = hCum G (ix4 b (at' (hh.val * 4) hd (by omega)) 0 s))
    (hd : Fin 4) (a : Fin 512) (d : Fin 128) :
    out0_A_4 (F := Ideal) c i arg3 harg3 arg4 harg4 arg5 harg5 arg6 harg6 arg7 harg7 arg8 harg8 arg9 harg9 x0 x1 x2 x3 (ix2 a (row hd d))
      = (attn p g b (at' (q.val * 512) a (by omega)) (at' (hh.val * 512) (row hd d) (by omega)) : EReal) := by
  have hl : (0 : ℝ) < Real.log 2 := Real.log_pos one_lt_two
  have hR : Reals x0 x1 x2 x3
      (fun hd a s => (∑ x : Fin 128, p b (at' (q.val * 512) a (by omega)) (at' (hh.val * 512) (row hd x) (by omega))
          * p b s (at' ((4 + hh.val) * 512) (row hd x) (by omega))) * (1 / (Real.sqrt 128 * Real.log 2)) - g b (at' (hh.val * 4) hd (by omega)) s / Real.log 2)
      (fun hd s d => p b s (at' ((8 + hh.val) * 512) (row hd d) (by omega))) := by
    constructor
    · intro hd a s
      have e0 : ∀ d : Fin 128, x0 (ix2 a (row hd d)) = ((p b (at' (q.val * 512) a (by omega)) (at' (hh.val * 512) (row hd d) (by omega))
          * (1 / (Real.sqrt 128 * Real.log 2)) : ℝ) : EReal) := by
        intro d
        rw [h0, hProj_apply P p hp, if_pos (by simp [row]; omega)]
        congr 3
        · apply Fin.ext; simp; omega
        · apply Fin.ext; simp; omega
      have e1 : ∀ d : Fin 128, x1 (ix2 s (row hd d)) = ((p b s (at' ((4 + hh.val) * 512) (row hd d) (by omega)) : ℝ) : EReal) := by
        intro d
        rw [h1, hProj_apply P p hp, if_neg (by simp [row]; omega), mul_one]
        congr 2
        · apply Fin.ext; simp; omega
        · apply Fin.ext; simp
      simp only [e0, e1, ← EReal.coe_mul, coe_sum]
      rw [h3, hCum_apply G g hg, ← EReal.coe_sub, Finset.sum_mul]
      exact congrArg (fun z : ℝ => ((z - _ : ℝ) : EReal)) (Finset.sum_congr rfl fun d _ => by ring)
    · intro hd s d
      rw [h2, hProj_apply P p hp, if_neg (by simp [row]; omega), mul_one]
      congr 2
      · apply Fin.ext; simp; omega
      · apply Fin.ext; simp
  rw [out_apply c i arg3 harg3 arg4 harg4 arg5 harg5 arg6 harg6 arg7 harg7 arg8 harg8 arg9 harg9 hR hd a d]
  refine congrArg (fun x : ℝ => (x : EReal)) ?_
  have hv : (i 2).val * 512 = q.val * 512 := by rw [hq]
  unfold attn
  refine (mean_scale 2048 (fun s => if s.val ≤ q.val * 512 + a.val then Real.exp (logit p g b (at' (hh.val * 4) hd (by omega)) (at' (q.val * 512) a (by omega)) s) else 0) _ _
    (Real.exp (-(g b (at' (hh.val * 4) hd (by omega)) (at' (q.val * 512) a (by omega))))) (Real.exp_pos _).ne' (fun s => ?_)).trans ?_
  · rw [hq, mul_comm 512 q.val]
    split
    · rw [two_rpow _ _ _ _ rfl (by positivity) (g b (at' (hh.val * 4) hd (by omega)) (at' (q.val * 512) a (by omega)))]
      unfold logit
      refine congrArg (fun z : ℝ => Real.exp _ * Real.exp (z / Real.sqrt 128 + _)) (Finset.sum_congr rfl fun x _ => ?_)
      congr 2
      · apply Fin.ext; simp [row]; omega
      · apply Fin.ext; simp [row]; omega
    · exact (mul_zero _).symm
  · have ej : (⟨(at' (hh.val * 512) (row hd d) (by omega) : Fin 2048).val / 128, by omega⟩ : Fin 16) = at' (hh.val * 4) hd (by omega) := by
      apply Fin.ext; simp [row]; omega
    have ec : ∀ s : Fin 2048, p b s (at' ((8 + hh.val) * 512) (row hd d) (by omega)) = p b s ⟨4096 + (at' (hh.val * 512) (row hd d) (by omega) : Fin 2048).val, by omega⟩ := by
      intro s
      congr 1
      apply Fin.ext; simp; omega
    simp only [ej, ec]

end block

end Cert.Fox

end
-- ==== Proof.Fox.Final.lean ====
/- The result array after the run, from the blocks the grid points write back. -/
module

public import proofs.«01_k».proof.Proof.Fox.Block

@[expose] public section

noncomputable section

namespace Cert.Fox

open Idealize.ShloMosaic Idealize.ShloMosaic.TcCoe Cert.KernelIdeal Cert.KernelIdeal.Gen Cert.KernelIdeal.Value Idealize.ShloMosaic.Pointwise Idealize.SL.Sem

/-- The windows' block indices at a grid point: batch, head group and query tile. -/
theorem index0 : ∀ t : Fin grid0.N, win0_0.index t (0 : Fin 2) = (grid0.coords t 0).val * 4 + (grid0.coords t 2).val
    ∧ win0_0.index t (1 : Fin 2) = (grid0.coords t 1).val := by decide +kernel
theorem index1 : ∀ t : Fin grid0.N, win0_1.index t (0 : Fin 2) = (grid0.coords t 0).val
    ∧ win0_1.index t (1 : Fin 2) = 4 + (grid0.coords t 1).val := by decide +kernel
theorem index2 : ∀ t : Fin grid0.N, win0_2.index t (0 : Fin 2) = (grid0.coords t 0).val
    ∧ win0_2.index t (1 : Fin 2) = 8 + (grid0.coords t 1).val := by decide +kernel
theorem index3 : ∀ t : Fin grid0.N, win0_3.index t (0 : Fin 4) = (grid0.coords t 0).val
    ∧ win0_3.index t (1 : Fin 4) = (grid0.coords t 1).val ∧ win0_3.index t (2 : Fin 4) = 0 ∧ win0_3.index t (3 : Fin 4) = 0 := by decide +kernel
theorem index4 : ∀ t : Fin grid0.N, win0_4.index t (0 : Fin 2) = (grid0.coords t 0).val * 4 + (grid0.coords t 2).val
    ∧ win0_4.index t (1 : Fin 2) = (grid0.coords t 1).val := by decide +kernel
theorem coords_of : ∀ b h q : Fin 4, ∃ t : Fin grid0.N, (grid0.coords t 0).val = b.val ∧ (grid0.coords t 1).val = h.val ∧ (grid0.coords t 2).val = q.val := by
  decide +kernel

section blocks
variable (t : Fin cfg0.N) (b h : Fin 4) (hb : (grid0.coords t 0).val = b.val) (hh : (grid0.coords t 1).val = h.val)
include hb hh

theorem emb4 (q : Fin 4) (hq : (grid0.coords t 2).val = q.val) (a l : Fin 512) :
    ((cfg0.win 4).blk t).view.emb (ix2 a l) = (ix2 (at' ((b.val * 4 + q.val) * 512) a (by omega)) (at' (h.val * 512) l (by omega)) : S8192x2048.Idx) := by
  obtain ⟨e0, e1⟩ := index4 t
  funext x; apply Fin.ext
  match x with
  | ⟨0, _⟩ => show win0_4.index t (0 : Fin 2) * 512 + 1 * a.val = (b.val * 4 + q.val) * 512 + a.val; rw [e0, hb, hq]; omega
  | ⟨1, _⟩ => show win0_4.index t (1 : Fin 2) * 512 + 1 * l.val = h.val * 512 + l.val; rw [e1, hh]; omega

theorem emb0 (q : Fin 4) (hq : (grid0.coords t 2).val = q.val) (a l : Fin 512) :
    ((cfg0.win 0).blk t).view.emb (ix2 a l) = (ix2 (at' ((b.val * 4 + q.val) * 512) a (by omega)) (at' (h.val * 512) l (by omega)) : S8192x6144.Idx) := by
  obtain ⟨e0, e1⟩ := index0 t
  funext x; apply Fin.ext
  match x with
  | ⟨0, _⟩ => show win0_0.index t (0 : Fin 2) * 512 + 1 * a.val = (b.val * 4 + q.val) * 512 + a.val; rw [e0, hb, hq]; omega
  | ⟨1, _⟩ => show win0_0.index t (1 : Fin 2) * 512 + 1 * l.val = h.val * 512 + l.val; rw [e1, hh]; omega

theorem emb1 (s : Fin 2048) (l : Fin 512) :
    ((cfg0.win 1).blk t).view.emb (ix2 s l) = (ix2 (at' (b.val * 2048) s (by omega)) (at' ((4 + h.val) * 512) l (by omega)) : S8192x6144.Idx) := by
  obtain ⟨e0, e1⟩ := index1 t
  funext x; apply Fin.ext
  match x with
  | ⟨0, _⟩ => show win0_1.index t (0 : Fin 2) * 2048 + 1 * s.val = b.val * 2048 + s.val; rw [e0, hb]; omega
  | ⟨1, _⟩ => show win0_1.index t (1 : Fin 2) * 512 + 1 * l.val = (4 + h.val) * 512 + l.val; rw [e1, hh]; omega

theorem emb2 (s : Fin 2048) (l : Fin 512) :
    ((cfg0.win 2).blk t).view.emb (ix2 s l) = (ix2 (at' (b.val * 2048) s (by omega)) (at' ((8 + h.val) * 512) l (by omega)) : S8192x6144.Idx) := by
  obtain ⟨e0, e1⟩ := index2 t
  funext x; apply Fin.ext
  match x with
  | ⟨0, _⟩ => show win0_2.index t (0 : Fin 2) * 2048 + 1 * s.val = b.val * 2048 + s.val; rw [e0, hb]; omega
  | ⟨1, _⟩ => show win0_2.index t (1 : Fin 2) * 512 + 1 * l.val = (8 + h.val) * 512 + l.val; rw [e1, hh]; omega

theorem emb3 (hd : Fin 4) (s : Fin 2048) :
    ((cfg0.win 3).blk t).view.emb (ix4 0 hd 0 s) = (ix4 b (at' (h.val * 4) hd (by omega)) 0 s : S4x16x1x2048.Idx) := by
  obtain ⟨e0, e1, e2, e3⟩ := index3 t
  funext x; apply Fin.ext
  match x with
  | ⟨0, _⟩ => show win0_3.index t (0 : Fin 4) * 1 + 1 * 0 = b.val; rw [e0, hb]; omega
  | ⟨1, _⟩ => show win0_3.index t (1 : Fin 4) * 4 + 1 * hd.val = h.val * 4 + hd.val; rw [e1, hh]; omega
  | ⟨2, _⟩ => show win0_3.index t (2 : Fin 4) * 1 + 1 * 0 = 0; rw [e2]
  | ⟨3, _⟩ => show win0_3.index t (3 : Fin 4) * 2048 + 1 * s.val = s.val; rw [e3]; omega

end blocks

/-- The attention as an array. -/
def attnArr (p : Fin 4 → Fin 2048 → Fin 6144 → ℝ) (g : Fin 4 → Fin 16 → Fin 2048 → ℝ) : FVec Ideal S8192x2048 .bf16 := fun i =>
  let r : Fin 8192 := i 0
  (attn p g ⟨r.val / 2048, by omega⟩ ⟨r.val % 2048, by omega⟩ (i 1) : EReal)

theorem attnArr_apply (p : Fin 4 → Fin 2048 → Fin 6144 → ℝ) (g : Fin 4 → Fin 16 → Fin 2048 → ℝ) (i : Fin 8192) (j : Fin 2048) :
    attnArr p g (ix2 i j) = (attn p g ⟨i.val / 2048, by omega⟩ ⟨i.val % 2048, by omega⟩ j : EReal) := rfl

variable (m : (ℓ : Loc nD τ sig) → Buf (Elt Ideal) ℓ) (ρ : Dev nD → PrngReg) (c : Dev nD)
  {p : Fin 4 → Fin 2048 → Fin 6144 → ℝ} {g : Fin 4 → Fin 16 → Fin 2048 → ℝ}

/-- What a grid point writes back is its block of the attention's array. -/
theorem flushed_eq (hp : ∀ b t j, (m ((c : Thread nD τ).loc main_arg0) : FVec Ideal S4x2048x6144 .f32) (ix3 b t j) = (p b t j : EReal))
    (hg : ∀ b h t, (m ((c : Thread nD τ).loc main_arg1) : FVec Ideal S4x16x2048 .f32) (ix3 b h t) = (g b h t : EReal)) (t : Fin cfg0.N) :
    (dats m 0 c).flushed 4 t = ((cfg0.win 4).blk t).view.read (Elt Ideal) (attnArr p g) := by
  obtain ⟨b, hb⟩ : ∃ b : Fin 4, (grid0.coords t 0).val = b.val := ⟨grid0.coords t 0, rfl⟩
  obtain ⟨h, hh⟩ : ∃ b : Fin 4, (grid0.coords t 1).val = b.val := ⟨grid0.coords t 1, rfl⟩
  obtain ⟨q, hq⟩ : ∃ b : Fin 4, (grid0.coords t 2).val = b.val := ⟨grid0.coords t 2, rfl⟩
  rw [flushed4_A]
  funext j
  obtain ⟨a, l, rfl⟩ : ∃ a l : Fin 512, j = (ix2 a l : S512x512.Idx) := ⟨j 0, j 1, eq_ix2 (n0 := 512) (n1 := 512) j⟩
  obtain ⟨hd, d, rfl⟩ : ∃ hd d, row hd d = l := ⟨⟨l.val / 128, by omega⟩, ⟨l.val % 128, by omega⟩, Fin.ext (by simp [row]; omega)⟩
  refine (block_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) hp hg (iblk m c 0 t) (iblk m c 1 t) (iblk m c 2 t) (iblk m c 3 t) b h q hq
    (fun a l => ?_) (fun s l => ?_) (fun s l => ?_) (fun hd s => ?_) hd a d).trans ?_
  · exact (congrArg (V m c main_v10) (emb0 t b h hb hh q hq a l)).trans (congrFun (V_proj m c) _)
  · exact (congrArg (V m c main_v10) (emb1 t b h hb hh s l)).trans (congrFun (V_proj m c) _)
  · exact (congrArg (V m c main_v10) (emb2 t b h hb hh s l)).trans (congrFun (V_proj m c) _)
  · exact (congrArg (V m c main_v13) (emb3 t b h hb hh hd s)).trans (congrFun (V_cum m c) _)
  · refine Eq.trans ?_ (congrArg (attnArr p g) (emb4 t b h hb hh q hq a (row hd d))).symm
    rw [attnArr_apply]
    congr 2
    · apply Fin.ext; simp; omega
    · apply Fin.ext; simp; omega

/-- Every place of the result array is in a point's block. -/
theorem covered (i : S8192x2048.Idx) : ∃ t : Fin cfg0.N, (cfg0.win 4).flush t = true ∧ i ∈ ((cfg0.win 4).blk t).view.set := by
  obtain ⟨r, j, rfl⟩ : ∃ (r : Fin 8192) (j : Fin 2048), i = (ix2 r j : S8192x2048.Idx) := ⟨i 0, i 1, eq_ix2 (n0 := 8192) (n1 := 2048) i⟩
  obtain ⟨t, hb, hh, hq⟩ := coords_of ⟨r.val / 2048, by omega⟩ ⟨j.val / 512, by omega⟩ ⟨r.val % 2048 / 512, by omega⟩
  refine ⟨t, flush0_4 _, ?_⟩
  have e : ((cfg0.win 4).blk t).view.emb (ix2 (⟨r.val % 512, by omega⟩ : Fin 512) (⟨j.val % 512, by omega⟩ : Fin 512)) = (ix2 r j : S8192x2048.Idx) :=
    (emb4 t _ _ hb hh _ hq _ _).trans (by congr 1 <;> apply Fin.ext <;> simp <;> omega)
  exact e ▸ ((cfg0.win 4).blk t).view.emb_mem_set (ix2 (⟨r.val % 512, by omega⟩ : Fin 512) (⟨j.val % 512, by omega⟩ : Fin 512))

/-- THE RESULT ARRAY after the run is the attention of the argument arrays. -/
theorem final (hp : ∀ b t j, (m ((c : Thread nD τ).loc main_arg0) : FVec Ideal S4x2048x6144 .f32) (ix3 b t j) = (p b t j : EReal))
    (hg : ∀ b h t, (m ((c : Thread nD τ).loc main_arg1) : FVec Ideal S4x16x2048 .f32) (ix3 b h t) = (g b h t : EReal)) :
    (dats m 0 c).arrAt 4 cfg0.N = attnArr p g :=
  (dats m 0 c).arrAt_eq_of_cover 4 (attnArr p g) (fun t _ => flushed_eq m c hp hg t) covered

end Cert.Fox

end
-- ==== Proof.Fox.Finite.lean ====
/- What the precondition says: every entry of the two argument arrays is a real number. -/
module

public import proofs.«01_k».proof.Pre_finite
public import proofs.«01_k».proof.Proof.Gen.Pre_finite
public import proofs.«01_k».proof.Proof.Fox.Attn
public import Idealize.ShloMosaic.Lib.ReduceAll
public import Idealize.ShloMosaic.Lib.Affine
public import Idealize.ShloMosaic.Lib.Pointwise
public import Idealize.ShloMosaic.PureOps.Ideal

@[expose] public section

noncomputable section

namespace Cert.Fox

open Idealize.ShloMosaic Idealize.ShloMosaic.Pointwise Cert.Pre_finite

instance : Subsingleton S_.Idx := ⟨fun a b => funext fun k => k.elim0⟩

/-- A number whose absolute value is below infinity is real. -/
theorem real_of_abs_lt {x : EReal} (h : FloatOps.cmpf (F := Ideal) (φ := .f32) .olt (FloatOps.absf (F := Ideal) (φ := .f32) x) (Ideal.ofBits .f32 0x7F800000#32) = 1#1) :
    x = (x.toReal : EReal) := by
  rw [bits_inf] at h
  induction x with
  | bot => exfalso; simp [FloatOps.cmpf, FloatOps.absf, Ideal.cmp] at h
  | top => exfalso; simp [FloatOps.cmpf, FloatOps.absf, Ideal.cmp] at h
  | coe r => rfl

/-- THE PRECONDITION makes both arrays real. -/
theorem reals_of_finite (P : FVec Ideal S4x2048x6144 .f32) (G : FVec Ideal S4x16x2048 .f32)
    (h : Cert.Pre_finite.fn (F := Ideal) P G = fun _ => 1#1) : (∀ i, P i = ((P i : EReal).toReal : EReal)) ∧ (∀ i, G i = ((G i : EReal).toReal : EReal)) := by
  have e := congrFun h ix0
  unfold Cert.Pre_finite.fn at e
  have e' := IntOp.andi_eq_one.1 e
  exact ⟨fun i => real_of_abs_lt (Host.reduce_andi_all _ _ _ _ ix0 e'.1 i), fun i => real_of_abs_lt (Host.reduce_andi_all _ _ _ _ ix0 e'.2 i)⟩

end Cert.Fox

end
-- ==== Proof.Fox.Ref.lean ====
/- The reference's result at an index: the softmax of the gated logits, averaged over the values. -/
module

public import proofs.«01_k».proof.Proof.Gen.ReferenceIdeal.Run
public import Idealize.ShloMosaic.Lib.Pointwise
public import Idealize.ShloMosaic.Lib.WordCmp
public import Idealize.ShloMosaic.PureOps.Ideal
public import proofs.«01_k».proof.Proof.Fox.Attn

@[expose] public section

noncomputable section

namespace Cert.Fox.Ref

open Idealize.ShloMosaic Idealize.ShloMosaic.TcCoe Cert.ReferenceIdeal Cert.ReferenceIdeal.Gen Idealize.ShloMosaic.Pointwise

def qOf (p : FVec Ideal S4x2048x6144 .f32) : FVec Ideal S4x2048x16x128 .f32 :=
  shapeCast _ (extractStridedSlice S4x2048x2048 ![0, 0, 0] p slices_S4x2048x6144_S4x2048x2048_0_0_0) shapeCasts_S4x2048x2048_S4x2048x16x128
def kOf (p : FVec Ideal S4x2048x6144 .f32) : FVec Ideal S4x2048x16x128 .f32 :=
  shapeCast _ (extractStridedSlice S4x2048x2048 ![0, 0, 2048] p slices_S4x2048x6144_S4x2048x2048_0_0_2048) shapeCasts_S4x2048x2048_S4x2048x16x128
def vOf (p : FVec Ideal S4x2048x6144 .f32) : FVec Ideal S4x2048x16x128 .f32 :=
  shapeCast _ (extractStridedSlice S4x2048x2048 ![0, 0, 4096] p slices_S4x2048x6144_S4x2048x2048_0_0_4096) shapeCasts_S4x2048x2048_S4x2048x16x128

/-- Where a key is not after its query. -/
def causal : IVec S4x16x2048x2048 1 :=
  broadcastInDim S4x16x2048x2048 ![2, 3] bcast_S2048x2048_S4x16x2048x2048_2_3 (cmpi .sge
    (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

/-- A row's gate against a key's. -/
def gates (g : FVec Ideal S4x16x2048 .f32) : FVec Ideal S4x16x2048x2048 .f32 :=
  subf (broadcastInDim S4x16x2048x2048 ![0, 1, 2, 3] bcast_S4x16x2048x1_S4x16x2048x2048_0_1_2_3 (broadcastInDim S4x16x2048x1 ![0, 1, 2] bcast_S4x16x2048_S4x16x2048x1_0_1_2 g))
    (broadcastInDim S4x16x2048x2048 ![0, 1, 2, 3] bcast_S4x16x1x2048_S4x16x2048x2048_0_1_2_3 (broadcastInDim S4x16x1x2048 ![0, 1, 3] bcast_S4x16x2048_S4x16x1x2048_0_1_3 g))

/-- The masked logits. -/
def logits (p : FVec Ideal S4x2048x6144 .f32) (g : FVec Ideal S4x16x2048 .f32) : FVec Ideal S4x16x2048x2048 .f32 :=
  select causal (addf (Host.divf (Host.dotGeneral dot_S4x2048x16x128_S4x2048x16x128_S4x16x2048x2048_3_3_1_1_02_02 none (qOf p) (kOf p))
      (broadcastInDim S4x16x2048x2048 ![] bcast_S_S4x16x2048x2048 (Host.sqrt (constant S_ .f32 0x43000000#32)))) (gates g))
    (broadcastInDim S4x16x2048x2048 ![] bcast_S_S4x16x2048x2048 (id (constant S_ .f32 0xFF800000#32)))

def redMax (x : FVec Ideal S4x16x2048x2048 .f32) : FVec Ideal S4x16x2048 .f32 :=
  Host.reduce FloatOps.maximumf x (constant S_ .f32 0xFF800000#32) reducesTo_S4x16x2048x2048_S4x16x2048_d3 h_S_

def maxes (x : FVec Ideal S4x16x2048x2048 .f32) : FVec Ideal S4x16x2048 .f32 :=
  maximumf (broadcastInDim S4x16x2048 ![] bcast_S_S4x16x2048 (constant S_ .f32 0xFF800000#32))
    (redMax x)

theorem redMax_real (x : FVec Ideal S4x16x2048x2048 .f32) (b : Fin 4) (h : Fin 16) (t s : Fin 2048) (hf : ∀ i, (x i : EReal) < ⊤) (r : ℝ)
    (hx : x (ix4 b h t s) = (r : EReal)) : ∃ M : ℝ, redMax x (ix3 b h t) = (M : EReal) :=
  reduce_max_real reducesTo_S4x16x2048x2048_S4x16x2048_d3 x (constant S_ .f32 0xFF800000#32) h_S_ bits_neg_inf
    (ix3 b h t) (ix4 b h t s) (((reducesTo_S4x16x2048x2048_S4x16x2048_d3).fiber_r4_a3 _ _).2 ⟨s, rfl⟩) hf r hx

theorem maxes_eq (x : FVec Ideal S4x16x2048x2048 .f32) (b : Fin 4) (h : Fin 16) (t : Fin 2048) : maxes x (ix3 b h t) = redMax x (ix3 b h t) := by
  unfold maxes
  generalize redMax x = y
  exact maximumf_neg_inf_apply _ y (fun i => rfl) _

def exps (x : FVec Ideal S4x16x2048x2048 .f32) (y : FVec Ideal S4x16x2048 .f32) : FVec Ideal S4x16x2048x2048 .f32 :=
  Host.exp (subf x (broadcastInDim S4x16x2048x2048 ![0, 1, 2, 3] bcast_S4x16x2048x1_S4x16x2048x2048_0_1_2_3 (broadcastInDim S4x16x2048x1 ![0, 1, 2] bcast_S4x16x2048_S4x16x2048x1_0_1_2 y)))

def sums (e : FVec Ideal S4x16x2048x2048 .f32) : FVec Ideal S4x16x2048 .f32 :=
  Host.reduceAdd e (constant S_ .f32 0x00000000#32) reducesTo_S4x16x2048x2048_S4x16x2048_d3 h_S_

def probs (e : FVec Ideal S4x16x2048x2048 .f32) (z : FVec Ideal S4x16x2048 .f32) : FVec Ideal S4x16x2048x2048 .f32 :=
  Host.divf e (broadcastInDim S4x16x2048x2048 ![0, 1, 2, 3] bcast_S4x16x2048x1_S4x16x2048x2048_0_1_2_3 (broadcastInDim S4x16x2048x1 ![0, 1, 2] bcast_S4x16x2048_S4x16x2048x1_0_1_2 z))

def outs (v : FVec Ideal S4x2048x16x128 .f32) (w : FVec Ideal S4x16x2048x2048 .f32) : FVec Ideal S8192x2048 .bf16 :=
  truncf .bf16 (shapeCast _ (transpose S4x2048x16x128 [0, 3, 1, 2]
    (Host.dotGeneral dot_S4x2048x16x128_S4x16x2048x2048_S4x16x128x2048_1_3_3_2_02_01 none v w) transposes_S4x16x128x2048_S4x2048x16x128_0_3_1_2)
    shapeCasts_S4x2048x16x128_S8192x2048) bitsLt_bf16_f32

/-- The reference's result, in its stages. -/
def result (p : FVec Ideal S4x2048x6144 .f32) (g : FVec Ideal S4x16x2048 .f32) : FVec Ideal S8192x2048 .bf16 :=
  outs (vOf p) (probs (exps (logits p g) (maxes (logits p g))) (sums (exps (logits p g) (maxes (logits p g)))))

theorem res_eq (m : (ℓ : Loc nD τ sig) → Buf (Elt Ideal) ℓ) (c : Dev nD) :
    Value.res_main_v37 m c = result (m ((c.tc : Thread nD τ).loc main_arg0)) (m ((c.tc : Thread nD τ).loc main_arg1)) := by
  unfold Value.res_main_v37
  rfl

/-- Arrays that hold the reals `p` and `g`. -/
structure Holds (P : FVec Ideal S4x2048x6144 .f32) (G : FVec Ideal S4x16x2048 .f32)
    (p : Fin 4 → Fin 2048 → Fin 6144 → ℝ) (g : Fin 4 → Fin 16 → Fin 2048 → ℝ) : Prop where
  proj : ∀ b t j, P (ix3 b t j) = (p b t j : EReal)
  cum : ∀ b h t, G (ix3 b h t) = (g b h t : EReal)

section
variable {P : FVec Ideal S4x2048x6144 .f32} {G : FVec Ideal S4x16x2048 .f32}
  {p : Fin 4 → Fin 2048 → Fin 6144 → ℝ} {g : Fin 4 → Fin 16 → Fin 2048 → ℝ} (hold : Holds P G p g)
include hold

theorem logits_apply (b : Fin 4) (h : Fin 16) (t s : Fin 2048) :
    logits P G (ix4 b h t s) = if s.val ≤ t.val then (logit p g b h t s : EReal) else ⊥ := by
  pointwise [logits, gates, causal, qOf, kOf]
  have hc : IntOp.cmpi .sge (BitVec.ofNat 32 t.val) (BitVec.ofNat 32 s.val) = BitVec.ofBool (decide (s.val ≤ t.val)) :=
    WordCmp.cmpi_sge_ofNat (by omega) (by omega)
  have hi : (id (constant (F := Ideal) S_ FTy.f32 4286578688#32) ix0 : EReal) = ⊥ := bits_neg_inf
  rw [hc, hi, sqrt_128]
  simp only [hold.proj, hold.cum]
  by_cases hs : s.val ≤ t.val
  · simp only [hs, decide_true, if_true]
    show Ideal.div _ _ + _ = _
    rw [Ideal.div_coe (by positivity)]
    simp only [← EReal.coe_mul, coe_sum, ← EReal.coe_sub, ← EReal.coe_add]
    unfold logit
    rw [mul_one_div]
  · simp [hs, Scalar.select]

theorem maxes_apply (b : Fin 4) (h : Fin 16) (t : Fin 2048) : ∃ M : ℝ, maxes (logits P G) (ix3 b h t) = (M : EReal) := by
  have hlt : ∀ i, (logits P G i : EReal) < ⊤ := by
    intro i
    obtain ⟨b', h', t', s', rfl⟩ : ∃ b' h' t' s', i = ix4 b' h' t' s' := ⟨_, _, _, _, eq_ix4 i⟩
    rw [logits_apply hold]
    split
    · exact EReal.coe_lt_top _
    · exact bot_lt_top
  obtain ⟨M, hM⟩ := redMax_real (logits P G) b h t t hlt (logit p g b h t t) ((logits_apply hold b h t t).trans (if_pos le_rfl))
  exact ⟨M, (maxes_eq _ b h t).trans hM⟩

/-- A row of the weights, averaged over a column of the values. -/
theorem mean_apply (b : Fin 4) (h : Fin 16) (t : Fin 2048) (v : Fin 2048 → ℝ) :
    ∑ s, (v s : EReal) * probs (exps (logits P G) (maxes (logits P G))) (sums (exps (logits P G) (maxes (logits P G)))) (ix4 b h t s)
      = (((∑ s : Fin 2048, (if s.val ≤ t.val then Real.exp (logit p g b h t s) else 0) * v s)
          / ∑ s : Fin 2048, if s.val ≤ t.val then Real.exp (logit p g b h t s) else 0 : ℝ) : EReal) := by
  obtain ⟨M, hM⟩ := maxes_apply hold b h t
  have he : ∀ s : Fin 2048, exps (logits P G) (maxes (logits P G)) (ix4 b h t s)
      = ((if s.val ≤ t.val then Real.exp (logit p g b h t s - M) else 0 : ℝ) : EReal) := by
    intro s
    have e : exps (logits P G) (maxes (logits P G)) (ix4 b h t s) = Ideal.exp (logits P G (ix4 b h t s) - maxes (logits P G) (ix3 b h t)) := by
      pointwise [exps]
    rw [e, logits_apply hold, hM]
    by_cases hs : s.val ≤ t.val
    · rw [if_pos hs, if_pos hs, ← EReal.coe_sub, Ideal.exp_coe]
    · rw [if_neg hs, if_neg hs, EReal.bot_sub, Ideal.exp_bot, EReal.coe_zero]
  have hz : sums (exps (logits P G) (maxes (logits P G))) (ix3 b h t)
      = ((∑ s : Fin 2048, if s.val ≤ t.val then Real.exp (logit p g b h t s - M) else 0 : ℝ) : EReal) := by
    have e : sums (exps (logits P G) (maxes (logits P G))) (ix3 b h t) = ∑ s, exps (logits P G) (maxes (logits P G)) (ix4 b h t s) := by
      pointwise [sums]
    rw [e]
    simp only [he]
    exact coe_sum _ _
  have hpos : 0 < ∑ s : Fin 2048, if s.val ≤ t.val then Real.exp (logit p g b h t s - M) else 0 := by
    refine Finset.sum_pos' (fun s _ => ?_) ⟨t, Finset.mem_univ _, ?_⟩
    · split
      · exact (Real.exp_pos _).le
      · exact le_rfl
    · rw [if_pos le_rfl]
      exact Real.exp_pos _
  have hw : ∀ s : Fin 2048, probs (exps (logits P G) (maxes (logits P G))) (sums (exps (logits P G) (maxes (logits P G)))) (ix4 b h t s)
      = (((if s.val ≤ t.val then Real.exp (logit p g b h t s - M) else 0)
          / ∑ s : Fin 2048, if s.val ≤ t.val then Real.exp (logit p g b h t s - M) else 0 : ℝ) : EReal) := by
    intro s
    have e : probs (exps (logits P G) (maxes (logits P G))) (sums (exps (logits P G) (maxes (logits P G)))) (ix4 b h t s)
        = Ideal.div (exps (logits P G) (maxes (logits P G)) (ix4 b h t s)) (sums (exps (logits P G) (maxes (logits P G))) (ix3 b h t)) := by
      pointwise [probs]
    rw [e, he, hz, Ideal.div_coe hpos.ne', ← EReal.coe_mul, mul_one_div]
  simp only [hw, ← EReal.coe_mul, coe_sum]
  refine congrArg (fun x : ℝ => (x : EReal)) ?_
  rw [← mean_scale 2048 _ (fun s => if s.val ≤ t.val then Real.exp (logit p g b h t s - M) else 0) v
    (Real.exp (-M)) (Real.exp_pos _).ne' (fun s => ?_), Finset.sum_div]
  · exact Finset.sum_congr rfl fun s _ => by ring
  · split
    · rw [← Real.exp_add]
      exact congrArg Real.exp (by ring)
    · exact (mul_zero _).symm

/-- THE REFERENCE'S RESULT is the attention over the reals. -/
theorem result_apply (i : Fin 8192) (j : Fin 2048) :
    result P G (ix2 i j) = (attn p g ⟨i.val / 2048, by omega⟩ ⟨i.val % 2048, by omega⟩ j : EReal) := by
  unfold result
  pointwise [outs, vOf]
  simp only [hold.proj]
  exact mean_apply hold _ _ _ _

end

end Cert.Fox.Ref

end
-- ==== Proof.Ffn.Tile.lean ====
/-
  One grid point of the feed-forward up call, run over whole memrefs at stated contents.
-/
module

public import proofs.«01_k».proof.Proof.Gen.FfnKernelIdeal
public import proofs.«01_k».proof.Proof.Gen.FfnKernelIdeal.Skeleton
public import proofs.«01_k».proof.Proof.Gen.FfnKernelIdeal.Frame
public import Idealize.ShloMosaic.Lib.VecWindow
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

theorem off1_eq : ∀ i : grid0.Coords, k0_off1 i = ![(i 0).val % 2, 1024 * (i 1).val, 0] := by decide +kernel
theorem off2_eq : ∀ i : grid0.Coords, k0_off2 i = ![1 - (i 0).val % 2, 0, 0] := by decide +kernel

instance (i : grid0.Coords) : ClosedOff (k0_off1 i) := ⟨![(i 0).val % 2, 1024 * (i 1).val, 0], off1_eq i⟩
instance (i : grid0.Coords) : ClosedOff (k0_off2 i) := ⟨![1 - (i 0).val % 2, 0, 0], off2_eq i⟩

/-- A scratch buffer after the point's slab is stored over contents `d`. -/
def slotPut (i : grid0.Coords) (d : Vec F S2x4096x256 .bf16) (w : Vec F S1x1024x256 .bf16) : Vec F S2x4096x256 .bf16 :=
  VecWindow.put d ![(i 0).val % 2, 1024 * (i 1).val, 0] S1x1024x256.size w

theorem inb_get (i : grid0.Coords) : ∀ a, (![1 - (i 0).val % 2, 0, 0] : Fin 3 → ℕ) a + S1x4096x256.size a ≤ S2x4096x256.size a := by
  intro a
  fin_cases a
  · show 1 - (i 0).val % 2 + 1 ≤ 2
    omega
  · show 0 + 4096 ≤ 4096
    omega
  · show 0 + 256 ≤ 256
    omega

/-- The column tile the point reads: the slot it does not store to. -/
def slotGet (i : grid0.Coords) (d : Vec F S2x4096x256 .bf16) : Vec F S1x4096x256 .bf16 :=
  VecWindow.window d ![1 - (i 0).val % 2, 0, 0] S1x4096x256.size (inb_get i)

/-- 512 rows of the normed activations from row `512 * k`. -/
def rowsX (x : Vec F S2048x4096 .bf16) (k : Fin 4) : Vec F S512x4096 .bf16 :=
  fun z => x (ix2 ⟨512 * k.val + (z 0).val, by have : (z 0).val < 512 := (z 0).isLt; omega⟩ (z 1))

/-- 512 rows of the sums of squares from row `512 * k`. -/
def rowsS (s : Vec F S2048x1 .f32) (k : Fin 4) : Vec F S512x1 .f32 :=
  fun z => s (ix2 ⟨512 * k.val + (z 0).val, by have : (z 0).val < 512 := (z 0).isLt; omega⟩ (z 1))

/-- The block of activations from the rows and the two column tiles, 512 rows at a time. -/
def actBlock (x : Vec F S2048x4096 .bf16) (s : Vec F S2048x1 .f32) (g u : Vec F S1x4096x256 .bf16) : Vec F S2048x256 .bf16 :=
  fun y => k0_pay4 (k0_pay5 g) (k0_pay6 u) (rowsX x ⟨(y 0).val / 512, by have : (y 0).val < 2048 := (y 0).isLt; omega⟩)
    (rowsS s ⟨(y 0).val / 512, by have : (y 0).val < 2048 := (y 0).isLt; omega⟩)
    (ix2 ⟨(y 0).val % 512, Nat.mod_lt _ (by decide)⟩ (y 1))

theorem actBlock_at (x : Vec F S2048x4096 .bf16) (s : Vec F S2048x1 .f32) (g u : Vec F S1x4096x256 .bf16) (k : Fin 4)
    (a : Fin 512) (l : Fin 256) (y : S2048x256.Idx) (h0 : (y 0).val = 512 * k.val + a.val) (h1 : y 1 = l) :
    actBlock x s g u y = k0_pay4 (k0_pay5 g) (k0_pay6 u) (rowsX x k) (rowsS s k) (ix2 a l) := by
  unfold actBlock
  have hk : (⟨(y 0).val / 512, by have : (y 0).val < 2048 := (y 0).isLt; omega⟩ : Fin 4) = k := Fin.ext (by show (y 0).val / 512 = k.val; omega)
  have ha : (⟨(y 0).val % 512, Nat.mod_lt _ (by decide)⟩ : Fin 512) = a := Fin.ext (by show (y 0).val % 512 = a.val; omega)
  rw [hk, ha, h1]

theorem readX (v : View sig .tc .vmem S2048x4096 .bf16) (f : v.ty.Contents (Elt F)) (k : Fin 4) (o : ℕ) (ho : o = 512 * k.val)
    (inb : ∀ b, (![o, 0] : Fin 2 → ℕ) b + (![512, 4096] : Fin 2 → ℕ) b ≤ S2048x4096.size b) :
    v.readAt (Elt F) (Rect.unit (s := S2048x4096) ![o, 0] ![512, 4096] inb).toLoadRect f = rowsX (v.read (Elt F) f) k := by
  funext z
  refine congrArg (v.read (Elt F) f) (funext fun b => Fin.ext ?_)
  subst ho
  fin_cases b
  · show 512 * k.val + 1 * (z 0).val = 512 * k.val + (z 0).val
    omega
  · show 0 + 1 * (z 1).val = (z 1).val
    omega

theorem readS (v : View sig .tc .vmem S2048x1 .f32) (f : v.ty.Contents (Elt F)) (k : Fin 4) (o : ℕ) (ho : o = 512 * k.val)
    (inb : ∀ b, (![o, 0] : Fin 2 → ℕ) b + (![512, 1] : Fin 2 → ℕ) b ≤ S2048x1.size b) :
    v.readAt (Elt F) (Rect.unit (s := S2048x1) ![o, 0] ![512, 1] inb).toLoadRect f = rowsS (v.read (Elt F) f) k := by
  funext z
  refine congrArg (v.read (Elt F) f) (funext fun b => Fin.ext ?_)
  subst ho
  fin_cases b
  · show 512 * k.val + 1 * (z 0).val = 512 * k.val + (z 0).val
    omega
  · show 0 + 1 * (z 1).val = (z 1).val
    omega

theorem emb_rows (o : ℕ) (inb : ∀ b, (![o, 0] : Fin 2 → ℕ) b + (![512, 256] : Fin 2 → ℕ) b ≤ S2048x256.size b)
    (x : (Rect.unit (s := S2048x256) ![o, 0] ![512, 256] inb).shape.Idx) :
    ((Rect.unit (s := S2048x256) ![o, 0] ![512, 256] inb).emb x 0).val = o + (x 0).val ∧
      (Rect.unit (s := S2048x256) ![o, 0] ![512, 256] inb).emb x 1 = x 1 :=
  ⟨by show o + 1 * (x 0).val = _; omega, Fin.ext (by show 0 + 1 * (x 1).val = _; omega)⟩

theorem ix2_self (z : S512x256.Idx) : ix2 (z 0) (z 1) = z := by
  funext b
  fin_cases b <;> rfl

/-- One store of 512 rows stores the block's rows. -/
theorem piece_at (x : Vec F S2048x4096 .bf16) (s : Vec F S2048x1 .f32) (g u : Vec F S1x4096x256 .bf16) (k : Fin 4) (o : ℕ) (ho : o = 512 * k.val)
    (inb : ∀ b, (![o, 0] : Fin 2 → ℕ) b + (![512, 256] : Fin 2 → ℕ) b ≤ S2048x256.size b)
    (w : FVec F S512x256 .bf16) (hw : w = k0_pay4 (k0_pay5 g) (k0_pay6 u) (rowsX x k) (rowsS s k)) (z : S512x256.Idx) :
    w z = actBlock x s g u ((Rect.unit (s := S2048x256) ![o, 0] ![512, 256] inb).emb z) := by
  obtain ⟨e0, e1⟩ := emb_rows o inb z
  rw [actBlock_at x s g u k (z 0) (z 1) _ (e0.trans (congrArg (· + (z 0).val) ho)) e1, ← hw]
  exact congrArg w (ix2_self z).symm

/-- Four stores of 512 rows each leave the whole block. -/
theorem read_four (v : View sig .tc .vmem S2048x256 .bf16) (f : v.ty.Contents (Elt F))
    (x : Vec F S2048x4096 .bf16) (s : Vec F S2048x1 .f32) (g u : Vec F S1x4096x256 .bf16)
    (i3 : ∀ b, (![1536, 0] : Fin 2 → ℕ) b + (![512, 256] : Fin 2 → ℕ) b ≤ S2048x256.size b)
    (i2 : ∀ b, (![1024, 0] : Fin 2 → ℕ) b + (![512, 256] : Fin 2 → ℕ) b ≤ S2048x256.size b)
    (i1 : ∀ b, (![512, 0] : Fin 2 → ℕ) b + (![512, 256] : Fin 2 → ℕ) b ≤ S2048x256.size b)
    (i0 : ∀ b, (![0, 0] : Fin 2 → ℕ) b + (![512, 256] : Fin 2 → ℕ) b ≤ S2048x256.size b)
    (w3 w2 w1 w0 : FVec F S512x256 .bf16)
    (h3 : w3 = k0_pay4 (k0_pay5 g) (k0_pay6 u) (rowsX x 3) (rowsS s 3)) (h2 : w2 = k0_pay4 (k0_pay5 g) (k0_pay6 u) (rowsX x 2) (rowsS s 2))
    (h1 : w1 = k0_pay4 (k0_pay5 g) (k0_pay6 u) (rowsX x 1) (rowsS s 1)) (h0 : w0 = k0_pay4 (k0_pay5 g) (k0_pay6 u) (rowsX x 0) (rowsS s 0)) :
    v.read (Elt F) (v.writes (Elt F) f [⟨Rect.unit (s := S2048x256) ![1536, 0] ![512, 256] i3, w3⟩, ⟨Rect.unit (s := S2048x256) ![1024, 0] ![512, 256] i2, w2⟩,
      ⟨Rect.unit (s := S2048x256) ![512, 0] ![512, 256] i1, w1⟩, ⟨Rect.unit (s := S2048x256) ![0, 0] ![512, 256] i0, w0⟩]) = actBlock x s g u := by
  funext y
  refine View.read_writes_apply_of_pieces v f (actBlock x s g u) _ ?_ y ?_
  · intro p hp z
    simp only [List.mem_cons, List.not_mem_nil, or_false] at hp
    rcases hp with rfl | rfl | rfl | rfl
    · exact piece_at x s g u 3 1536 rfl i3 w3 h3 z
    · exact piece_at x s g u 2 1024 rfl i2 w2 h2 z
    · exact piece_at x s g u 1 512 rfl i1 w1 h1 z
    · exact piece_at x s g u 0 0 rfl i0 w0 h0 z
  · have hy : (y 0).val < 2048 := (y 0).isLt
    have hin : ∀ (o : ℕ) (inb : ∀ b, (![o, 0] : Fin 2 → ℕ) b + (![512, 256] : Fin 2 → ℕ) b ≤ S2048x256.size b), o ≤ (y 0).val → (y 0).val < o + 512 →
        y ∈ (Rect.unit (s := S2048x256) ![o, 0] ![512, 256] inb).set := by
      intro o inb ha hb
      rw [Rect.mem_set_unit]
      intro b
      fin_cases b
      · exact ⟨ha, hb⟩
      · exact ⟨Nat.zero_le _, by show (y 1).val < 0 + 256; have : (y 1).val < 256 := (y 1).isLt; omega⟩
    rcases lt_or_ge (y 0).val 512 with h | h
    · exact ⟨_, List.Mem.tail _ (List.Mem.tail _ (List.Mem.tail _ (List.Mem.head _))), hin 0 i0 (by omega) (by omega)⟩
    rcases lt_or_ge (y 0).val 1024 with h | h
    · exact ⟨_, List.Mem.tail _ (List.Mem.tail _ (List.Mem.head _)), hin 512 i1 (by omega) (by omega)⟩
    rcases lt_or_ge (y 0).val 1536 with h | h
    · exact ⟨_, List.Mem.tail _ (List.Mem.head _), hin 1024 i2 (by omega) (by omega)⟩
    · exact ⟨_, List.Mem.head _, hin 1536 i3 (by omega) (by omega)⟩

theorem pay_congr {g g' u u' : Vec F S1x4096x256 .bf16} {x x' : Vec F S512x4096 .bf16} {s s' : Vec F S512x1 .f32}
    (hg : g' = g) (hu : u' = u) (hx : x' = x) (hs : s' = s) :
    k0_pay4 (k0_pay5 g') (k0_pay6 u') x' s' = k0_pay4 (k0_pay5 g) (k0_pay6 u) x s := by
  rw [hg, hu, hx, hs]

/-- A load of the read slot. -/
theorem load_get (v : View sig .tc .vmem S2x4096x256 .bf16) (f : v.ty.Contents (Elt F)) (i : grid0.Coords) (h2 : k0_cond2 i = 1#1)
    (d : Vec F S2x4096x256 .bf16) (hf : v.read (Elt F) f = d) :
    v.readAt (Elt F) (Rect.unit (s := S2x4096x256) (k0_off2 i) S1x4096x256.size (k0_off2_inb i h2)).toLoadRect f = slotGet i d := by
  subst hf
  exact View.readAt_unit v f (k0_off2_inb i h2) (off2_eq i) (inb_get i)

/-- A store of a slab. -/
theorem store_put (v : View sig .tc .vmem S2x4096x256 .bf16) (f : v.ty.Contents (Elt F)) (i : grid0.Coords) (h1 : k0_cond1 i = 1#1)
    (d : Vec F S2x4096x256 .bf16) (hf : v.read (Elt F) f = d) (w w' : Vec F S1x1024x256 .bf16) (hw : w' = w) :
    v.read (Elt F) (v.writes (Elt F) f [⟨Rect.unit (s := S2x4096x256) (k0_off1 i) S1x1024x256.size (k0_off1_inb i h1), w'⟩]) = slotPut i d w := by
  subst hf hw
  rw [View.read_writes_cons_put _ _ _ _ _ (off1_eq i), View.writes_nil]
  rfl

section Held

variable (c : Dev nD) (i : grid0.Coords) (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole) (arg9 : Memref sig .tc .vmem S2x4096x256 .bf16) (harg9 : arg9.IsWhole) (arg10 : Memref sig .tc .vmem S2x4096x256 .bf16) (harg10 : arg10.IsWhole)
    (x0 : Vec F S2048x4096 .bf16) (x1 : Vec F S2048x1 .f32) (x2 x3 : Vec F S1x1024x256 .f32) (x4 : Vec F S1x64x4096 .f32)
    (d7 : Vec F S2048x256 .bf16) (d9 d10 : Vec F S2x4096x256 .bf16)

/-- The nine buffers the body works on, at stated contents. -/
def held (y7 : Vec F S2048x256 .bf16) (y8 : Vec F S64x4096 .bf16) (y9 y10 : Vec F S2x4096x256 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare y7 ∗ owns (c : Thread nD τ) arg8 fullShare y8 ∗ owns (c : Thread nD τ) arg9 fullShare y9 ∗ owns (c : Thread nD τ) arg10 fullShare y10)

end Held

end Cert.Proof.Ffn
-- ==== Proof.Ffn.Inv.lean ====
/-
  What the two column buffers of the feed-forward up call hold before each grid point:
  the slabs of the last two column tiles, each where its slot and its rows say.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Ffn.Tile
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-- A column buffer before point `n`: every slab stored at most eight points ago is in its slot, at its rows. -/
def Good (S : ℕ → Vec F S1x1024x256 .bf16) (n : ℕ) (w : Vec F S2x4096x256 .bf16) : Prop :=
  ∀ n', n' < n → n ≤ n' + 8 → n' < 172 → ∀ y : S2x4096x256.Idx, (y 0).val = n' / 4 % 2 → (y 1).val / 1024 = n' % 4 →
    w y = S n' (ix3 0 ⟨(y 1).val % 1024, Nat.mod_lt _ (by decide)⟩ (y 2))

/-- The column tile complete before point `n`'s step: the four slabs of the step before. -/
def colTile (S : ℕ → Vec F S1x1024x256 .bf16) (n : ℕ) : Vec F S1x4096x256 .bf16 :=
  fun y => S (4 * (n / 4 - 1) + (y 1).val / 1024) (ix3 0 ⟨(y 1).val % 1024, Nat.mod_lt _ (by decide)⟩ (y 2))

theorem good_zero (S : ℕ → Vec F S1x1024x256 .bf16) (w : Vec F S2x4096x256 .bf16) : Good S 0 w :=
  fun _ h => absurd h (Nat.not_lt_zero _)

theorem good_hold (S : ℕ → Vec F S1x1024x256 .bf16) (n : ℕ) (hn : 172 ≤ n) (w : Vec F S2x4096x256 .bf16) (h : Good S n w) : Good S (n + 1) w :=
  fun n' h1 h2 h3 y hy0 hy1 => h n' (by omega) (by omega) h3 y hy0 hy1

theorem good_step (S : ℕ → Vec F S1x1024x256 .bf16) (n : ℕ) (i : grid0.Coords) (h0 : (i 0).val = n / 4) (h1 : (i 1).val = n % 4)
    (w : Vec F S2x4096x256 .bf16) (h : Good S n w) : Good S (n + 1) (slotPut i w (S n)) := by
  intro n' hlt hle hn' y hy0 hy1
  have y1 : (y 1).val < 4096 := (y 1).isLt
  have y2 : (y 2).val < 256 := (y 2).isLt
  unfold slotPut VecWindow.put
  rcases Nat.lt_or_ge n' n with hc | hc
  · rw [dif_neg]
    · exact h n' hc (by omega) hn' y hy0 hy1
    · intro hin
      have a0 : (i 0).val % 2 ≤ (y 0).val ∧ (y 0).val < (i 0).val % 2 + 1 := hin 0
      have a1 : 1024 * (i 1).val ≤ (y 1).val ∧ (y 1).val < 1024 * (i 1).val + 1024 := hin 1
      omega
  · obtain rfl : n' = n := by omega
    have hin : ∀ a, (![(i 0).val % 2, 1024 * (i 1).val, 0] : Fin 3 → ℕ) a ≤ (y a).val ∧
        (y a).val < (![(i 0).val % 2, 1024 * (i 1).val, 0] : Fin 3 → ℕ) a + S1x1024x256.size a := by
      intro a
      fin_cases a
      · show (i 0).val % 2 ≤ (y 0).val ∧ (y 0).val < (i 0).val % 2 + 1
        omega
      · show 1024 * (i 1).val ≤ (y 1).val ∧ (y 1).val < 1024 * (i 1).val + 1024
        omega
      · show 0 ≤ (y 2).val ∧ (y 2).val < 0 + 256
        omega
    rw [dif_pos hin]
    refine congrArg (S n') (funext fun a => Fin.ext ?_)
    rw [Rect.unitLocal_val]
    fin_cases a
    · show (y 0).val - (i 0).val % 2 = 0
      omega
    · show (y 1).val - 1024 * (i 1).val = (y 1).val % 1024
      omega
    · show (y 2).val - 0 = (y 2).val
      omega

theorem good_get (S : ℕ → Vec F S1x1024x256 .bf16) (n : ℕ) (hn : 4 ≤ n) (hN : n < 176) (i : grid0.Coords) (h0 : (i 0).val = n / 4)
    (w : Vec F S2x4096x256 .bf16) (h : Good S (n + 1) w) : slotGet i w = colTile S n := by
  funext y
  have y0 : (y 0).val < 1 := (y 0).isLt
  have y1 : (y 1).val < 4096 := (y 1).isLt
  unfold slotGet VecWindow.window colTile
  have e := h (4 * (n / 4 - 1) + (y 1).val / 1024) (by omega) (by omega) (by omega)
    ((Rect.unit (s := S2x4096x256) ![1 - (i 0).val % 2, 0, 0] S1x4096x256.size (inb_get i)).emb y)
    (by show 1 - (i 0).val % 2 + 1 * (y 0).val = _; omega)
    (by show (0 + 1 * (y 1).val) / 1024 = _; omega)
  refine e.trans (congrArg (S _) (funext fun a => Fin.ext ?_))
  fin_cases a
  · rfl
  · show (0 + 1 * (y 1).val) % 1024 = (y 1).val % 1024
    omega
  · show 0 + 1 * (y 2).val = (y 2).val
    omega

end Cert.Proof.Ffn
-- ==== Proof.Ffn.RunBoth.lean ====
/-
  One grid point of the feed-forward up call, run over whole memrefs at stated contents.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Ffn.Tile
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (D : Defs nD τ sig (Elt F) Λ₀) (c : Dev nD) (i : grid0.Coords) (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole) (arg9 : Memref sig .tc .vmem S2x4096x256 .bf16) (harg9 : arg9.IsWhole) (arg10 : Memref sig .tc .vmem S2x4096x256 .bf16) (harg10 : arg10.IsWhole)
    (x0 : Vec F S2048x4096 .bf16) (x1 : Vec F S2048x1 .f32) (x2 x3 : Vec F S1x1024x256 .f32) (x4 : Vec F S1x64x4096 .f32)
    (d7 : Vec F S2048x256 .bf16) (d9 d10 : Vec F S2x4096x256 .bf16)

set_option maxHeartbeats 1884000 in
/-- A point that fetches a slab and computes a block. -/
theorem run_both (h1 : k0_cond1 i = 1#1) (h2 : k0_cond2 i = 1#1) (d8 : Vec F S64x4096 .bf16) (E : Set ℕ) (K : PUnit → sProp 𝕄) :
    iprop(held c arg2 arg3 arg4 arg5 arg6 arg7 arg8 arg9 arg10 x0 x1 x2 x3 x4 d7 d8 d9 d10
        ∗ (held c arg2 arg3 arg4 arg5 arg6 arg7 arg8 arg9 arg10 x0 x1 x2 x3 x4
            (actBlock x0 x1 (slotGet i (slotPut i d9 (k0_pay1 x2))) (slotGet i (slotPut i d10 (k0_pay2 x3)))) (k0_pay3 x4)
            (slotPut i d9 (k0_pay1 x2)) (slotPut i d10 (k0_pay2 x3)) -∗ K ⟨⟩))
      ⊢ wp frame (wpE D Variants.none c none) E (cc0_ffn_up i arg2 harg2 arg3 harg3 arg4 harg4 arg5 harg5 arg6 harg6 arg7 harg7 arg8 harg8 arg9 harg9 arg10 harg10) K := by
    simp only [cc0_ffn_up_eq_skeleton]; unfold cc0_ffn_up_skel
    simp only [k0_part1_eq_skeleton, k0_part2_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩⟩, Hk⟩
    sl_exec (disch := first | sl_exact h1 | sl_exact h2)
    sl_step
    have r4 : arg6.view.readAt (Elt F) (Rect.unit (s := S1x64x4096) ![0, 0, 0] S1x64x4096.size inb_S1x64x4096_S1x64x4096_0_0_0).toLoadRect f4 = x4 := (View.readAt_full _ _ _).trans hf4
    have r2 : arg4.view.readAt (Elt F) (Rect.unit (s := S1x1024x256) ![0, 0, 0] S1x1024x256.size inb_S1x1024x256_S1x1024x256_0_0_0).toLoadRect f2 = x2 := (View.readAt_full _ _ _).trans hf2
    have r3 : arg5.view.readAt (Elt F) (Rect.unit (s := S1x1024x256) ![0, 0, 0] S1x1024x256.size inb_S1x1024x256_S1x1024x256_0_0_0).toLoadRect f3 = x3 := (View.readAt_full _ _ _).trans hf3
    have e9 := store_put arg9.view f7 i h1 d9 hf7 (k0_pay1 x2) _ (congrArg k0_pay1 r2)
    have e10 := store_put arg10.view f8 i h1 d10 hf8 (k0_pay2 x3) _ (congrArg k0_pay2 r3)
    have l9 := load_get arg9.view _ i h2 (slotPut i d9 (k0_pay1 x2)) e9
    have l10 := load_get arg10.view _ i h2 (slotPut i d10 (k0_pay2 x3)) e10
    have c3 := pay_congr l9 l10 ((readX arg2.view f0 3 1536 rfl inb_S2048x4096_S512x4096_1536_0).trans (congrArg (rowsX · 3) hf0)) ((readS arg3.view f1 3 1536 rfl inb_S2048x1_S512x1_1536_0).trans (congrArg (rowsS · 3) hf1))
    have c2 := pay_congr l9 l10 ((readX arg2.view f0 2 1024 rfl inb_S2048x4096_S512x4096_1024_0).trans (congrArg (rowsX · 2) hf0)) ((readS arg3.view f1 2 1024 rfl inb_S2048x1_S512x1_1024_0).trans (congrArg (rowsS · 2) hf1))
    have c1 := pay_congr l9 l10 ((readX arg2.view f0 1 512 rfl inb_S2048x4096_S512x4096_512_0).trans (congrArg (rowsX · 1) hf0)) ((readS arg3.view f1 1 512 rfl inb_S2048x1_S512x1_512_0).trans (congrArg (rowsS · 1) hf1))
    have c0 := pay_congr l9 l10 ((readX arg2.view f0 0 0 rfl inb_S2048x4096_S512x4096_0_0).trans (congrArg (rowsX · 0) hf0)) ((readS arg3.view f1 0 0 rfl inb_S2048x1_S512x1_0_0).trans (congrArg (rowsS · 0) hf1))
    iapply Hk
    isplitl [H0]
    · iexists _
      isplitr
      swap
      · iexact H0
      · ipureintro
        exact hf0
    isplitl [H1]
    · iexists _
      isplitr
      swap
      · iexact H1
      · ipureintro
        exact hf1
    isplitl [H2]
    · iexists _
      isplitr
      swap
      · iexact H2
      · ipureintro
        exact hf2
    isplitl [H3]
    · iexists _
      isplitr
      swap
      · iexact H3
      · ipureintro
        exact hf3
    isplitl [H4]
    · iexists _
      isplitr
      swap
      · iexact H4
      · ipureintro
        exact hf4
    isplitl [H5]
    · iexists _
      isplitr
      swap
      · iexact H5
      · ipureintro
        exact read_four _ _ _ _ _ _ _ _ _ _ _ _ _ _ c3 c2 c1 c0
    isplitl [H6]
    · iexists _
      isplitr
      swap
      · iexact H6
      · ipureintro
        exact (View.read_writes_full _ _ _ _ []).trans (congrArg k0_pay3 r4)
    isplitl [HS0]
    · iexists _
      isplitr
      swap
      · iexact HS0
      · ipureintro
        exact e9
    iexists _
    isplitr
    swap
    · iexact HS1
    · ipureintro
      exact e10

end Cert.Proof.Ffn
-- ==== Proof.Ffn.RunFirst.lean ====
/-
  One grid point of the feed-forward up call, run over whole memrefs at stated contents.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Ffn.Tile
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (D : Defs nD τ sig (Elt F) Λ₀) (c : Dev nD) (i : grid0.Coords) (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole) (arg9 : Memref sig .tc .vmem S2x4096x256 .bf16) (harg9 : arg9.IsWhole) (arg10 : Memref sig .tc .vmem S2x4096x256 .bf16) (harg10 : arg10.IsWhole)
    (x0 : Vec F S2048x4096 .bf16) (x1 : Vec F S2048x1 .f32) (x2 x3 : Vec F S1x1024x256 .f32) (x4 : Vec F S1x64x4096 .f32)
    (d7 : Vec F S2048x256 .bf16) (d9 d10 : Vec F S2x4096x256 .bf16)

set_option maxHeartbeats 1884000 in
/-- A point of the first step: it fetches a slab and computes nothing. -/
theorem run_first (h1 : k0_cond1 i = 1#1) (h2 : ¬ k0_cond2 i = 1#1) (d8 : Vec F S64x4096 .bf16) (E : Set ℕ) (K : PUnit → sProp 𝕄) :
    iprop(held c arg2 arg3 arg4 arg5 arg6 arg7 arg8 arg9 arg10 x0 x1 x2 x3 x4 d7 d8 d9 d10
        ∗ (held c arg2 arg3 arg4 arg5 arg6 arg7 arg8 arg9 arg10 x0 x1 x2 x3 x4
            d7 (k0_pay3 x4)
            (slotPut i d9 (k0_pay1 x2)) (slotPut i d10 (k0_pay2 x3)) -∗ K ⟨⟩))
      ⊢ wp frame (wpE D Variants.none c none) E (cc0_ffn_up i arg2 harg2 arg3 harg3 arg4 harg4 arg5 harg5 arg6 harg6 arg7 harg7 arg8 harg8 arg9 harg9 arg10 harg10) K := by
    simp only [cc0_ffn_up_eq_skeleton]; unfold cc0_ffn_up_skel
    simp only [k0_part1_eq_skeleton, k0_part2_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩⟩, Hk⟩
    sl_exec (disch := first | sl_exact h1 | sl_exact h2)
    sl_step
    have r4 : arg6.view.readAt (Elt F) (Rect.unit (s := S1x64x4096) ![0, 0, 0] S1x64x4096.size inb_S1x64x4096_S1x64x4096_0_0_0).toLoadRect f4 = x4 := (View.readAt_full _ _ _).trans hf4
    have r2 : arg4.view.readAt (Elt F) (Rect.unit (s := S1x1024x256) ![0, 0, 0] S1x1024x256.size inb_S1x1024x256_S1x1024x256_0_0_0).toLoadRect f2 = x2 := (View.readAt_full _ _ _).trans hf2
    have r3 : arg5.view.readAt (Elt F) (Rect.unit (s := S1x1024x256) ![0, 0, 0] S1x1024x256.size inb_S1x1024x256_S1x1024x256_0_0_0).toLoadRect f3 = x3 := (View.readAt_full _ _ _).trans hf3
    have e9 := store_put arg9.view f7 i h1 d9 hf7 (k0_pay1 x2) _ (congrArg k0_pay1 r2)
    have e10 := store_put arg10.view f8 i h1 d10 hf8 (k0_pay2 x3) _ (congrArg k0_pay2 r3)
    iapply Hk
    isplitl [H0]
    · iexists _
      isplitr
      swap
      · iexact H0
      · ipureintro
        exact hf0
    isplitl [H1]
    · iexists _
      isplitr
      swap
      · iexact H1
      · ipureintro
        exact hf1
    isplitl [H2]
    · iexists _
      isplitr
      swap
      · iexact H2
      · ipureintro
        exact hf2
    isplitl [H3]
    · iexists _
      isplitr
      swap
      · iexact H3
      · ipureintro
        exact hf3
    isplitl [H4]
    · iexists _
      isplitr
      swap
      · iexact H4
      · ipureintro
        exact hf4
    isplitl [H5]
    · iexists _
      isplitr
      swap
      · iexact H5
      · ipureintro
        exact hf5
    isplitl [H6]
    · iexists _
      isplitr
      swap
      · iexact H6
      · ipureintro
        exact (View.read_writes_full _ _ _ _ []).trans (congrArg k0_pay3 r4)
    isplitl [HS0]
    · iexists _
      isplitr
      swap
      · iexact HS0
      · ipureintro
        exact e9
    iexists _
    isplitr
    swap
    · iexact HS1
    · ipureintro
      exact e10

end Cert.Proof.Ffn
-- ==== Proof.Ffn.RunLast.lean ====
/-
  One grid point of the feed-forward up call, run over whole memrefs at stated contents.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Ffn.Tile
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (D : Defs nD τ sig (Elt F) Λ₀) (c : Dev nD) (i : grid0.Coords) (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole) (arg9 : Memref sig .tc .vmem S2x4096x256 .bf16) (harg9 : arg9.IsWhole) (arg10 : Memref sig .tc .vmem S2x4096x256 .bf16) (harg10 : arg10.IsWhole)
    (x0 : Vec F S2048x4096 .bf16) (x1 : Vec F S2048x1 .f32) (x2 x3 : Vec F S1x1024x256 .f32) (x4 : Vec F S1x64x4096 .f32)
    (d7 : Vec F S2048x256 .bf16) (d9 d10 : Vec F S2x4096x256 .bf16)

set_option maxHeartbeats 1884000 in
/-- A point of the last step: it computes a block and fetches nothing. -/
theorem run_last (h1 : ¬ k0_cond1 i = 1#1) (h2 : k0_cond2 i = 1#1) (d8 : Vec F S64x4096 .bf16) (E : Set ℕ) (K : PUnit → sProp 𝕄) :
    iprop(held c arg2 arg3 arg4 arg5 arg6 arg7 arg8 arg9 arg10 x0 x1 x2 x3 x4 d7 d8 d9 d10
        ∗ (held c arg2 arg3 arg4 arg5 arg6 arg7 arg8 arg9 arg10 x0 x1 x2 x3 x4
            (actBlock x0 x1 (slotGet i d9) (slotGet i d10)) (k0_pay3 x4)
            d9 d10 -∗ K ⟨⟩))
      ⊢ wp frame (wpE D Variants.none c none) E (cc0_ffn_up i arg2 harg2 arg3 harg3 arg4 harg4 arg5 harg5 arg6 harg6 arg7 harg7 arg8 harg8 arg9 harg9 arg10 harg10) K := by
    simp only [cc0_ffn_up_eq_skeleton]; unfold cc0_ffn_up_skel
    simp only [k0_part1_eq_skeleton, k0_part2_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩⟩, Hk⟩
    sl_exec (disch := first | sl_exact h1 | sl_exact h2)
    sl_step
    have r4 : arg6.view.readAt (Elt F) (Rect.unit (s := S1x64x4096) ![0, 0, 0] S1x64x4096.size inb_S1x64x4096_S1x64x4096_0_0_0).toLoadRect f4 = x4 := (View.readAt_full _ _ _).trans hf4
    have l9 := load_get arg9.view f7 i h2 d9 hf7
    have l10 := load_get arg10.view f8 i h2 d10 hf8
    have c3 := pay_congr l9 l10 ((readX arg2.view f0 3 1536 rfl inb_S2048x4096_S512x4096_1536_0).trans (congrArg (rowsX · 3) hf0)) ((readS arg3.view f1 3 1536 rfl inb_S2048x1_S512x1_1536_0).trans (congrArg (rowsS · 3) hf1))
    have c2 := pay_congr l9 l10 ((readX arg2.view f0 2 1024 rfl inb_S2048x4096_S512x4096_1024_0).trans (congrArg (rowsX · 2) hf0)) ((readS arg3.view f1 2 1024 rfl inb_S2048x1_S512x1_1024_0).trans (congrArg (rowsS · 2) hf1))
    have c1 := pay_congr l9 l10 ((readX arg2.view f0 1 512 rfl inb_S2048x4096_S512x4096_512_0).trans (congrArg (rowsX · 1) hf0)) ((readS arg3.view f1 1 512 rfl inb_S2048x1_S512x1_512_0).trans (congrArg (rowsS · 1) hf1))
    have c0 := pay_congr l9 l10 ((readX arg2.view f0 0 0 rfl inb_S2048x4096_S512x4096_0_0).trans (congrArg (rowsX · 0) hf0)) ((readS arg3.view f1 0 0 rfl inb_S2048x1_S512x1_0_0).trans (congrArg (rowsS · 0) hf1))
    iapply Hk
    isplitl [H0]
    · iexists _
      isplitr
      swap
      · iexact H0
      · ipureintro
        exact hf0
    isplitl [H1]
    · iexists _
      isplitr
      swap
      · iexact H1
      · ipureintro
        exact hf1
    isplitl [H2]
    · iexists _
      isplitr
      swap
      · iexact H2
      · ipureintro
        exact hf2
    isplitl [H3]
    · iexists _
      isplitr
      swap
      · iexact H3
      · ipureintro
        exact hf3
    isplitl [H4]
    · iexists _
      isplitr
      swap
      · iexact H4
      · ipureintro
        exact hf4
    isplitl [H5]
    · iexists _
      isplitr
      swap
      · iexact H5
      · ipureintro
        exact read_four _ _ _ _ _ _ _ _ _ _ _ _ _ _ c3 c2 c1 c0
    isplitl [H6]
    · iexists _
      isplitr
      swap
      · iexact H6
      · ipureintro
        exact (View.read_writes_full _ _ _ _ []).trans (congrArg k0_pay3 r4)
    isplitl [HS0]
    · iexists _
      isplitr
      swap
      · iexact HS0
      · ipureintro
        exact hf7
    iexists _
    isplitr
    swap
    · iexact HS1
    · ipureintro
      exact hf8

end Cert.Proof.Ffn
-- ==== Proof.Ffn.Point.lean ====
/-
  One grid point of the feed-forward up call, for any slabs and any blocks: from the two column
  buffers as the points before have left them to the buffers, the block and the rows it leaves.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Gen.FfnKernelIdeal.Launch
public import proofs.«01_k».proof.Proof.Gen.FfnKernelIdeal.Points
public import proofs.«01_k».proof.Proof.Ffn.Inv
public import proofs.«01_k».proof.Proof.Ffn.RunBoth
public import proofs.«01_k».proof.Proof.Ffn.RunFirst
public import proofs.«01_k».proof.Proof.Ffn.RunLast
public import Idealize.ShloMosaic.Lib.Claim
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## The schedule, decided over the grid -/

theorem coords_eq : ∀ t : Fin grid0.N, ((grid0.coords t) 0).val = t.val / 4 ∧ ((grid0.coords t) 1).val = t.val % 4 := by decide +kernel
theorem cond1_iff : ∀ t : Fin grid0.N, k0_cond1 (grid0.coords t) = 1#1 ↔ t.val < 172 := by decide +kernel
theorem cond2_iff : ∀ t : Fin grid0.N, k0_cond2 (grid0.coords t) = 1#1 ↔ 4 ≤ t.val := by decide +kernel

/-! ## A point -/

/-- The two column buffers before point `n`, where the slabs stored so far are those of `SG` and `SU`. -/
def Cols (SG SU : ℕ → Vec F S1x1024x256 .bf16) (c : Dev nD) (n : ℕ) : sProp 𝕄 :=
  iprop(∃ w9 : Vec F S2x4096x256 .bf16, ∃ w10 : Vec F S2x4096x256 .bf16,
    ⌜Good SG n w9 ∧ Good SU n w10⌝
      ∗ owns (c : Thread nD τ) (Memref.whole cc0_scratch0) fullShare w9 ∗ owns (c : Thread nD τ) (Memref.whole cc0_scratch1) fullShare w10
      ∗ ∃ r, prngReg c r)

variable (D : Defs nD τ sig (Elt F) Λ₀) (SG SU : ℕ → Vec F S1x1024x256 .bf16) (c : Dev nD) (t : Fin grid0.N)
    (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole)
    (x0 : Vec F S2048x4096 .bf16) (x1 : Vec F S2048x1 .f32) (x2 x3 : Vec F S1x1024x256 .f32) (x4 : Vec F S1x64x4096 .f32)
    (d7 : Vec F S2048x256 .bf16) (d8 : Vec F S64x4096 .bf16)

/-- What a point is given, and leaves: the buffers at point `n`, the five blocks it reads, and the two it writes. -/
def Given (n : ℕ) (L7 : sProp 𝕄) (d8 : Vec F S64x4096 .bf16) : sProp 𝕄 :=
  iprop(Cols SG SU c n ∗ owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ L7 ∗ owns (c : Thread nD τ) arg8 fullShare d8)

/-- A point runs the body to the blocks it leaves; `L7` is whatever its array's block is to satisfy: from the
    fifth point on to hold the activations, before that only what it held. -/
theorem point (eG : SG t.val = k0_pay1 x2) (eU : SU t.val = k0_pay2 x3) (L7 : sProp 𝕄)
    (early : t.val < 4 → owns (c : Thread nD τ) arg7 fullShare d7 ⊢ L7)
    (late : 4 ≤ t.val → owns (c : Thread nD τ) arg7 fullShare (actBlock x0 x1 (colTile SG t.val) (colTile SU t.val)) ⊢ L7)
    (K : PUnit → sProp 𝕄) :
    iprop(Given SG SU c arg2 arg3 arg4 arg5 arg6 arg8 x0 x1 x2 x3 x4 t.val (owns (c : Thread nD τ) arg7 fullShare d7) d8
        ∗ (Given SG SU c arg2 arg3 arg4 arg5 arg6 arg8 x0 x1 x2 x3 x4 (t.val + 1) L7 (k0_pay3 x4) -∗ K ⟨⟩))
      ⊢ wp frame (wpE D Variants.none c none) Set.univ
          (cc0_ffn_up (grid0.coords t) arg2 harg2 arg3 harg3 arg4 harg4 arg5 harg5 arg6 harg6 arg7 harg7 arg8 harg8
            (Memref.whole cc0_scratch0) (Memref.isWhole_whole _) (Memref.whole cc0_scratch1) (Memref.isWhole_whole _)) K := by
  unfold Given Cols
  obtain ⟨hc0, hc1⟩ := coords_eq t
  have hN : t.val < 176 := t.isLt
  iintro ⟨⟨⟨%w9, %w10, %hgood, HS0, HS1, Hg⟩, H0, H1, H2, H3, H4, H5, H6⟩, Hk⟩
  obtain ⟨hg9, hg10⟩ := hgood
  by_cases h1 : k0_cond1 (grid0.coords t) = 1#1
  · have g9 := good_step SG t.val (grid0.coords t) hc0 hc1 w9 hg9
    have g10 := good_step SU t.val (grid0.coords t) hc0 hc1 w10 hg10
    by_cases h2 : k0_cond2 (grid0.coords t) = 1#1
    · have h4 := (cond2_iff t).1 h2
      have e9 := good_get SG t.val h4 hN (grid0.coords t) hc0 _ g9
      have e10 := good_get SU t.val h4 hN (grid0.coords t) hc0 _ g10
      have late := late h4
      rw [eG] at g9 e9
      rw [eU] at g10 e10
      rw [← e9, ← e10] at late
      iapply (run_both D c (grid0.coords t) arg2 harg2 arg3 harg3 arg4 harg4 arg5 harg5 arg6 harg6 arg7 harg7 arg8 harg8 _ _ _ _ x0 x1 x2 x3 x4
        d7 w9 w10 h1 h2 d8 Set.univ _)
      unfold held
      isplitl [H0 H1 H2 H3 H4 H5 H6 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iexact HS1
      iintro ⟨H0, H1, H2, H3, H4, H5, H6, HS0, HS1⟩
      iapply Hk
      isplitl [HS0 HS1 Hg]
      · iexists _
        iexists _
        isplitr
        swap
        · isplitl [HS0]; · iexact HS0
          isplitl [HS1]; · iexact HS1
          iexact Hg
        · ipureintro
          exact ⟨g9, g10⟩
      isplitl [H0]; · iexact H0
      isplitl [H1]; · iexact H1
      isplitl [H2]; · iexact H2
      isplitl [H3]; · iexact H3
      isplitl [H4]; · iexact H4
      isplitl [H5]; · iapply late; iexact H5
      iexact H6
    · have h4 : t.val < 4 := Nat.lt_of_not_le fun h => h2 ((cond2_iff t).2 h)
      have early := early h4
      rw [eG] at g9
      rw [eU] at g10
      iapply (run_first D c (grid0.coords t) arg2 harg2 arg3 harg3 arg4 harg4 arg5 harg5 arg6 harg6 arg7 harg7 arg8 harg8 _ _ _ _ x0 x1 x2 x3 x4
        d7 w9 w10 h1 h2 d8 Set.univ _)
      unfold held
      isplitl [H0 H1 H2 H3 H4 H5 H6 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iexact HS1
      iintro ⟨H0, H1, H2, H3, H4, H5, H6, HS0, HS1⟩
      iapply Hk
      isplitl [HS0 HS1 Hg]
      · iexists _
        iexists _
        isplitr
        swap
        · isplitl [HS0]; · iexact HS0
          isplitl [HS1]; · iexact HS1
          iexact Hg
        · ipureintro
          exact ⟨g9, g10⟩
      isplitl [H0]; · iexact H0
      isplitl [H1]; · iexact H1
      isplitl [H2]; · iexact H2
      isplitl [H3]; · iexact H3
      isplitl [H4]; · iexact H4
      isplitl [H5]; · iapply early; iexact H5
      iexact H6
  · have h3 : 172 ≤ t.val := Nat.le_of_not_lt fun h => h1 ((cond1_iff t).2 h)
    have h4 : 4 ≤ t.val := by omega
    have h2 := (cond2_iff t).2 h4
    have g9 := good_hold SG t.val h3 w9 hg9
    have g10 := good_hold SU t.val h3 w10 hg10
    have e9 := good_get SG t.val h4 hN (grid0.coords t) hc0 _ g9
    have e10 := good_get SU t.val h4 hN (grid0.coords t) hc0 _ g10
    have late := late h4
    rw [← e9, ← e10] at late
    iapply (run_last D c (grid0.coords t) arg2 harg2 arg3 harg3 arg4 harg4 arg5 harg5 arg6 harg6 arg7 harg7 arg8 harg8 _ _ _ _ x0 x1 x2 x3 x4
      d7 w9 w10 h1 h2 d8 Set.univ _)
    unfold held
    isplitl [H0 H1 H2 H3 H4 H5 H6 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1
    iintro ⟨H0, H1, H2, H3, H4, H5, H6, HS0, HS1⟩
    iapply Hk
    isplitl [HS0 HS1 Hg]
    · iexists _
      iexists _
      isplitr
      swap
      · isplitl [HS0]; · iexact HS0
        isplitl [HS1]; · iexact HS1
        iexact Hg
      · ipureintro
        exact ⟨g9, g10⟩
    isplitl [H0]; · iexact H0
    isplitl [H1]; · iexact H1
    isplitl [H2]; · iexact H2
    isplitl [H3]; · iexact H3
    isplitl [H4]; · iexact H4
    isplitl [H5]; · iapply late; iexact H5
    iexact H6

/-- So does any program that is the body but for the names of the calls it may make, of which it makes none. -/
theorem point_of {Λ : Labels} (e : Λ = Λ₀) (D : Defs nD τ sig (Elt F) Λ) (p : Prog (TpuEff nD τ sig (Elt F) Λ .tc) PUnit)
    (hp : HEq p (cc0_ffn_up (F := F) (grid0.coords t) arg2 harg2 arg3 harg3 arg4 harg4 arg5 harg5 arg6 harg6 arg7 harg7 arg8 harg8
      (Memref.whole cc0_scratch0) (Memref.isWhole_whole _) (Memref.whole cc0_scratch1) (Memref.isWhole_whole _)))
    (eG : SG t.val = k0_pay1 x2) (eU : SU t.val = k0_pay2 x3) (L7 : sProp 𝕄)
    (early : t.val < 4 → owns (c : Thread nD τ) arg7 fullShare d7 ⊢ L7)
    (late : 4 ≤ t.val → owns (c : Thread nD τ) arg7 fullShare (actBlock x0 x1 (colTile SG t.val) (colTile SU t.val)) ⊢ L7)
    (K : PUnit → sProp 𝕄) :
    iprop(Given SG SU c arg2 arg3 arg4 arg5 arg6 arg8 x0 x1 x2 x3 x4 t.val (owns (c : Thread nD τ) arg7 fullShare d7) d8
        ∗ (Given SG SU c arg2 arg3 arg4 arg5 arg6 arg8 x0 x1 x2 x3 x4 (t.val + 1) L7 (k0_pay3 x4) -∗ K ⟨⟩))
      ⊢ wp frame (wpE D Variants.none c none) Set.univ p K := by
  subst e
  obtain rfl := eq_of_heq hp
  exact point D SG SU c t arg2 harg2 arg3 harg3 arg4 harg4 arg5 harg5 arg6 harg6 arg7 harg7 arg8 harg8 x0 x1 x2 x3 x4 d7 d8 eG eU L7 early late K

end Cert.Proof.Ffn
-- ==== Proof.Ffn.Sched.lean ====
/-
  The feed-forward up call run from any memory: what each point leaves, the body's obligation
  at every point, and the launch.
-/
module

public import proofs.«01_k».proof.Proof.Gen.FfnKernelIdeal
public import proofs.«01_k».proof.Proof.Gen.FfnKernelIdeal.Skeleton
public import proofs.«01_k».proof.Proof.Gen.FfnKernelIdeal.Frame
public import proofs.«01_k».proof.Proof.Gen.FfnKernelIdeal.Launch
public import proofs.«01_k».proof.Proof.Gen.FfnKernelIdeal.Points
public import proofs.«01_k».proof.Proof.Ffn.Point
public import Idealize.ShloMosaic.Lib.Claim
public import Idealize.ShloMosaic.Lib.Pointwise

@[expose] public section

set_option maxRecDepth 16384

noncomputable section

namespace Cert.Proof.Ffn

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem flush5_early : ∀ t : Fin grid0.N, t.val < 4 → win0_5.flush t = false := by decide +kernel

/-! ## What each point leaves -/

/-- The gate weights' slab of point `n`, and -/
def slabG (c : Dev nD) (n : ℕ) : Vec F S1x1024x256 .bf16 := k0_pay1 (iblk m c 2 ⟨n % 176, Nat.mod_lt _ (by decide)⟩)
/-- the up weights'. -/
def slabU (c : Dev nD) (n : ℕ) : Vec F S1x1024x256 .bf16 := k0_pay2 (iblk m c 3 ⟨n % 176, Nat.mod_lt _ (by decide)⟩)

theorem slabG_at (c : Dev nD) (t : Fin cfg0.N) : slabG m c t.val = k0_pay1 (iblk m c 2 t) := by
  unfold slabG
  have h : t.val < 176 := t.isLt
  exact congrArg (fun u => k0_pay1 (iblk m c 2 u)) (Fin.ext (Nat.mod_eq_of_lt h))

theorem slabU_at (c : Dev nD) (t : Fin cfg0.N) : slabU m c t.val = k0_pay2 (iblk m c 3 t) := by
  unfold slabU
  have h : t.val < 176 := t.isLt
  exact congrArg (fun u => k0_pay2 (iblk m c 3 u)) (Fin.ext (Nat.mod_eq_of_lt h))

/-- The block of activations point `t` leaves (from the second step on). -/
def outAct (c : Dev nD) (t : Fin cfg0.N) : Vec F S2048x256 .bf16 :=
  actBlock (iblk m c 0 t) (iblk m c 1 t) (colTile (slabG m c) t.val) (colTile (slabU m c) t.val)

/-- The rows of the down weights point `t` leaves. -/
def outDown (c : Dev nD) (t : Fin cfg0.N) : Vec F S64x4096 .bf16 := k0_pay3 (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAct m c t
    | ⟨6, _⟩ => outDown m c t
  Φ t := Cols (slabG m c) (slabU m c) c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAct m c t := by dsimp only [dats]
theorem after_6 (c : Dev nD) (t : Fin cfg0.N) : (dats m 0 c).after 6 t = outDown m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body's obligation -/

abbrev ms0 (t : Fin cfg0.N) : Memref sig .tc .vmem S2048x4096 .bf16 := win0_0.stage (cfg0.slots t 0)
abbrev ms1 (t : Fin cfg0.N) : Memref sig .tc .vmem S2048x1 .f32 := win0_1.stage (cfg0.slots t 1)
abbrev ms2 (t : Fin cfg0.N) : Memref sig .tc .vmem S1x1024x256 .f32 := win0_2.stage (cfg0.slots t 2)
abbrev ms3 (t : Fin cfg0.N) : Memref sig .tc .vmem S1x1024x256 .f32 := win0_3.stage (cfg0.slots t 3)
abbrev ms4 (t : Fin cfg0.N) : Memref sig .tc .vmem S1x64x4096 .f32 := win0_4.stage (cfg0.slots t 4)
abbrev ms5 (t : Fin cfg0.N) : Memref sig .tc .vmem S2048x256 .bf16 := win0_5.stage (cfg0.slots t 5)
abbrev ms6 (t : Fin cfg0.N) : Memref sig .tc .vmem S64x4096 .bf16 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ owns (c : Thread nD τ) (ms6 t) fullShare ((dats m 0 c).after 6 t))

theorem leaves5_early (c : Dev nD) (t : Fin cfg0.N) (h : ¬ k0_cond2 (grid0.coords t) = 1#1) (ht : t.val < 4) :
    (dats m 0 c).leavesExact 5 t = iprop(∃ d, owns (c : Thread nD τ) (ms5 t) fullShare ((dats m 0 c).before 5 t d)) :=
  Dat.leavesExact_idle _ 5 t (by show (!(k0_cond2 (grid0.coords t) == 1#1)) = true; simp [h]) (flush5_early t ht)

theorem leaves5_late (c : Dev nD) (t : Fin cfg0.N) (h : k0_cond2 (grid0.coords t) = 1#1) :
    (dats m 0 c).leavesExact 5 t = owns (c : Thread nD τ) (ms5 t) fullShare (outAct m c t) := by
  have hi : cfg0.idle 5 (cfg0.grid.coords t) = false := by show (!(k0_cond2 (grid0.coords t) == 1#1)) = false; simp [h]
  unfold Dat.leavesExact
  rw [hi, after_5]

theorem Phi_castSucc (c : Dev nD) (t : Fin cfg0.N) : (dats m 0 c).Φ t.castSucc = Cols (slabG m c) (slabU m c) c t.val := by dsimp only [dats, Fin.val_castSucc]
theorem Phi_succ (c : Dev nD) (t : Fin cfg0.N) : (dats m 0 c).Φ t.succ = Cols (slabG m c) (slabU m c) c (t.val + 1) := by dsimp only [dats, Fin.val_succ]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [Phi_castSucc, Phi_succ, show (dats m 0 c).owesAt () t.succ = (dats m 0 c).owesAt () t.castSucc from rfl,
    after_0, after_1, after_2, after_3, after_4, after_6]
  iintro ⟨Hc, Ho, ⟨%d0, H0⟩, ⟨%d1, H1⟩, ⟨%d2, H2⟩, ⟨%d3, H3⟩, ⟨%d4, H4⟩, ⟨%d5, H5⟩, ⟨%d6, H6⟩⟩
  have early : t.val < 4 → owns (c : Thread nD τ) (ms5 t) fullShare ((dats m 0 c).before 5 t d5) ⊢ (dats m 0 c).leavesExact 5 t := by
    intro h
    rw [leaves5_early m c t (fun h2 => absurd ((cond2_iff t).1 h2) (Nat.not_le_of_lt h)) h]
    iintro H
    iexists d5
    iexact H
  have late : 4 ≤ t.val → owns (c : Thread nD τ) (ms5 t) fullShare (outAct m c t) ⊢ (dats m 0 c).leavesExact 5 t := by
    intro h
    rw [leaves5_late m c t ((cond2_iff t).2 h)]
  iapply (point defs₀ (slabG m c) (slabU m c) c t (ms0 t) _ (ms1 t) _ (ms2 t) _ (ms3 t) _ (ms4 t) _ (ms5 t) _ (ms6 t) _
    (iblk m c 0 t) (iblk m c 1 t) (iblk m c 2 t) (iblk m c 3 t) (iblk m c 4 t) _ _ (slabG_at m c t) (slabU_at m c t) _ early late _)
  unfold Given
  isplitl [Hc H0 H1 H2 H3 H4 H5 H6]
  · isplitl [Hc]; · iexact Hc
    isplitl [H0]; · iexact H0
    isplitl [H1]; · iexact H1
    isplitl [H2]; · iexact H2
    isplitl [H3]; · iexact H3
    isplitl [H4]; · iexact H4
    isplitl [H5]; · iexact H5
    iexact H6
  iintro ⟨Hc, H⟩
  isplitl [Hc]; · iexact Hc
  isplitl [Ho]; · iexact Ho
  unfold outDown
  iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) :
    (Pipeline.ΦA spec0 c : sProp 𝕄)
      = iprop(iprop((∃ d, owns (c : Thread nD τ) (Memref.whole cc0_scratch0 : Memref sig .tc .vmem S2x4096x256 .bf16) fullShare d)
        ∗ (∃ d, owns (c : Thread nD τ) (Memref.whole cc0_scratch1 : Memref sig .tc .vmem S2x4096x256 .bf16) fullShare d)) ∗ (∃ r, prngReg c r)) := by
  unfold Pipeline.ΦA; rw [scopedRest0_eq]; simp only [owns_whole]; try rfl

theorem Phi_in (c : Dev nD) : Pipeline.ΦA spec0 c ⊢ (dats m 0 c).Φ 0 := by
  show _ ⊢ Cols (slabG m c) (slabU m c) c 0
  rw [PhiA_eq]
  unfold Cols
  iintro ⟨⟨⟨%d9, H9⟩, ⟨%d10, H10⟩⟩, Hg⟩
  iexists d9
  iexists d10
  isplitr
  · ipureintro
    exact ⟨good_zero _ _, good_zero _ _⟩
  isplitl [H9]; · iexact H9
  isplitl [H10]; · iexact H10
  iexact Hg

theorem Phi_out (c : Dev nD) : (dats m 0 c).Φ (Fin.last cfg0.N) ⊢ Pipeline.ΦA spec0 c := by
  show Cols (slabG m c) (slabU m c) c _ ⊢ _
  rw [PhiA_eq]
  unfold Cols
  iintro ⟨%d9, %d10, -, H9, H10, Hg⟩
  isplitl [H9 H10]
  · isplitl [H9]
    · iexists d9; iexact H9
    · iexists d10; iexact H10
  iexact Hg

theorem share_eq (c : Dev nD) (w : Fin cfg0.W) : (dats m 0 c).share w = fullShare := by
  unfold Dat.share
  split
  · rfl
  · dsimp only [dats]

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Ffn
-- ==== Proof.Ffn.Host.lean ====
/- The host operations before the feed-forward call: the rows times the norm's weights, and the rows' sums of squares. -/
module

public import proofs.«01_k».proof.Proof.Gen.FfnKernelIdeal.Frame
public import Idealize.ShloMosaic.Lib.Pointwise
public import Idealize.ShloMosaic.PureOps.Ideal

@[expose] public section

noncomputable section

namespace Cert.Proof.Ffn

open Idealize.ShloMosaic Idealize.ShloMosaic.TcCoe Cert.FfnKernelIdeal Cert.FfnKernelIdeal.Gen Idealize.ShloMosaic.Pointwise

/-- The layer's norm weights. -/
def normRow (w : FVec Ideal S2x4096 .f32) : FVec Ideal S4096 .f32 :=
  shapeCast S4096 (extractStridedSlice S1x4096 ![0, 0] w slices_S2x4096_S1x4096_0_0) shapeCasts_S1x4096_S4096

theorem normRow_apply (w : FVec Ideal S2x4096 .f32) (k : Fin 4096) : normRow w (ix1 k) = w (ix2 0 k) := by
  pointwise [normRow]

/-- The rows times a norm's weights. -/
def hRows (x : FVec Ideal S4x2048x4096 .f32) (v : FVec Ideal S4096 .f32) : FVec Ideal S8192x4096 .bf16 :=
  truncf .bf16 (mulf (shapeCast S8192x4096 x shapeCasts_S4x2048x4096_S8192x4096)
    (broadcastInDim S8192x4096 ![0, 1] bcast_S1x4096_S8192x4096_0_1 (broadcastInDim S1x4096 ![1] bcast_S4096_S1x4096_1 v))) bitsLt_bf16_f32

/-- The rows' sums of squares. -/
def hSums (x : FVec Ideal S4x2048x4096 .f32) : FVec Ideal S8192x1 .f32 :=
  broadcastInDim S8192x1 ![0] bcast_S8192_S8192x1_0 (Host.reduceAdd
    (mulf (shapeCast S8192x4096 x shapeCasts_S4x2048x4096_S8192x4096) (shapeCast S8192x4096 x shapeCasts_S4x2048x4096_S8192x4096))
    (constant S_ .f32 0x00000000#32) reducesTo_S8192x4096_S8192_d1 h_S_)

variable (m : (ℓ : Loc nD τ sig) → Buf (Elt Ideal) ℓ)

theorem V_rows (c : Dev nD) : V m c main_v6 = hRows (m ((c : Thread nD τ).loc main_arg0)) (normRow (m ((c : Thread nD τ).loc main_arg1))) := by
  unfold V
  simp only [hostOps0, StableHlo.TRef.ternary, StableHlo.TRef.unary, StableHlo.TRef.toBuf, StableHlo.TRef.ofBuf, cast_eq]
  after_results_simp
  rfl

theorem V_sums (c : Dev nD) : V m c main_v9 = hSums (m ((c : Thread nD τ).loc main_arg0)) := by
  unfold V
  simp only [hostOps0, StableHlo.TRef.ternary, StableHlo.TRef.unary, StableHlo.TRef.toBuf, StableHlo.TRef.ofBuf, cast_eq]
  after_results_simp
  rfl

theorem hRows_apply (x : FVec Ideal S4x2048x4096 .f32) (v : FVec Ideal S4096 .f32) (i : Fin 8192) (k : Fin 4096) :
    hRows x v (ix2 i k) = (x (ix3 ⟨i.val / 2048, by omega⟩ ⟨i.val % 2048, by omega⟩ k) : EReal) * v (ix1 k) := by
  pointwise [hRows]
  try rfl

theorem hSums_apply (x : FVec Ideal S4x2048x4096 .f32) (i : Fin 8192) (z : Fin 1) :
    hSums x (ix2 i z) = ∑ k, (x (ix3 ⟨i.val / 2048, by omega⟩ ⟨i.val % 2048, by omega⟩ k) : EReal) * x (ix3 ⟨i.val / 2048, by omega⟩ ⟨i.val % 2048, by omega⟩ k) := by
  pointwise [hSums]
  try rfl

end Cert.Proof.Ffn

end
-- ==== Proof.Ffn.Math.lean ====
/- The arithmetic of one entry of the feed-forward half: a row scaled by the inverse root of its mean square before the two
   products or after them, and the gate through a hyperbolic tangent or through a logistic function. -/
module

public import Idealize.ShloMosaic.PureOps.Ideal

@[expose] public section

noncomputable section

namespace Cert.Proof.Ffn

open Idealize.ShloMosaic

theorem bits_mean : Ideal.ofBits .f32 0x39800000#32 = ((1 / 4096 : ℝ) : EReal) := by
  simp [Ideal.ofBits, Ideal.ieee, -EReal.coe_mul]; norm_num

theorem bits_4096 : Ideal.ofBits .f32 0x45800000#32 = ((4096 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The sum of a coerced family is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A factor that is real and not negative goes into a sum. -/
theorem sum_scale {ι : Type} (s : Finset ι) (f : ι → EReal) (r : ℝ) (hr : 0 ≤ r) : ∑ i ∈ s, (r : EReal) * f i = (r : EReal) * ∑ i ∈ s, f i := by
  classical
  induction s using Finset.induction_on with
  | empty => simp
  | insert i s hi ih => rw [Finset.sum_insert hi, Finset.sum_insert hi, ih, EReal.left_distrib_of_nonneg_of_ne_top (by exact_mod_cast hr) (EReal.coe_ne_top r)]

/-- A square is not negative, and plus infinity unless the number is real. -/
theorem square_nonneg (x : EReal) : 0 ≤ x * x := by
  induction x with
  | bot => simp
  | top => simp
  | coe r => exact_mod_cast mul_self_nonneg r

theorem square_top (x : EReal) (h : ¬ ∃ r : ℝ, x = r) : x * x = ⊤ := by
  induction x with
  | bot => simp
  | top => simp
  | coe r => exact (h ⟨r, rfl⟩).elim

/-- A sum of squares: real when every number is, plus infinity otherwise. -/
theorem squares {n : ℕ} (X : Fin n → EReal) : (∃ x : Fin n → ℝ, ∀ k, X k = x k) ∨ ∑ k, X k * X k = ⊤ := by
  by_cases h : ∀ k, ∃ r : ℝ, X k = r
  · exact .inl ⟨fun k => (h k).choose, fun k => (h k).choose_spec⟩
  · obtain ⟨k, hk⟩ := not_forall.1 h
    refine .inr (top_le_iff.1 ?_)
    rw [← square_top (X k) hk]
    exact Finset.single_le_sum (f := fun k => X k * X k) (fun k _ => square_nonneg (X k)) (Finset.mem_univ k)

/-- The inverse root of a row's mean square and `e`. -/
def rowScale {n : ℕ} (X : Fin n → EReal) : EReal :=
  Ideal.rsqrt ((∑ k, X k * X k) * Ideal.ofBits .f32 0x39800000#32 + Ideal.ofBits .f32 0x358637BD#32)

/-- It is real and positive, or zero. -/
theorem rowScale_cases {n : ℕ} (X : Fin n → EReal) :
    (∃ r : ℝ, 0 < r ∧ rowScale X = r ∧ ∃ x : Fin n → ℝ, ∀ k, X k = x k) ∨ rowScale X = 0 := by
  obtain ⟨e, he, hb⟩ := bits_eps
  unfold rowScale
  rw [hb, bits_mean]
  rcases squares X with ⟨x, hx⟩ | h
  · have hs := Finset.sum_nonneg (s := Finset.univ) (f := fun k => x k * x k) (fun k _ => mul_self_nonneg (x k))
    have hp : 0 < (∑ k, x k * x k) * (1 / 4096) + e := by positivity
    refine .inl ⟨(Real.sqrt ((∑ k, x k * x k) * (1 / 4096) + e))⁻¹, by positivity, ?_, x, hx⟩
    simp only [hx, ← EReal.coe_mul, coe_sum, ← EReal.coe_add]
    rw [Ideal.rsqrt_coe, if_neg (not_lt.2 hp.le), if_neg hp.ne']
  · refine .inr ?_
    rw [h, EReal.top_mul_coe_of_pos (by norm_num), EReal.top_add_coe]
    rfl

/-- Half of `g` through a hyperbolic tangent is `g` through a logistic function. -/
theorem half_tanh (g : ℝ) : g * (1 / 2) + g * (1 / 2) * Real.tanh (g * (1 / 2)) = g * (1 / (1 + Real.exp (-g))) := by
  have h1 : Real.exp (-g) = Real.exp (-(g * (1 / 2))) * Real.exp (-(g * (1 / 2))) := by rw [← Real.exp_add]; congr 1; ring
  have hm : Real.exp (-(g * (1 / 2))) = (Real.exp (g * (1 / 2)))⁻¹ := Real.exp_neg _
  have hp := Real.exp_pos (g * (1 / 2))
  rw [Real.tanh_eq_sinh_div_cosh, Real.sinh_eq, Real.cosh_eq, h1, hm]
  generalize Real.exp (g * (1 / 2)) = a at *
  field_simp
  ring

/-- What the kernel computes of a row `X`, the norm's weights and a column of each of the two matrices. -/
def kernelEntry {n : ℕ} (X N G U : Fin n → EReal) : EReal :=
  let h := (∑ k, (X k * N k) * G k) * (Ideal.ofBits .f32 0x3F000000#32 * rowScale X)
  (h + h * Ideal.tanh h) * ((∑ k, (X k * N k) * U k) * rowScale X)

/-- What the reference computes of them. -/
def referenceEntry {n : ℕ} (X N G U : Fin n → EReal) : EReal :=
  let r := Ideal.rsqrt (Ideal.div (∑ k, X k * X k) (Ideal.ofBits .f32 0x45800000#32) + Ideal.ofBits .f32 0x358637BD#32)
  let g := ∑ k, (X k * r * N k) * G k
  g * Ideal.div (Ideal.ofBits .f32 0x3F800000#32) (Ideal.ofBits .f32 0x3F800000#32 + Ideal.exp (-g)) * ∑ k, (X k * r * N k) * U k

/-- THE TWO AGREE when the norm's weights and the gate's column are real, whatever the row and the other column are. -/
theorem entries_eq {n : ℕ} (X N G U : Fin n → EReal) (hN : ∀ k, ∃ r : ℝ, N k = r) (hG : ∀ k, ∃ r : ℝ, G k = r) :
    kernelEntry X N G U = referenceEntry X N G U := by
  have hr : Ideal.rsqrt (Ideal.div (∑ k, X k * X k) (Ideal.ofBits .f32 0x45800000#32) + Ideal.ofBits .f32 0x358637BD#32) = rowScale X := by
    rw [bits_4096, Ideal.div_coe (by norm_num)]
    unfold rowScale
    rw [bits_mean]
  unfold kernelEntry referenceEntry
  simp only [hr]
  rcases rowScale_cases X with ⟨r, h0, e, x, hx⟩ | e
  · have hu : ∀ W : Fin n → EReal, ∑ k, (X k * rowScale X * N k) * W k = (∑ k, (X k * N k) * W k) * rowScale X := by
      intro W
      rw [e, mul_comm _ (r : EReal), ← sum_scale _ _ r h0.le]
      exact Finset.sum_congr rfl fun k _ => by rw [mul_comm (X k) (r : EReal), mul_assoc (r : EReal), mul_assoc (r : EReal)]
    rw [hu G, hu U]
    choose ν hν using hN
    choose γ hγ using hG
    rw [e]
    generalize (∑ k, X k * N k * U k) * (r : EReal) = u
    simp only [hx, hν, hγ, ← EReal.coe_mul, coe_sum, bits_half, bits_one]
    generalize (∑ k, x k * ν k * γ k) = s
    have hden : (1 + Real.exp (-(s * r))) ≠ 0 := by positivity
    rw [Ideal.tanh_coe, ← EReal.coe_neg, Ideal.exp_coe, ← EReal.coe_add, Ideal.div_coe hden]
    simp only [← EReal.coe_mul, ← EReal.coe_add]
    congr 2
    have := half_tanh (s * r)
    rw [show s * (1 / 2 * r) = s * r * (1 / 2) by ring, this]
    ring
  · simp [e]

end Cert.Proof.Ffn

end
-- ==== Proof.Ffn.Final.lean ====
/- The two result arrays after the run, from the blocks the grid points write back. -/
module

public import proofs.«01_k».proof.Proof.Ffn.Sched
public import proofs.«01_k».proof.Proof.Ffn.Host
public import proofs.«01_k».proof.Proof.Ffn.Math
public import Idealize.ShloMosaic.Lib.Pipeline.ValueKit

@[expose] public section

noncomputable section

namespace Cert.Proof.Ffn

open Idealize.ShloMosaic Idealize.ShloMosaic.TcCoe Cert.FfnKernelIdeal Cert.FfnKernelIdeal.Gen Idealize.ShloMosaic.Pointwise Idealize.SL.Sem

/-- The windows' block indices at a grid point. -/
theorem index0 : ∀ t : Fin grid0.N, 4 ≤ t.val → win0_0.index t = ![t.val % 4, 0] := by decide +kernel
theorem index1 : ∀ t : Fin grid0.N, 4 ≤ t.val → win0_1.index t = ![t.val % 4, 0] := by decide +kernel
theorem index2 : ∀ t : Fin grid0.N, t.val < 172 → win0_2.index t = ![0, t.val % 4, t.val / 4] := by decide +kernel
theorem index3 : ∀ t : Fin grid0.N, t.val < 172 → win0_3.index t = ![0, t.val % 4, t.val / 4] := by decide +kernel
theorem index4 : ∀ t : Fin grid0.N, win0_4.index t = ![0, min t.val 171, 0] := by decide +kernel
theorem index5 : ∀ t : Fin grid0.N, 4 ≤ t.val → win0_5.index t = ![t.val % 4, t.val / 4 - 1] := by decide +kernel
theorem index6 : ∀ t : Fin grid0.N, win0_6.index t = ![min t.val 171, 0] := by decide +kernel

/-- An entry of a block of activations. -/
theorem actBlock_apply (x : Vec Ideal S2048x4096 .bf16) (s : Vec Ideal S2048x1 .f32) (g u : Vec Ideal S1x4096x256 .bf16) (a : Fin 2048) (l : Fin 256) :
    actBlock x s g u (ix2 a l)
      = (((∑ k, (x (ix2 a k) : EReal) * g (ix3 0 k l)) * (Ideal.ofBits .f32 0x3F000000#32
            * Ideal.rsqrt (s (ix2 a 0) * Ideal.ofBits .f32 0x39800000#32 + Ideal.ofBits .f32 0x358637BD#32)))
          + ((∑ k, (x (ix2 a k) : EReal) * g (ix3 0 k l)) * (Ideal.ofBits .f32 0x3F000000#32
            * Ideal.rsqrt (s (ix2 a 0) * Ideal.ofBits .f32 0x39800000#32 + Ideal.ofBits .f32 0x358637BD#32)))
          * Ideal.tanh ((∑ k, (x (ix2 a k) : EReal) * g (ix3 0 k l)) * (Ideal.ofBits .f32 0x3F000000#32
            * Ideal.rsqrt (s (ix2 a 0) * Ideal.ofBits .f32 0x39800000#32 + Ideal.ofBits .f32 0x358637BD#32))))
        * ((∑ k, (x (ix2 a k) : EReal) * u (ix3 0 k l))
          * Ideal.rsqrt (s (ix2 a 0) * Ideal.ofBits .f32 0x39800000#32 + Ideal.ofBits .f32 0x358637BD#32)) := by
  have e : (⟨512 * (a.val / 512) + a.val % 512, by omega⟩ : Fin 2048) = a := Fin.ext (by show 512 * (a.val / 512) + a.val % 512 = a.val; omega)
  rw [actBlock_at x s g u ⟨a.val / 512, by omega⟩ ⟨a.val % 512, by omega⟩ l _ (by show a.val = 512 * (a.val / 512) + a.val % 512; omega) rfl]
  pointwise [k0_pay4, k0_pay5, k0_pay6, rowsX, rowsS]
  simp only [e]

/-- Layer `z`'s activations as an array. -/
def actArr (z : Fin 2) (x : FVec Ideal S4x2048x4096 .f32) (w : FVec Ideal S2x4096 .f32) (g u : FVec Ideal S2x4096x11008 .f32) : FVec Ideal S8192x11008 .bf16 := fun i =>
  let r : Fin 8192 := i 0
  kernelEntry (fun k : Fin 4096 => x (ix3 ⟨r.val / 2048, by omega⟩ ⟨r.val % 2048, by omega⟩ k)) (fun k => w (ix2 z k)) (fun k => g (ix3 z k (i 1))) (fun k => u (ix3 z k (i 1)))

/-- Its down weights as an array. -/
def downArr (z : Fin 2) (d : FVec Ideal S2x11008x4096 .f32) : FVec Ideal S11008x4096 .bf16 := fun i => d (ix3 z (i 0) (i 1))

/-- A column tile's entry, when its slabs are a matrix's. -/
theorem colTile_apply (z : Fin 2) (S : ℕ → Vec Ideal S1x1024x256 .bf16) (W : FVec Ideal S2x4096x11008 .f32)
    (h : ∀ (n : ℕ) (hn : n < 172) (k : Fin 1024) (l : Fin 256), S n (ix3 0 k l) = W (ix3 z ⟨n % 4 * 1024 + k.val, by omega⟩ ⟨n / 4 * 256 + l.val, by omega⟩))
    (n : ℕ) (h4 : 4 ≤ n) (hn : n < 176) (k : Fin 4096) (l : Fin 256) :
    colTile S n (ix3 0 k l) = W (ix3 z k ⟨(n / 4 - 1) * 256 + l.val, by omega⟩) := by
  refine (h (4 * (n / 4 - 1) + k.val / 1024) (by omega) ⟨k.val % 1024, by omega⟩ l).trans (congrArg W ?_)
  congr 1
  · apply Fin.ext; show (4 * (n / 4 - 1) + k.val / 1024) % 4 * 1024 + k.val % 1024 = k.val; omega
  · apply Fin.ext; show (4 * (n / 4 - 1) + k.val / 1024) / 4 * 256 + l.val = (n / 4 - 1) * 256 + l.val; omega

/-- A block of activations is the array's there, when the rows, the sums and the slabs it is made of are the layer's. -/
theorem act_value (z : Fin 2) (x : FVec Ideal S4x2048x4096 .f32) (w : FVec Ideal S2x4096 .f32) (g u : FVec Ideal S2x4096x11008 .f32) (v : FVec Ideal S4096 .f32)
    (hv : ∀ k, v (ix1 k) = w (ix2 z k)) (n : ℕ) (h4 : 4 ≤ n) (hn : n < 176)
    (X : Vec Ideal S2048x4096 .bf16) (S : Vec Ideal S2048x1 .f32) (SG SU : ℕ → Vec Ideal S1x1024x256 .bf16)
    (hG : ∀ (n : ℕ) (hn : n < 172) (k : Fin 1024) (l : Fin 256), SG n (ix3 0 k l) = g (ix3 z ⟨n % 4 * 1024 + k.val, by omega⟩ ⟨n / 4 * 256 + l.val, by omega⟩))
    (hU : ∀ (n : ℕ) (hn : n < 172) (k : Fin 1024) (l : Fin 256), SU n (ix3 0 k l) = u (ix3 z ⟨n % 4 * 1024 + k.val, by omega⟩ ⟨n / 4 * 256 + l.val, by omega⟩))
    (a : Fin 2048) (l : Fin 256) (hx : ∀ k, X (ix2 a k) = hRows x v (ix2 ⟨n % 4 * 2048 + a.val, by omega⟩ k))
    (hs : S (ix2 a 0) = hSums x (ix2 ⟨n % 4 * 2048 + a.val, by omega⟩ 0)) :
    actBlock X S (colTile SG n) (colTile SU n) (ix2 a l)
      = actArr z x w g u (ix2 ⟨n % 4 * 2048 + a.val, by omega⟩ ⟨(n / 4 - 1) * 256 + l.val, by omega⟩) := by
  refine (actBlock_apply X S (colTile SG n) (colTile SU n) a l).trans ?_
  simp only [hx, hs, hRows_apply, hSums_apply, hv, colTile_apply z _ _ hG n h4 hn, colTile_apply z _ _ hU n h4 hn]
  rfl

variable (m : (ℓ : Loc nD τ sig) → Buf (Elt Ideal) ℓ) (c : Dev nD)

/-- Where the blocks lie. -/
theorem emb5 (t : Fin cfg0.N) (ht : 4 ≤ t.val) (a : Fin 2048) (l : Fin 256) :
    (win0_5.blk t).view.emb (ix2 a l) = (ix2 ⟨t.val % 4 * 2048 + a.val, by omega⟩ ⟨(t.val / 4 - 1) * 256 + l.val, by have : t.val < 176 := t.isLt; omega⟩ : S8192x11008.Idx) := by
  funext x; apply Fin.ext
  match x with
  | ⟨0, _⟩ => show win0_5.index t (0 : Fin 2) * 2048 + 1 * a.val = t.val % 4 * 2048 + a.val; rw [index5 t ht]; show t.val % 4 * 2048 + 1 * a.val = _; omega
  | ⟨1, _⟩ => show win0_5.index t (1 : Fin 2) * 256 + 1 * l.val = (t.val / 4 - 1) * 256 + l.val; rw [index5 t ht]; show (t.val / 4 - 1) * 256 + 1 * l.val = _; omega

theorem emb0 (t : Fin cfg0.N) (ht : 4 ≤ t.val) (a : Fin 2048) (k : Fin 4096) :
    (win0_0.blk t).view.emb (ix2 a k) = (ix2 ⟨t.val % 4 * 2048 + a.val, by omega⟩ k : S8192x4096.Idx) := by
  funext x; apply Fin.ext
  match x with
  | ⟨0, _⟩ => show win0_0.index t (0 : Fin 2) * 2048 + 1 * a.val = t.val % 4 * 2048 + a.val; rw [index0 t ht]; show t.val % 4 * 2048 + 1 * a.val = _; omega
  | ⟨1, _⟩ => show win0_0.index t (1 : Fin 2) * 4096 + 1 * k.val = k.val; rw [index0 t ht]; show 0 * 4096 + 1 * k.val = _; omega

theorem emb1 (t : Fin cfg0.N) (ht : 4 ≤ t.val) (a : Fin 2048) :
    (win0_1.blk t).view.emb (ix2 a 0) = (ix2 ⟨t.val % 4 * 2048 + a.val, by omega⟩ 0 : S8192x1.Idx) := by
  funext x; apply Fin.ext
  match x with
  | ⟨0, _⟩ => show win0_1.index t (0 : Fin 2) * 2048 + 1 * a.val = t.val % 4 * 2048 + a.val; rw [index1 t ht]; show t.val % 4 * 2048 + 1 * a.val = _; omega
  | ⟨1, _⟩ => show win0_1.index t (1 : Fin 2) * 1 + 1 * 0 = 0; rw [index1 t ht]; rfl

theorem emb2 (t : Fin cfg0.N) (ht : t.val < 172) (k : Fin 1024) (l : Fin 256) :
    (win0_2.blk t).view.emb (ix3 0 k l) = (ix3 0 ⟨t.val % 4 * 1024 + k.val, by omega⟩ ⟨t.val / 4 * 256 + l.val, by omega⟩ : S2x4096x11008.Idx) := by
  funext x; apply Fin.ext
  match x with
  | ⟨0, _⟩ => show win0_2.index t (0 : Fin 3) * 1 + 1 * 0 = 0; rw [index2 t ht]; rfl
  | ⟨1, _⟩ => show win0_2.index t (1 : Fin 3) * 1024 + 1 * k.val = t.val % 4 * 1024 + k.val; rw [index2 t ht]; show t.val % 4 * 1024 + 1 * k.val = _; omega
  | ⟨2, _⟩ => show win0_2.index t (2 : Fin 3) * 256 + 1 * l.val = t.val / 4 * 256 + l.val; rw [index2 t ht]; show t.val / 4 * 256 + 1 * l.val = _; omega

theorem emb3 (t : Fin cfg0.N) (ht : t.val < 172) (k : Fin 1024) (l : Fin 256) :
    (win0_3.blk t).view.emb (ix3 0 k l) = (ix3 0 ⟨t.val % 4 * 1024 + k.val, by omega⟩ ⟨t.val / 4 * 256 + l.val, by omega⟩ : S2x4096x11008.Idx) := by
  funext x; apply Fin.ext
  match x with
  | ⟨0, _⟩ => show win0_3.index t (0 : Fin 3) * 1 + 1 * 0 = 0; rw [index3 t ht]; rfl
  | ⟨1, _⟩ => show win0_3.index t (1 : Fin 3) * 1024 + 1 * k.val = t.val % 4 * 1024 + k.val; rw [index3 t ht]; show t.val % 4 * 1024 + 1 * k.val = _; omega
  | ⟨2, _⟩ => show win0_3.index t (2 : Fin 3) * 256 + 1 * l.val = t.val / 4 * 256 + l.val; rw [index3 t ht]; show t.val / 4 * 256 + 1 * l.val = _; omega

theorem emb4 (t : Fin cfg0.N) (a : Fin 64) (l : Fin 4096) :
    (win0_4.blk t).view.emb (ix3 0 a l) = (ix3 0 ⟨min t.val 171 * 64 + a.val, by omega⟩ l : S2x11008x4096.Idx) := by
  funext x; apply Fin.ext
  match x with
  | ⟨0, _⟩ => show win0_4.index t (0 : Fin 3) * 1 + 1 * 0 = 0; rw [index4 t]; rfl
  | ⟨1, _⟩ => show win0_4.index t (1 : Fin 3) * 64 + 1 * a.val = min t.val 171 * 64 + a.val; rw [index4 t]; show min t.val 171 * 64 + 1 * a.val = _; omega
  | ⟨2, _⟩ => show win0_4.index t (2 : Fin 3) * 4096 + 1 * l.val = l.val; rw [index4 t]; show 0 * 4096 + 1 * l.val = _; omega

theorem emb6 (t : Fin cfg0.N) (a : Fin 64) (l : Fin 4096) :
    (win0_6.blk t).view.emb (ix2 a l) = (ix2 ⟨min t.val 171 * 64 + a.val, by omega⟩ l : S11008x4096.Idx) := by
  funext x; apply Fin.ext
  match x with
  | ⟨0, _⟩ => show win0_6.index t (0 : Fin 2) * 64 + 1 * a.val = min t.val 171 * 64 + a.val; rw [index6 t]; show min t.val 171 * 64 + 1 * a.val = _; omega
  | ⟨1, _⟩ => show win0_6.index t (1 : Fin 2) * 4096 + 1 * l.val = l.val; rw [index6 t]; show 0 * 4096 + 1 * l.val = _; omega

/-- A slab's entry is the layer's matrix's. -/
theorem slabG_apply (n : ℕ) (hn : n < 172) (k : Fin 1024) (l : Fin 256) :
    slabG m c n (ix3 0 k l) = (m ((c : Thread nD τ).loc main_arg2) : FVec Ideal S2x4096x11008 .f32)
      (ix3 0 ⟨n % 4 * 1024 + k.val, by omega⟩ ⟨n / 4 * 256 + l.val, by omega⟩) := by
  obtain ⟨t, rfl⟩ : ∃ t : Fin cfg0.N, t.val = n := ⟨⟨n, by show n < 176; omega⟩, rfl⟩
  rw [slabG_at]
  pointwise [k0_pay1]
  exact (congrArg (V m c main_arg2) (emb2 t hn k l)).trans (congrFun (V_main_arg2 m c) _)

theorem slabU_apply (n : ℕ) (hn : n < 172) (k : Fin 1024) (l : Fin 256) :
    slabU m c n (ix3 0 k l) = (m ((c : Thread nD τ).loc main_arg3) : FVec Ideal S2x4096x11008 .f32)
      (ix3 0 ⟨n % 4 * 1024 + k.val, by omega⟩ ⟨n / 4 * 256 + l.val, by omega⟩) := by
  obtain ⟨t, rfl⟩ : ∃ t : Fin cfg0.N, t.val = n := ⟨⟨n, by show n < 176; omega⟩, rfl⟩
  rw [slabU_at]
  pointwise [k0_pay2]
  exact (congrArg (V m c main_arg3) (emb3 t hn k l)).trans (congrFun (V_main_arg3 m c) _)

/-- THE ACTIVATIONS after the run. -/
theorem act_final : (dats m 0 c).arrAt 5 cfg0.N = actArr 0 (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after_5]
  have ht : 4 ≤ t.val := by
    by_contra h
    exact absurd ((flush5_early t (by omega)).symm.trans hf) (by decide)
  have hN : t.val < 176 := t.isLt
  obtain ⟨a, l, rfl⟩ : ∃ (a : Fin 2048) (l : Fin 256), y = (ix2 a l : S2048x256.Idx) := ⟨y 0, y 1, eq_ix2 (n0 := 2048) (n1 := 256) y⟩
  rw [emb5 t ht a l]
  exact act_value 0 _ _ _ _ _ (normRow_apply _) t.val ht hN (iblk m c 0 t) (iblk m c 1 t) (slabG m c) (slabU m c) (slabG_apply m c) (slabU_apply m c) a l
    (fun k => (congrArg (V m c main_v6) (emb0 t ht a k)).trans (congrFun (V_rows m c) _))
    ((congrArg (V m c main_v9) (emb1 t ht a)).trans (congrFun (V_sums m c) _))

/-- THE DOWN WEIGHTS after the run. -/
theorem down_final : (dats m 0 c).arrAt 6 cfg0.N = downArr 0 (m ((c : Thread nD τ).loc main_arg4)) := by
  refine (dats m 0 c).arrAt_eq_of_covers 6 _ (by decide +kernel) fun t hf y => ?_
  blk_simp
  rw [after_6]
  obtain ⟨a, l, rfl⟩ : ∃ (a : Fin 64) (l : Fin 4096), y = (ix2 a l : S64x4096.Idx) := ⟨y 0, y 1, eq_ix2 (n0 := 64) (n1 := 4096) y⟩
  rw [emb6 t a l]
  have e : outDown m c t (ix2 a l) = iblk m c 4 t (ix3 0 a l) := by
    unfold outDown
    pointwise [k0_pay3]
  rw [e]
  exact (congrArg (V m c main_arg4) (emb4 t a l)).trans (congrFun (V_main_arg4 m c) _)

end Cert.Proof.Ffn

end
-- ==== Proof.Ffn.Ref.lean ====
/- The feed-forward reference's two results at an index. -/
module

public import proofs.«01_k».proof.Proof.Gen.FfnReferenceIdeal.Run
public import Idealize.ShloMosaic.Lib.Pointwise
public import Idealize.ShloMosaic.PureOps.Ideal
public import proofs.«01_k».proof.Proof.Ffn.Math

@[expose] public section

noncomputable section

namespace Cert.Proof.Ffn.Ref

open Idealize.ShloMosaic Idealize.ShloMosaic.TcCoe Cert.FfnReferenceIdeal Cert.FfnReferenceIdeal.Gen Idealize.ShloMosaic.Pointwise

/-- The inverse roots of the rows' mean squares. -/
def scales (x : FVec Ideal S4x2048x4096 .f32) : FVec Ideal S4x2048x1 .f32 :=
  Host.rsqrt (addf (Host.divf (broadcastInDim S4x2048x1 ![0, 1] bcast_S4x2048_S4x2048x1_0_1
      (Host.reduceAdd (mulf x x) (constant S_ .f32 0x00000000#32) reducesTo_S4x2048x4096_S4x2048_d2 h_S_))
    (broadcastInDim S4x2048x1 ![] bcast_S_S4x2048x1 (constant S_ .f32 0x45800000#32)))
    (broadcastInDim S4x2048x1 ![] bcast_S_S4x2048x1 (constant S_ .f32 0x358637BD#32)))

/-- The normalized rows. -/
def normed (x : FVec Ideal S4x2048x4096 .f32) (v : FVec Ideal S4096 .f32) : FVec Ideal S4x2048x4096 .f32 :=
  mulf (mulf x (broadcastInDim S4x2048x4096 ![0, 1, 2] bcast_S4x2048x1_S4x2048x4096_0_1_2 (scales x)))
    (broadcastInDim S4x2048x4096 ![0, 1, 2] bcast_S1x1x4096_S4x2048x4096_0_1_2 (broadcastInDim S1x1x4096 ![2] bcast_S4096_S1x1x4096_2 v))

/-- The layer's matrix of a pair. -/
def matrix (g : FVec Ideal S2x4096x11008 .f32) : FVec Ideal S4096x11008 .f32 :=
  shapeCast S4096x11008 (extractStridedSlice S1x4096x11008 ![0, 0, 0] g slices_S2x4096x11008_S1x4096x11008_0_0_0) shapeCasts_S1x4096x11008_S4096x11008

/-- The rows times a matrix. -/
def product (h : FVec Ideal S4x2048x4096 .f32) (g : FVec Ideal S4096x11008 .f32) : FVec Ideal S4x2048x11008 .f32 :=
  Host.dotGeneral dot_S4x2048x4096_S4096x11008_S4x2048x11008_2_0_01_1_n_n none h g

/-- The gate's function. -/
def silu (g : FVec Ideal S4x2048x11008 .f32) : FVec Ideal S4x2048x11008 .f32 :=
  mulf g (Host.divf (broadcastInDim S4x2048x11008 ![] bcast_S_S4x2048x11008 (constant S_ .f32 0x3F800000#32))
    (addf (broadcastInDim S4x2048x11008 ![] bcast_S_S4x2048x11008 (constant S_ .f32 0x3F800000#32)) (Host.exp (Host.negf g))))

/-- The activations. -/
def acts (g u : FVec Ideal S4x2048x11008 .f32) : FVec Ideal S8192x11008 .bf16 :=
  truncf .bf16 (shapeCast S8192x11008 (mulf (silu g) u) shapeCasts_S4x2048x11008_S8192x11008) bitsLt_bf16_f32

/-- The down weights. -/
def downs (d : FVec Ideal S2x11008x4096 .f32) : FVec Ideal S11008x4096 .bf16 :=
  truncf .bf16 (shapeCast S11008x4096 (extractStridedSlice S1x11008x4096 ![0, 0, 0] d slices_S2x11008x4096_S1x11008x4096_0_0_0) shapeCasts_S1x11008x4096_S11008x4096) bitsLt_bf16_f32

theorem scales_apply (x : FVec Ideal S4x2048x4096 .f32) (b : Fin 4) (s : Fin 2048) (z : Fin 1) :
    scales x (ix3 b s z) = Ideal.rsqrt (Ideal.div (∑ k, (x (ix3 b s k) : EReal) * x (ix3 b s k)) (Ideal.ofBits .f32 0x45800000#32) + Ideal.ofBits .f32 0x358637BD#32) := by
  pointwise [scales]
  try rfl

theorem matrix_apply (g : FVec Ideal S2x4096x11008 .f32) (k : Fin 4096) (j : Fin 11008) : matrix g (ix2 k j) = g (ix3 0 k j) := by
  pointwise [matrix]

theorem product_apply (x : FVec Ideal S4x2048x4096 .f32) (v : FVec Ideal S4096 .f32) (g : FVec Ideal S4096x11008 .f32) (b : Fin 4) (s : Fin 2048) (j : Fin 11008) :
    product (normed x v) g (ix3 b s j) = ∑ k, ((x (ix3 b s k) : EReal) * scales x (ix3 b s 0) * v (ix1 k)) * g (ix2 k j) := by
  pointwise [product, normed]
  try rfl

theorem acts_apply (g u : FVec Ideal S4x2048x11008 .f32) (i : Fin 8192) (j : Fin 11008) :
    acts g u (ix2 i j) = (g (ix3 ⟨i.val / 2048, by omega⟩ ⟨i.val % 2048, by omega⟩ j) : EReal)
      * Ideal.div (Ideal.ofBits .f32 0x3F800000#32) (Ideal.ofBits .f32 0x3F800000#32 + Ideal.exp (-(g (ix3 ⟨i.val / 2048, by omega⟩ ⟨i.val % 2048, by omega⟩ j) : EReal)))
      * u (ix3 ⟨i.val / 2048, by omega⟩ ⟨i.val % 2048, by omega⟩ j) := by
  pointwise [acts, silu]
  try rfl

theorem downs_apply (d : FVec Ideal S2x11008x4096 .f32) (i : Fin 11008) (j : Fin 4096) : downs d (ix2 i j) = d (ix3 0 i j) := by
  pointwise [downs]
  try rfl

/-- THE ACTIVATIONS, an entry at a time. -/
theorem result_apply (x : FVec Ideal S4x2048x4096 .f32) (v : FVec Ideal S4096 .f32) (g u : FVec Ideal S4096x11008 .f32) (i : Fin 8192) (j : Fin 11008) :
    acts (product (normed x v) g) (product (normed x v) u) (ix2 i j)
      = referenceEntry (fun k => x (ix3 ⟨i.val / 2048, by omega⟩ ⟨i.val % 2048, by omega⟩ k)) (fun k => v (ix1 k)) (fun k => g (ix2 k j)) (fun k => u (ix2 k j)) := by
  rw [acts_apply, product_apply, product_apply, scales_apply]
  rfl

end Cert.Proof.Ffn.Ref

end
-- ==== Proof.Ffn.Finite.lean ====
/- What the precondition says: the layer's norm weights and gate matrix are real numbers. -/
module

public import proofs.«01_k».proof.Pre_ffn_finite
public import proofs.«01_k».proof.Proof.Gen.Pre_ffn_finite
public import Idealize.ShloMosaic.Lib.ReduceAll
public import Idealize.ShloMosaic.Lib.Affine
public import Idealize.ShloMosaic.Lib.Pointwise
public import Idealize.ShloMosaic.PureOps.Ideal

@[expose] public section

noncomputable section

namespace Cert.Proof.Ffn

open Idealize.ShloMosaic Idealize.ShloMosaic.Pointwise Cert.Pre_ffn_finite Cert.Pre_ffn_finite.Gen

instance : Subsingleton S_.Idx := ⟨fun a b => funext fun k => k.elim0⟩

/-- A number whose absolute value is below infinity is real. -/
theorem real_of_abs_lt {x : EReal} (h : FloatOps.cmpf (F := Ideal) (φ := .f32) .olt (FloatOps.absf (F := Ideal) (φ := .f32) x) (Ideal.ofBits .f32 0x7F800000#32) = 1#1) :
    ∃ r : ℝ, x = r := by
  have hb : Ideal.ofBits .f32 0x7F800000#32 = ⊤ := by simp [Ideal.ofBits, Ideal.ieee]
  rw [hb] at h
  induction x with
  | bot => exfalso; simp [FloatOps.cmpf, FloatOps.absf, Ideal.cmp] at h
  | top => exfalso; simp [FloatOps.cmpf, FloatOps.absf, Ideal.cmp] at h
  | coe r => exact ⟨r, rfl⟩

theorem norm_at (w : FVec Ideal S2x4096 .f32) (k : Fin 4096) :
    shapeCast S4096 (extractStridedSlice S1x4096 ![0, 0] w slices_S2x4096_S1x4096_0_0) shapeCasts_S1x4096_S4096 (ix1 k) = w (ix2 0 k) := by
  pointwise []

theorem gate_at (g : FVec Ideal S2x4096x11008 .f32) (k : Fin 4096) (j : Fin 11008) :
    shapeCast S4096x11008 (extractStridedSlice S1x4096x11008 ![0, 0, 0] g slices_S2x4096x11008_S1x4096x11008_0_0_0) shapeCasts_S1x4096x11008_S4096x11008 (ix2 k j)
      = g (ix3 0 k j) := by
  pointwise []

/-- THE PRECONDITION makes the layer's norm weights and gate matrix real. -/
theorem reals_of_finite (x : FVec Ideal S4x2048x4096 .f32) (w : FVec Ideal S2x4096 .f32) (g u : FVec Ideal S2x4096x11008 .f32) (d : FVec Ideal S2x11008x4096 .f32)
    (h : Cert.Pre_ffn_finite.fn (F := Ideal) x w g u d = fun _ => 1#1) :
    (∀ k : Fin 4096, ∃ r : ℝ, (w (ix2 0 k) : EReal) = r) ∧ (∀ (k : Fin 4096) (j : Fin 11008), ∃ r : ℝ, (g (ix3 0 k j) : EReal) = r) := by
  have e := congrFun h ix0
  unfold Cert.Pre_ffn_finite.fn at e
  have e' := IntOp.andi_eq_one.1 e
  refine ⟨fun k => ?_, fun k j => ?_⟩
  · rw [← norm_at w k]
    exact real_of_abs_lt (Host.reduce_andi_all _ _ _ _ ix0 e'.1 (ix1 k))
  · rw [← gate_at g k j]
    exact real_of_abs_lt (Host.reduce_andi_all _ _ _ _ ix0 e'.2 (ix2 k j))

end Cert.Proof.Ffn

end
-- ==== Proof.Ffn.Equal.lean ====
/- The feed-forward call and its reference give the same two arrays. -/
module

public import proofs.«01_k».proof.Defs
public import proofs.«01_k».proof.Proof.Ffn.Final
public import proofs.«01_k».proof.Proof.Ffn.Ref
public import proofs.«01_k».proof.Proof.Ffn.Finite

@[expose] public section

noncomputable section

namespace Cert.Proof.Ffn

open Idealize.ShloMosaic Idealize.ShloMosaic.TcCoe Idealize.ShloMosaic.Pointwise Idealize.SL.Sem

theorem act_eq (z : Fin 2) (x : FVec Ideal Cert.FfnKernelIdeal.S4x2048x4096 .f32) (w : FVec Ideal Cert.FfnKernelIdeal.S2x4096 .f32) (g u : FVec Ideal Cert.FfnKernelIdeal.S2x4096x11008 .f32)
    (v : FVec Ideal Cert.FfnReferenceIdeal.S4096 .f32) (G U : FVec Ideal Cert.FfnReferenceIdeal.S4096x11008 .f32)
    (hv : ∀ k, v (ix1 k) = w (ix2 z k)) (hG : ∀ k j, G (ix2 k j) = g (ix3 z k j)) (hU : ∀ k j, U (ix2 k j) = u (ix3 z k j))
    (hw : ∀ k : Fin 4096, ∃ r : ℝ, (w (ix2 z k) : EReal) = r) (hg : ∀ (k : Fin 4096) (j : Fin 11008), ∃ r : ℝ, (g (ix3 z k j) : EReal) = r) :
    Ref.acts (Ref.product (Ref.normed x v) G) (Ref.product (Ref.normed x v) U) = actArr z x w g u := by
  funext i
  obtain ⟨i, j, rfl⟩ : ∃ (r : Fin 8192) (j : Fin 11008), i = (ix2 r j : Cert.FfnKernelIdeal.S8192x11008.Idx) := ⟨i 0, i 1, eq_ix2 (n0 := 8192) (n1 := 11008) i⟩
  refine (Ref.result_apply x v G U i j).trans ?_
  simp only [hv, hG, hU]
  exact (entries_eq _ _ _ _ hw (fun k => hg k j)).symm

theorem down_eq (d : FVec Ideal Cert.FfnKernelIdeal.S2x11008x4096 .f32) : Ref.downs d = downArr 0 d := by
  funext i
  obtain ⟨i, j, rfl⟩ : ∃ (r : Fin 11008) (j : Fin 4096), i = (ix2 r j : Cert.FfnKernelIdeal.S11008x4096.Idx) := ⟨i 0, i 1, eq_ix2 (n0 := 11008) (n1 := 4096) i⟩
  exact Ref.downs_apply d i j

theorem ffn_algebraic : Cert.algebraic_FfnKernelIdeal_FfnReferenceIdeal_pre_ffn_finite := by
  intro m ρ m' ρ' hpre hagree
  refine ⟨fun c => actArr 0 (m ((c.tc : Thread Cert.FfnKernelIdeal.nD Cert.FfnKernelIdeal.τ).loc Cert.FfnKernelIdeal.main_arg0))
      (m ((c.tc : Thread Cert.FfnKernelIdeal.nD Cert.FfnKernelIdeal.τ).loc Cert.FfnKernelIdeal.main_arg1))
      (m ((c.tc : Thread Cert.FfnKernelIdeal.nD Cert.FfnKernelIdeal.τ).loc Cert.FfnKernelIdeal.main_arg2))
      (m ((c.tc : Thread Cert.FfnKernelIdeal.nD Cert.FfnKernelIdeal.τ).loc Cert.FfnKernelIdeal.main_arg3)),
    fun c => downArr 0 (m ((c.tc : Thread Cert.FfnKernelIdeal.nD Cert.FfnKernelIdeal.τ).loc Cert.FfnKernelIdeal.main_arg4)), ?_, ?_⟩
  · refine (θ_run Cert.FfnKernelIdeal.defs _ _).mono (fun r h c => ⟨((h.1 c).1 5).trans (act_final m c), ((h.1 c).1 6).trans (down_final m c), h.2.1 c⟩)
      (θ_run_and (run_main m ρ) (ffn_frame m ρ))
  · refine (θ_run Cert.FfnReferenceIdeal.defs _ _).mono (fun r h c => ⟨(h c).1.trans ?_, (h c).2.1.trans ?_, (h c).2.2⟩) (Cert.FfnReferenceIdeal.Value.run (F := Ideal) m' ρ')
    · obtain ⟨hw, hg⟩ := reals_of_finite _ _ _ _ _ (hpre c)
      obtain ⟨e0, e1, e2, e3, -⟩ := hagree c
      rw [e0, e1, e2, e3]
      exact act_eq 0 _ _ _ _ _ _ _ (normRow_apply _) (Ref.matrix_apply _) (Ref.matrix_apply _) hw hg
    · obtain ⟨-, -, -, -, e4⟩ := hagree c
      rw [e4]
      exact down_eq _

end Cert.Proof.Ffn

end
-- ==== Proof.Ffn.Twin.lean ====
/-
  The feed-forward up call as compiled runs as its idealized text does: the two programs are one text.
-/
module

public import proofs.«01_k».proof.Defs
public import proofs.«01_k».proof.Proof.Gen.FfnKernel
public import proofs.«01_k».proof.Proof.Ffn.Sched

@[expose] public section

set_option maxRecDepth 16384

noncomputable section

namespace Cert.Proof.Ffn

open Idealize.ShloMosaic Idealize.SL Idealize.SL.Sem

set_option smartUnfolding false in
theorem frame_compiled : Cert.quiescent_FfnKernel :=
  fun m ρ _ => ffn_frame (F := Bits) m ρ

end Cert.Proof.Ffn
-- ==== Proof.Ffn.Next.Sched.lean ====
/-
  The same call for the next layer, which reads its weights elsewhere, run from any memory: what each point leaves, the body's obligation
  at every point, and the launch.
-/
module

public import proofs.«01_k».proof.Proof.Gen.NextKernelIdeal
public import proofs.«01_k».proof.Proof.Gen.NextKernelIdeal.Skeleton
public import proofs.«01_k».proof.Proof.Gen.NextKernelIdeal.Frame
public import proofs.«01_k».proof.Proof.Gen.NextKernelIdeal.Launch
public import proofs.«01_k».proof.Proof.Gen.NextKernelIdeal.Points
public import proofs.«01_k».proof.Proof.Ffn.Point
public import Idealize.ShloMosaic.Lib.Claim
public import Idealize.ShloMosaic.Lib.Pointwise

@[expose] public section

set_option maxRecDepth 16384

noncomputable section

namespace Cert.Proof.Ffn.Next

open Cert.NextKernelIdeal Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## A point -/

theorem cond2_iff : ∀ t : Fin grid0.N, k0_cond2 (grid0.coords t) = 1#1 ↔ 4 ≤ t.val := Ffn.cond2_iff
theorem flush5_early : ∀ t : Fin grid0.N, t.val < 4 → win0_5.flush t = false := by decide +kernel

/-- The two column buffers before point `n`, where the slabs stored so far are those of `SG` and `SU`. -/
def Cols (SG SU : ℕ → Vec F S1x1024x256 .bf16) (c : Dev nD) (n : ℕ) : sProp 𝕄 :=
  iprop(∃ w9 : Vec F S2x4096x256 .bf16, ∃ w10 : Vec F S2x4096x256 .bf16,
    ⌜Good SG n w9 ∧ Good SU n w10⌝
      ∗ owns (c : Thread nD τ) (Memref.whole cc0_scratch0) fullShare w9 ∗ owns (c : Thread nD τ) (Memref.whole cc0_scratch1) fullShare w10
      ∗ ∃ r, prngReg c r)

section Body

variable (SG SU : ℕ → Vec F S1x1024x256 .bf16) (c : Dev nD) (t : Fin grid0.N)
    (arg2 : Memref sig .tc .vmem S2048x4096 .bf16) (harg2 : arg2.IsWhole) (arg3 : Memref sig .tc .vmem S2048x1 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x64x4096 .f32) (harg6 : arg6.IsWhole) (arg7 : Memref sig .tc .vmem S2048x256 .bf16) (harg7 : arg7.IsWhole) (arg8 : Memref sig .tc .vmem S64x4096 .bf16) (harg8 : arg8.IsWhole)
    (x0 : Vec F S2048x4096 .bf16) (x1 : Vec F S2048x1 .f32) (x2 x3 : Vec F S1x1024x256 .f32) (x4 : Vec F S1x64x4096 .f32)
    (d7 : Vec F S2048x256 .bf16) (d8 : Vec F S64x4096 .bf16)

/-- What a point is given, and leaves: the buffers at point `n`, the five blocks it reads, and the two it writes. -/
def Given (n : ℕ) (L7 : sProp 𝕄) (d8 : Vec F S64x4096 .bf16) : sProp 𝕄 :=
  iprop(Cols SG SU c n ∗ owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ L7 ∗ owns (c : Thread nD τ) arg8 fullShare d8)

/-- The two calls' bodies have the same names to call. -/
theorem labels_eq : Λ₀ = Cert.FfnKernelIdeal.Λ₀ := by
  have h : ∀ w : Fin 7, (win0 w).nbuf = (Cert.FfnKernelIdeal.win0 w).nbuf := by decide
  have h' : ((w : Fin 7) → Fin (win0 w).nbuf) = ((w : Fin 7) → Fin (Cert.FfnKernelIdeal.win0 w).nbuf) := pi_congr fun w => congrArg Fin (h w)
  unfold Λ₀ Cert.FfnKernelIdeal.Λ₀
  congr 1
  funext l
  match l with
  | 0 => exact congrArg (fun T => Fin grid0.N × T) h'

set_option smartUnfolding false in
/-- The two bodies are one text. -/
theorem body_eq (i : grid0.Coords) : HEq (cc0_ffn_up (F := F) i arg2 harg2 arg3 harg3 arg4 harg4 arg5 harg5 arg6 harg6 arg7 harg7 arg8 harg8
      (Memref.whole cc0_scratch0) (Memref.isWhole_whole _) (Memref.whole cc0_scratch1) (Memref.isWhole_whole _))
    (Cert.FfnKernelIdeal.cc0_ffn_up (F := F) i arg2 harg2 arg3 harg3 arg4 harg4 arg5 harg5 arg6 harg6 arg7 harg7 arg8 harg8
      (Memref.whole Cert.FfnKernelIdeal.cc0_scratch0) (Memref.isWhole_whole _) (Memref.whole Cert.FfnKernelIdeal.cc0_scratch1) (Memref.isWhole_whole _)) := by
  unfold cc0_ffn_up k0_part1 k0_part2
  rw [labels_eq]
  exact heq_of_eq rfl

set_option maxHeartbeats 6000000 in
set_option smartUnfolding false in
/-- The body does not depend on the layer, so a point runs it as layer 0's does. -/
theorem point (eG : SG t.val = k0_pay1 x2) (eU : SU t.val = k0_pay2 x3) (L7 : sProp 𝕄)
    (early : t.val < 4 → owns (c : Thread nD τ) arg7 fullShare d7 ⊢ L7)
    (late : 4 ≤ t.val → owns (c : Thread nD τ) arg7 fullShare (actBlock x0 x1 (colTile SG t.val) (colTile SU t.val)) ⊢ L7)
    (K : PUnit → sProp 𝕄) :
    iprop(Given SG SU c arg2 arg3 arg4 arg5 arg6 arg8 x0 x1 x2 x3 x4 t.val (owns (c : Thread nD τ) arg7 fullShare d7) d8
        ∗ (Given SG SU c arg2 arg3 arg4 arg5 arg6 arg8 x0 x1 x2 x3 x4 (t.val + 1) L7 (k0_pay3 x4) -∗ K ⟨⟩))
      ⊢ wp frame (wpE (defs₀ (F := F)) Variants.none c none) Set.univ
          (cc0_ffn_up (grid0.coords t) arg2 harg2 arg3 harg3 arg4 harg4 arg5 harg5 arg6 harg6 arg7 harg7 arg8 harg8
            (Memref.whole cc0_scratch0) (Memref.isWhole_whole _) (Memref.whole cc0_scratch1) (Memref.isWhole_whole _)) K :=
  Ffn.point_of SG SU c t arg2 harg2 arg3 harg3 arg4 harg4 arg5 harg5 arg6 harg6 arg7 harg7 arg8 harg8 x0 x1 x2 x3 x4 d7 d8
    labels_eq defs₀ _ (body_eq arg2 harg2 arg3 harg3 arg4 harg4 arg5 harg5 arg6 harg6 arg7 harg7 arg8 harg8 (grid0.coords t)) eG eU L7 early late K

end Body
variable (m : (ℓ : Loc nD τ sig) → Buf (Elt F) ℓ) (ρ : Dev nD → PrngReg)

/-! ## What each point leaves -/

/-- The gate weights' slab of point `n`, and -/
def slabG (c : Dev nD) (n : ℕ) : Vec F S1x1024x256 .bf16 := k0_pay1 (iblk m c 2 ⟨n % 176, Nat.mod_lt _ (by decide)⟩)
/-- the up weights'. -/
def slabU (c : Dev nD) (n : ℕ) : Vec F S1x1024x256 .bf16 := k0_pay2 (iblk m c 3 ⟨n % 176, Nat.mod_lt _ (by decide)⟩)

theorem slabG_at (c : Dev nD) (t : Fin cfg0.N) : slabG m c t.val = k0_pay1 (iblk m c 2 t) := by
  unfold slabG
  have h : t.val < 176 := t.isLt
  exact congrArg (fun u => k0_pay1 (iblk m c 2 u)) (Fin.ext (Nat.mod_eq_of_lt h))

theorem slabU_at (c : Dev nD) (t : Fin cfg0.N) : slabU m c t.val = k0_pay2 (iblk m c 3 t) := by
  unfold slabU
  have h : t.val < 176 := t.isLt
  exact congrArg (fun u => k0_pay2 (iblk m c 3 u)) (Fin.ext (Nat.mod_eq_of_lt h))

/-- The block of activations point `t` leaves (from the second step on). -/
def outAct (c : Dev nD) (t : Fin cfg0.N) : Vec F S2048x256 .bf16 :=
  actBlock (iblk m c 0 t) (iblk m c 1 t) (colTile (slabG m c) t.val) (colTile (slabU m c) t.val)

/-- The rows of the down weights point `t` leaves. -/
def outDown (c : Dev nD) (t : Fin cfg0.N) : Vec F S64x4096 .bf16 := k0_pay3 (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAct m c t
    | ⟨6, _⟩ => outDown m c t
  Φ t := Cols (slabG m c) (slabU m c) c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAct m c t := by dsimp only [dats]
theorem after_6 (c : Dev nD) (t : Fin cfg0.N) : (dats m 0 c).after 6 t = outDown m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body's obligation -/

abbrev ms0 (t : Fin cfg0.N) : Memref sig .tc .vmem S2048x4096 .bf16 := win0_0.stage (cfg0.slots t 0)
abbrev ms1 (t : Fin cfg0.N) : Memref sig .tc .vmem S2048x1 .f32 := win0_1.stage (cfg0.slots t 1)
abbrev ms2 (t : Fin cfg0.N) : Memref sig .tc .vmem S1x1024x256 .f32 := win0_2.stage (cfg0.slots t 2)
abbrev ms3 (t : Fin cfg0.N) : Memref sig .tc .vmem S1x1024x256 .f32 := win0_3.stage (cfg0.slots t 3)
abbrev ms4 (t : Fin cfg0.N) : Memref sig .tc .vmem S1x64x4096 .f32 := win0_4.stage (cfg0.slots t 4)
abbrev ms5 (t : Fin cfg0.N) : Memref sig .tc .vmem S2048x256 .bf16 := win0_5.stage (cfg0.slots t 5)
abbrev ms6 (t : Fin cfg0.N) : Memref sig .tc .vmem S64x4096 .bf16 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t
    ∗ owns (c : Thread nD τ) (ms6 t) fullShare ((dats m 0 c).after 6 t))

theorem leaves5_early (c : Dev nD) (t : Fin cfg0.N) (h : ¬ k0_cond2 (grid0.coords t) = 1#1) (ht : t.val < 4) :
    (dats m 0 c).leavesExact 5 t = iprop(∃ d, owns (c : Thread nD τ) (ms5 t) fullShare ((dats m 0 c).before 5 t d)) :=
  Dat.leavesExact_idle _ 5 t (by show (!(k0_cond2 (grid0.coords t) == 1#1)) = true; simp [h]) (flush5_early t ht)

theorem leaves5_late (c : Dev nD) (t : Fin cfg0.N) (h : k0_cond2 (grid0.coords t) = 1#1) :
    (dats m 0 c).leavesExact 5 t = owns (c : Thread nD τ) (ms5 t) fullShare (outAct m c t) := by
  have hi : cfg0.idle 5 (cfg0.grid.coords t) = false := by show (!(k0_cond2 (grid0.coords t) == 1#1)) = false; simp [h]
  unfold Dat.leavesExact
  rw [hi, after_5]

theorem Phi_castSucc (c : Dev nD) (t : Fin cfg0.N) : (dats m 0 c).Φ t.castSucc = Cols (slabG m c) (slabU m c) c t.val := by dsimp only [dats, Fin.val_castSucc]
theorem Phi_succ (c : Dev nD) (t : Fin cfg0.N) : (dats m 0 c).Φ t.succ = Cols (slabG m c) (slabU m c) c (t.val + 1) := by dsimp only [dats, Fin.val_succ]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [Phi_castSucc, Phi_succ, show (dats m 0 c).owesAt () t.succ = (dats m 0 c).owesAt () t.castSucc from rfl,
    after_0, after_1, after_2, after_3, after_4, after_6]
  iintro ⟨Hc, Ho, ⟨%d0, H0⟩, ⟨%d1, H1⟩, ⟨%d2, H2⟩, ⟨%d3, H3⟩, ⟨%d4, H4⟩, ⟨%d5, H5⟩, ⟨%d6, H6⟩⟩
  have early : t.val < 4 → owns (c : Thread nD τ) (ms5 t) fullShare ((dats m 0 c).before 5 t d5) ⊢ (dats m 0 c).leavesExact 5 t := by
    intro h
    rw [leaves5_early m c t (fun h2 => absurd ((cond2_iff t).1 h2) (Nat.not_le_of_lt h)) h]
    iintro H
    iexists d5
    iexact H
  have late : 4 ≤ t.val → owns (c : Thread nD τ) (ms5 t) fullShare (outAct m c t) ⊢ (dats m 0 c).leavesExact 5 t := by
    intro h
    rw [leaves5_late m c t ((cond2_iff t).2 h)]
  iapply (point (slabG m c) (slabU m c) c t (ms0 t) _ (ms1 t) _ (ms2 t) _ (ms3 t) _ (ms4 t) _ (ms5 t) _ (ms6 t) _
    (iblk m c 0 t) (iblk m c 1 t) (iblk m c 2 t) (iblk m c 3 t) (iblk m c 4 t) _ _ (slabG_at m c t) (slabU_at m c t) _ early late _)
  unfold Given
  isplitl [Hc H0 H1 H2 H3 H4 H5 H6]
  · isplitl [Hc]; · iexact Hc
    isplitl [H0]; · iexact H0
    isplitl [H1]; · iexact H1
    isplitl [H2]; · iexact H2
    isplitl [H3]; · iexact H3
    isplitl [H4]; · iexact H4
    isplitl [H5]; · iexact H5
    iexact H6
  iintro ⟨Hc, H⟩
  isplitl [Hc]; · iexact Hc
  isplitl [Ho]; · iexact Ho
  unfold outDown
  iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) :
    (Pipeline.ΦA spec0 c : sProp 𝕄)
      = iprop(iprop((∃ d, owns (c : Thread nD τ) (Memref.whole cc0_scratch0 : Memref sig .tc .vmem S2x4096x256 .bf16) fullShare d)
        ∗ (∃ d, owns (c : Thread nD τ) (Memref.whole cc0_scratch1 : Memref sig .tc .vmem S2x4096x256 .bf16) fullShare d)) ∗ (∃ r, prngReg c r)) := by
  unfold Pipeline.ΦA; rw [scopedRest0_eq]; simp only [owns_whole]; try rfl

theorem Phi_in (c : Dev nD) : Pipeline.ΦA spec0 c ⊢ (dats m 0 c).Φ 0 := by
  show _ ⊢ Cols (slabG m c) (slabU m c) c 0
  rw [PhiA_eq]
  unfold Cols
  iintro ⟨⟨⟨%d9, H9⟩, ⟨%d10, H10⟩⟩, Hg⟩
  iexists d9
  iexists d10
  isplitr
  · ipureintro
    exact ⟨good_zero _ _, good_zero _ _⟩
  isplitl [H9]; · iexact H9
  isplitl [H10]; · iexact H10
  iexact Hg

theorem Phi_out (c : Dev nD) : (dats m 0 c).Φ (Fin.last cfg0.N) ⊢ Pipeline.ΦA spec0 c := by
  show Cols (slabG m c) (slabU m c) c _ ⊢ _
  rw [PhiA_eq]
  unfold Cols
  iintro ⟨%d9, %d10, -, H9, H10, Hg⟩
  isplitl [H9 H10]
  · isplitl [H9]
    · iexists d9; iexact H9
    · iexists d10; iexact H10
  iexact Hg

theorem share_eq (c : Dev nD) (w : Fin cfg0.W) : (dats m 0 c).share w = fullShare := by
  unfold Dat.share
  split
  · rfl
  · dsimp only [dats]

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem next_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Ffn.Next
-- ==== Proof.Ffn.Next.Final.lean ====
/- The next layer's two result arrays after the run, from the blocks the grid points write back. -/
module

public import proofs.«01_k».proof.Proof.Ffn.Next.Sched
public import proofs.«01_k».proof.Proof.Ffn.Final

@[expose] public section

noncomputable section

namespace Cert.Proof.Ffn.Next

open Idealize.ShloMosaic Idealize.ShloMosaic.TcCoe Cert.NextKernelIdeal Cert.NextKernelIdeal.Gen Idealize.ShloMosaic.Pointwise Idealize.SL.Sem

/-- The windows' block indices: the weights' are layer 1's. -/
theorem index0 : ∀ t : Fin grid0.N, 4 ≤ t.val → win0_0.index t = ![t.val % 4, 0] := Ffn.index0
theorem index1 : ∀ t : Fin grid0.N, 4 ≤ t.val → win0_1.index t = ![t.val % 4, 0] := Ffn.index1
theorem index2 : ∀ t : Fin grid0.N, t.val < 172 → win0_2.index t = ![1, t.val % 4, t.val / 4] := by decide +kernel
theorem index3 : ∀ t : Fin grid0.N, t.val < 172 → win0_3.index t = ![1, t.val % 4, t.val / 4] := by decide +kernel
theorem index4 : ∀ t : Fin grid0.N, win0_4.index t = ![1, min t.val 171, 0] := by decide +kernel

/-- The layer's norm weights. -/
def normRow (w : FVec Ideal S2x4096 .f32) : FVec Ideal S4096 .f32 :=
  shapeCast S4096 (extractStridedSlice S1x4096 ![1, 0] w slices_S2x4096_S1x4096_1_0) shapeCasts_S1x4096_S4096

theorem normRow_apply (w : FVec Ideal S2x4096 .f32) (k : Fin 4096) : normRow w (ix1 k) = w (ix2 1 k) := by
  pointwise [normRow]

variable (m : (ℓ : Loc nD τ sig) → Buf (Elt Ideal) ℓ) (c : Dev nD)

theorem V_rows : V m c main_v6 = hRows (m ((c : Thread nD τ).loc main_arg0)) (normRow (m ((c : Thread nD τ).loc main_arg1))) := by
  unfold V
  simp only [hostOps0, StableHlo.TRef.ternary, StableHlo.TRef.unary, StableHlo.TRef.toBuf, StableHlo.TRef.ofBuf, cast_eq]
  after_results_simp
  rfl

theorem V_sums : V m c main_v9 = hSums (m ((c : Thread nD τ).loc main_arg0)) := by
  unfold V
  simp only [hostOps0, StableHlo.TRef.ternary, StableHlo.TRef.unary, StableHlo.TRef.toBuf, StableHlo.TRef.ofBuf, cast_eq]
  after_results_simp
  rfl

set_option smartUnfolding false in
/-- Where the blocks lie; those of the rows, the sums and the results lie as layer 0's do. -/
theorem emb5 (t : Fin cfg0.N) (ht : 4 ≤ t.val) (a : Fin 2048) (l : Fin 256) :
    (win0_5.blk t).view.emb (ix2 a l) = (ix2 ⟨t.val % 4 * 2048 + a.val, by omega⟩ ⟨(t.val / 4 - 1) * 256 + l.val, by have : t.val < 176 := t.isLt; omega⟩ : S8192x11008.Idx) :=
  Ffn.emb5 t ht a l

set_option smartUnfolding false in
theorem emb0 (t : Fin cfg0.N) (ht : 4 ≤ t.val) (a : Fin 2048) (k : Fin 4096) :
    (win0_0.blk t).view.emb (ix2 a k) = (ix2 ⟨t.val % 4 * 2048 + a.val, by omega⟩ k : S8192x4096.Idx) := Ffn.emb0 t ht a k

set_option smartUnfolding false in
theorem emb1 (t : Fin cfg0.N) (ht : 4 ≤ t.val) (a : Fin 2048) :
    (win0_1.blk t).view.emb (ix2 a 0) = (ix2 ⟨t.val % 4 * 2048 + a.val, by omega⟩ 0 : S8192x1.Idx) := Ffn.emb1 t ht a

set_option smartUnfolding false in
theorem emb6 (t : Fin cfg0.N) (a : Fin 64) (l : Fin 4096) :
    (win0_6.blk t).view.emb (ix2 a l) = (ix2 ⟨min t.val 171 * 64 + a.val, by omega⟩ l : S11008x4096.Idx) := Ffn.emb6 t a l

theorem emb2 (t : Fin cfg0.N) (ht : t.val < 172) (k : Fin 1024) (l : Fin 256) :
    (win0_2.blk t).view.emb (ix3 0 k l) = (ix3 1 ⟨t.val % 4 * 1024 + k.val, by omega⟩ ⟨t.val / 4 * 256 + l.val, by omega⟩ : S2x4096x11008.Idx) := by
  funext x; apply Fin.ext
  match x with
  | ⟨0, _⟩ => show win0_2.index t (0 : Fin 3) * 1 + 1 * 0 = 1; rw [index2 t ht]; rfl
  | ⟨1, _⟩ => show win0_2.index t (1 : Fin 3) * 1024 + 1 * k.val = t.val % 4 * 1024 + k.val; rw [index2 t ht]; show t.val % 4 * 1024 + 1 * k.val = _; omega
  | ⟨2, _⟩ => show win0_2.index t (2 : Fin 3) * 256 + 1 * l.val = t.val / 4 * 256 + l.val; rw [index2 t ht]; show t.val / 4 * 256 + 1 * l.val = _; omega

theorem emb3 (t : Fin cfg0.N) (ht : t.val < 172) (k : Fin 1024) (l : Fin 256) :
    (win0_3.blk t).view.emb (ix3 0 k l) = (ix3 1 ⟨t.val % 4 * 1024 + k.val, by omega⟩ ⟨t.val / 4 * 256 + l.val, by omega⟩ : S2x4096x11008.Idx) := by
  funext x; apply Fin.ext
  match x with
  | ⟨0, _⟩ => show win0_3.index t (0 : Fin 3) * 1 + 1 * 0 = 1; rw [index3 t ht]; rfl
  | ⟨1, _⟩ => show win0_3.index t (1 : Fin 3) * 1024 + 1 * k.val = t.val % 4 * 1024 + k.val; rw [index3 t ht]; show t.val % 4 * 1024 + 1 * k.val = _; omega
  | ⟨2, _⟩ => show win0_3.index t (2 : Fin 3) * 256 + 1 * l.val = t.val / 4 * 256 + l.val; rw [index3 t ht]; show t.val / 4 * 256 + 1 * l.val = _; omega

theorem emb4 (t : Fin cfg0.N) (a : Fin 64) (l : Fin 4096) :
    (win0_4.blk t).view.emb (ix3 0 a l) = (ix3 1 ⟨min t.val 171 * 64 + a.val, by omega⟩ l : S2x11008x4096.Idx) := by
  funext x; apply Fin.ext
  match x with
  | ⟨0, _⟩ => show win0_4.index t (0 : Fin 3) * 1 + 1 * 0 = 1; rw [index4 t]; rfl
  | ⟨1, _⟩ => show win0_4.index t (1 : Fin 3) * 64 + 1 * a.val = min t.val 171 * 64 + a.val; rw [index4 t]; show min t.val 171 * 64 + 1 * a.val = _; omega
  | ⟨2, _⟩ => show win0_4.index t (2 : Fin 3) * 4096 + 1 * l.val = l.val; rw [index4 t]; show 0 * 4096 + 1 * l.val = _; omega

/-- A slab's entry is the layer's matrix's. -/
theorem slabG_apply (n : ℕ) (hn : n < 172) (k : Fin 1024) (l : Fin 256) :
    slabG m c n (ix3 0 k l) = (m ((c : Thread nD τ).loc main_arg2) : FVec Ideal S2x4096x11008 .f32)
      (ix3 1 ⟨n % 4 * 1024 + k.val, by omega⟩ ⟨n / 4 * 256 + l.val, by omega⟩) := by
  obtain ⟨t, rfl⟩ : ∃ t : Fin cfg0.N, t.val = n := ⟨⟨n, by show n < 176; omega⟩, rfl⟩
  rw [slabG_at]
  pointwise [k0_pay1]
  exact (congrArg (V m c main_arg2) (emb2 t hn k l)).trans (congrFun (V_main_arg2 m c) _)

theorem slabU_apply (n : ℕ) (hn : n < 172) (k : Fin 1024) (l : Fin 256) :
    slabU m c n (ix3 0 k l) = (m ((c : Thread nD τ).loc main_arg3) : FVec Ideal S2x4096x11008 .f32)
      (ix3 1 ⟨n % 4 * 1024 + k.val, by omega⟩ ⟨n / 4 * 256 + l.val, by omega⟩) := by
  obtain ⟨t, rfl⟩ : ∃ t : Fin cfg0.N, t.val = n := ⟨⟨n, by show n < 176; omega⟩, rfl⟩
  rw [slabU_at]
  pointwise [k0_pay2]
  exact (congrArg (V m c main_arg3) (emb3 t hn k l)).trans (congrFun (V_main_arg3 m c) _)

/-- THE ACTIVATIONS after the run. -/
theorem act_final : (dats m 0 c).arrAt 5 cfg0.N = actArr 1 (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after_5]
  have ht : 4 ≤ t.val := by
    by_contra h
    exact absurd ((flush5_early t (by omega)).symm.trans hf) (by decide)
  have hN : t.val < 176 := t.isLt
  obtain ⟨a, l, rfl⟩ : ∃ (a : Fin 2048) (l : Fin 256), y = (ix2 a l : S2048x256.Idx) := ⟨y 0, y 1, eq_ix2 (n0 := 2048) (n1 := 256) y⟩
  rw [emb5 t ht a l]
  exact act_value 1 _ _ _ _ _ (normRow_apply _) t.val ht hN (iblk m c 0 t) (iblk m c 1 t) (slabG m c) (slabU m c) (slabG_apply m c) (slabU_apply m c) a l
    (fun k => (congrArg (V m c main_v6) (emb0 t ht a k)).trans (congrFun (V_rows m c) _))
    ((congrArg (V m c main_v9) (emb1 t ht a)).trans (congrFun (V_sums m c) _))

/-- THE DOWN WEIGHTS after the run. -/
theorem down_final : (dats m 0 c).arrAt 6 cfg0.N = downArr 1 (m ((c : Thread nD τ).loc main_arg4)) := by
  refine (dats m 0 c).arrAt_eq_of_covers 6 _ (by decide +kernel) fun t hf y => ?_
  blk_simp
  rw [after_6]
  obtain ⟨a, l, rfl⟩ : ∃ (a : Fin 64) (l : Fin 4096), y = (ix2 a l : S64x4096.Idx) := ⟨y 0, y 1, eq_ix2 (n0 := 64) (n1 := 4096) y⟩
  rw [emb6 t a l]
  have e : outDown m c t (ix2 a l) = iblk m c 4 t (ix3 0 a l) := by
    unfold outDown
    pointwise [k0_pay3]
  rw [e]
  exact (congrArg (V m c main_arg4) (emb4 t a l)).trans (congrFun (V_main_arg4 m c) _)

end Cert.Proof.Ffn.Next

end
-- ==== Proof.Ffn.Next.Equal.lean ====
/- The next layer's feed-forward call and its reference give the same two arrays. -/
module

public import proofs.«01_k».proof.Defs
public import proofs.«01_k».proof.Proof.Ffn.Equal
public import proofs.«01_k».proof.Proof.Ffn.Next.Final
public import proofs.«01_k».proof.Proof.Gen.NextReferenceIdeal.Run
public import proofs.«01_k».proof.Proof.Gen.Pre_next_finite

@[expose] public section

noncomputable section

namespace Cert.Proof.Ffn.Next

open Idealize.ShloMosaic Idealize.ShloMosaic.TcCoe Idealize.ShloMosaic.Pointwise Idealize.SL.Sem

section Ref

open Cert.NextReferenceIdeal Cert.NextReferenceIdeal.Gen

/-- The layer's matrix of a pair, and -/
def matrix (g : FVec Ideal S2x4096x11008 .f32) : FVec Ideal S4096x11008 .f32 :=
  shapeCast S4096x11008 (extractStridedSlice S1x4096x11008 ![1, 0, 0] g slices_S2x4096x11008_S1x4096x11008_1_0_0) shapeCasts_S1x4096x11008_S4096x11008

/-- its down weights. -/
def downs (d : FVec Ideal S2x11008x4096 .f32) : FVec Ideal S11008x4096 .bf16 :=
  truncf .bf16 (shapeCast S11008x4096 (extractStridedSlice S1x11008x4096 ![1, 0, 0] d slices_S2x11008x4096_S1x11008x4096_1_0_0) shapeCasts_S1x11008x4096_S11008x4096) bitsLt_bf16_f32

theorem matrix_apply (g : FVec Ideal S2x4096x11008 .f32) (k : Fin 4096) (j : Fin 11008) : matrix g (ix2 k j) = g (ix3 1 k j) := by
  pointwise [matrix]

theorem down_eq (d : FVec Ideal S2x11008x4096 .f32) : downs d = downArr 1 d := by
  funext i
  obtain ⟨i, j, rfl⟩ : ∃ (r : Fin 11008) (j : Fin 4096), i = (ix2 r j : S11008x4096.Idx) := ⟨i 0, i 1, eq_ix2 (n0 := 11008) (n1 := 4096) i⟩
  show _ = d (ix3 1 i j)
  pointwise [downs]

end Ref

/-- THE PRECONDITION makes the layer's norm weights and gate matrix real. -/
theorem reals_of_finite (x : FVec Ideal Cert.Pre_next_finite.S4x2048x4096 .f32) (w : FVec Ideal Cert.Pre_next_finite.S2x4096 .f32)
    (g u : FVec Ideal Cert.Pre_next_finite.S2x4096x11008 .f32) (d : FVec Ideal Cert.Pre_next_finite.S2x11008x4096 .f32)
    (h : Cert.Pre_next_finite.fn (F := Ideal) x w g u d = fun _ => 1#1) :
    (∀ k : Fin 4096, ∃ r : ℝ, (w (ix2 1 k) : EReal) = r) ∧ (∀ (k : Fin 4096) (j : Fin 11008), ∃ r : ℝ, (g (ix3 1 k j) : EReal) = r) := by
  have e := congrFun h ix0
  unfold Cert.Pre_next_finite.fn at e
  have e' := IntOp.andi_eq_one.1 e
  refine ⟨fun k => ?_, fun k j => ?_⟩
  · rw [← normRow_apply w k]
    exact real_of_abs_lt (Host.reduce_andi_all _ _ _ _ ix0 e'.1 (ix1 k))
  · rw [← matrix_apply g k j]
    exact real_of_abs_lt (Host.reduce_andi_all _ _ _ _ ix0 e'.2 (ix2 k j))

theorem next_algebraic : Cert.algebraic_NextKernelIdeal_NextReferenceIdeal_pre_next_finite := by
  intro m ρ m' ρ' hpre hagree
  refine ⟨fun c => actArr 1 (m ((c.tc : Thread Cert.NextKernelIdeal.nD Cert.NextKernelIdeal.τ).loc Cert.NextKernelIdeal.main_arg0))
      (m ((c.tc : Thread Cert.NextKernelIdeal.nD Cert.NextKernelIdeal.τ).loc Cert.NextKernelIdeal.main_arg1))
      (m ((c.tc : Thread Cert.NextKernelIdeal.nD Cert.NextKernelIdeal.τ).loc Cert.NextKernelIdeal.main_arg2))
      (m ((c.tc : Thread Cert.NextKernelIdeal.nD Cert.NextKernelIdeal.τ).loc Cert.NextKernelIdeal.main_arg3)),
    fun c => downArr 1 (m ((c.tc : Thread Cert.NextKernelIdeal.nD Cert.NextKernelIdeal.τ).loc Cert.NextKernelIdeal.main_arg4)), ?_, ?_⟩
  · refine (θ_run Cert.NextKernelIdeal.defs _ _).mono (fun r h c => ⟨((h.1 c).1 5).trans (act_final m c), ((h.1 c).1 6).trans (down_final m c), h.2.1 c⟩)
      (θ_run_and (run_main m ρ) (next_frame m ρ))
  · refine (θ_run Cert.NextReferenceIdeal.defs _ _).mono (fun r h c => ⟨(h c).1.trans ?_, (h c).2.1.trans ?_, (h c).2.2⟩) (Cert.NextReferenceIdeal.Value.run (F := Ideal) m' ρ')
    · obtain ⟨hw, hg⟩ := reals_of_finite _ _ _ _ _ (hpre c)
      obtain ⟨e0, e1, e2, e3, -⟩ := hagree c
      rw [e0, e1, e2, e3]
      exact act_eq 1 _ _ _ _ _ _ _ (normRow_apply _) (matrix_apply _) (matrix_apply _) hw hg
    · obtain ⟨-, -, -, -, e4⟩ := hagree c
      rw [e4]
      exact down_eq _

end Cert.Proof.Ffn.Next

end
-- ==== Proof.Ffn.Next.Twin.lean ====
/-
  The same call for the next layer as compiled runs as its idealized text does: the two programs are one text.
-/
module

public import proofs.«01_k».proof.Defs
public import proofs.«01_k».proof.Proof.Gen.NextKernel
public import proofs.«01_k».proof.Proof.Ffn.Next.Sched

@[expose] public section

set_option maxRecDepth 16384

noncomputable section

namespace Cert.Proof.Ffn.Next

open Idealize.ShloMosaic Idealize.SL Idealize.SL.Sem

set_option smartUnfolding false in
theorem frame_compiled : Cert.quiescent_NextKernel :=
  fun m ρ _ => next_frame (F := Bits) m ρ

end Cert.Proof.Ffn.Next
-- ==== Proof.Down.Run.lean ====
/-
  One grid point of the feed-forward down call, run over whole memrefs at stated contents.
-/
module

public import proofs.«01_k».proof.Proof.Gen.DownKernelIdeal
public import proofs.«01_k».proof.Proof.Gen.DownKernelIdeal.Skeleton
public import proofs.«01_k».proof.Proof.Gen.DownKernelIdeal.Frame
public import Idealize.ShloMosaic.Lib.VecWindow
public import Idealize.ShloMosaic.Lib.Pointwise

@[expose] public section

set_option maxRecDepth 16384

noncomputable section

namespace Cert.Proof.Down

open Cert.DownKernelIdeal Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

theorem off1_eq : ∀ i : grid0.Coords, k0_off1 i = ![(i 0).val % 2, 64 * (i 1).val, 0] := by decide +kernel
theorem off2_eq : ∀ i : grid0.Coords, k0_off2 i = ![1 - (i 0).val % 2, 0, 0] := by decide +kernel

instance (i : grid0.Coords) : ClosedOff (k0_off1 i) := ⟨![(i 0).val % 2, 64 * (i 1).val, 0], off1_eq i⟩
instance (i : grid0.Coords) : ClosedOff (k0_off2 i) := ⟨![1 - (i 0).val % 2, 0, 0], off2_eq i⟩

/-! ## What the body computes -/

/-- The scratch buffer after the point's slab is stored over contents `d`. -/
def slotPut (i : grid0.Coords) (d : Vec F S2x512x11008 .bf16) (w : Vec F S1x64x11008 .bf16) : Vec F S2x512x11008 .bf16 :=
  VecWindow.put d ![(i 0).val % 2, 64 * (i 1).val, 0] S1x64x11008.size w

theorem inb_get (i : grid0.Coords) : ∀ a, (![1 - (i 0).val % 2, 0, 0] : Fin 3 → ℕ) a + S1x512x11008.size a ≤ S2x512x11008.size a := by
  intro a
  fin_cases a
  · show 1 - (i 0).val % 2 + 1 ≤ 2
    omega
  · show 0 + 512 ≤ 512
    omega
  · show 0 + 11008 ≤ 11008
    omega

theorem casts_get : S1x512x11008.ShapeCasts S512x11008 := by decide

/-- The rows the point reads: the slot it does not store to. -/
def slotGet (i : grid0.Coords) (d : Vec F S2x512x11008 .bf16) : Vec F S512x11008 .bf16 :=
  shapeCast S512x11008 (VecWindow.window d ![1 - (i 0).val % 2, 0, 0] S1x512x11008.size (inb_get i) : Vec F S1x512x11008 .bf16) casts_get

/-- 256 of the 512 rows, from row `256 * k`. -/
def rows {n : ℕ} {e : EltTy} (x : Vec F ⟨2, ![512, n]⟩ e) (k : Fin 2) : Vec F ⟨2, ![256, n]⟩ e :=
  fun z => x (ix2 ⟨256 * k.val + (z 0).val, by have : (z 0).val < 256 := (z 0).isLt; omega⟩ (z 1))

/-- The block of results from the rows, the columns and the block added to, 256 rows at a time. -/
def downBlock (a : Vec F S512x11008 .bf16) (w : Vec F S11008x512 .bf16) (r : Vec F S512x512 .f32) : Vec F S512x512 .f32 :=
  fun y => k0_pay2 (rows a ⟨(y 0).val / 256, by have : (y 0).val < 512 := (y 0).isLt; omega⟩) w
    (rows r ⟨(y 0).val / 256, by have : (y 0).val < 512 := (y 0).isLt; omega⟩) (ix2 ⟨(y 0).val % 256, Nat.mod_lt _ (by decide)⟩ (y 1))

theorem downBlock_at (a : Vec F S512x11008 .bf16) (w : Vec F S11008x512 .bf16) (r : Vec F S512x512 .f32) (k : Fin 2)
    (p : Fin 256) (l : Fin 512) (y : S512x512.Idx) (h0 : (y 0).val = 256 * k.val + p.val) (h1 : y 1 = l) :
    downBlock a w r y = k0_pay2 (rows a k) w (rows r k) (ix2 p l) := by
  unfold downBlock
  have hk : (⟨(y 0).val / 256, by have : (y 0).val < 512 := (y 0).isLt; omega⟩ : Fin 2) = k := Fin.ext (by show (y 0).val / 256 = k.val; omega)
  have hp : (⟨(y 0).val % 256, Nat.mod_lt _ (by decide)⟩ : Fin 256) = p := Fin.ext (by show (y 0).val % 256 = p.val; omega)
  rw [hk, hp, h1]

/-! ## Loads and stores through views -/

theorem read_rows {n : ℕ} {e : EltTy} (v : View sig .tc .vmem ⟨2, ![512, n]⟩ e) (f : v.ty.Contents (Elt F)) (k : Fin 2) (o : ℕ) (ho : o = 256 * k.val)
    (inb : ∀ b, (![o, 0] : Fin 2 → ℕ) b + (![256, n] : Fin 2 → ℕ) b ≤ (⟨2, ![512, n]⟩ : Shape).size b) (x : Vec F ⟨2, ![512, n]⟩ e) (hx : v.read (Elt F) f = x) :
    v.readAt (Elt F) (Rect.unit (s := ⟨2, ![512, n]⟩) ![o, 0] ![256, n] inb).toLoadRect f = rows x k := by
  subst hx ho
  funext z
  refine congrArg (v.read (Elt F) f) (funext fun b => Fin.ext ?_)
  fin_cases b
  · show 256 * k.val + 1 * (z 0).val = 256 * k.val + (z 0).val
    omega
  · show 0 + 1 * (z 1).val = (z 1).val
    omega

/-- The slot read is a memref of its own; its contents are the buffer's there. -/
theorem read_slot (arg6 : Memref sig .tc .vmem S2x512x11008 .bf16) (f : arg6.view.ty.Contents (Elt F)) (i : grid0.Coords) (h2 : k0_cond2 i = 1#1)
    (d : Vec F S2x512x11008 .bf16) (hf : arg6.view.read (Elt F) f = d) :
    ((arg6.slice (Rect.unit (s := S2x512x11008) (k0_off2 i) S1x512x11008.size (k0_off2_inb i h2)) (fun _ => rfl)).squeeze S512x11008 squeezes_S1x512x11008_S512x11008).view.read (Elt F) f
      = slotGet i d := by
  subst hf
  refine (Memref.read_squeeze_slice arg6 _ _ _ casts_get f).trans ?_
  exact congrArg (fun x : Vec F S1x512x11008 .bf16 => shapeCast S512x11008 x casts_get) (View.readAt_unit arg6.view f (k0_off2_inb i h2) (off2_eq i) (inb_get i))

/-- A store of a slab. -/
theorem store_put (v : View sig .tc .vmem S2x512x11008 .bf16) (f : v.ty.Contents (Elt F)) (i : grid0.Coords) (h1 : k0_cond1 i = 1#1)
    (d : Vec F S2x512x11008 .bf16) (hf : v.read (Elt F) f = d) (w w' : Vec F S1x64x11008 .bf16) (hw : w' = w) :
    v.read (Elt F) (v.writes (Elt F) f [⟨Rect.unit (s := S2x512x11008) (k0_off1 i) S1x64x11008.size (k0_off1_inb i h1), w'⟩]) = slotPut i d w := by
  subst hf hw
  rw [View.read_writes_cons_put _ _ _ _ _ (off1_eq i), View.writes_nil]
  rfl

theorem ix2_self (z : S256x512.Idx) : ix2 (z 0) (z 1) = z := by
  funext b
  fin_cases b <;> rfl

/-- One store of 256 rows stores the block's rows. -/
theorem piece_at (a : Vec F S512x11008 .bf16) (w : Vec F S11008x512 .bf16) (r : Vec F S512x512 .f32) (k : Fin 2) (o : ℕ) (ho : o = 256 * k.val)
    (inb : ∀ b, (![o, 0] : Fin 2 → ℕ) b + (![256, 512] : Fin 2 → ℕ) b ≤ S512x512.size b)
    (x : FVec F S256x512 .f32) (hx : x = k0_pay2 (rows a k) w (rows r k)) (z : S256x512.Idx) :
    x z = downBlock a w r ((Rect.unit (s := S512x512) ![o, 0] ![256, 512] inb).emb z) := by
  have e0 : ((Rect.unit (s := S512x512) ![o, 0] ![256, 512] inb).emb z 0).val = 256 * k.val + (z 0).val := by
    show o + 1 * (z 0).val = _
    omega
  have e1 : (Rect.unit (s := S512x512) ![o, 0] ![256, 512] inb).emb z 1 = z 1 := Fin.ext (by show 0 + 1 * (z 1).val = _; omega)
  rw [downBlock_at a w r k (z 0) (z 1) _ e0 e1, ← hx]
  exact congrArg x (ix2_self z).symm

/-- Two stores of 256 rows each leave the whole block. -/
theorem read_two (v : View sig .tc .vmem S512x512 .f32) (f : v.ty.Contents (Elt F))
    (a : Vec F S512x11008 .bf16) (w : Vec F S11008x512 .bf16) (r : Vec F S512x512 .f32)
    (i1 : ∀ b, (![256, 0] : Fin 2 → ℕ) b + (![256, 512] : Fin 2 → ℕ) b ≤ S512x512.size b)
    (i0 : ∀ b, (![0, 0] : Fin 2 → ℕ) b + (![256, 512] : Fin 2 → ℕ) b ≤ S512x512.size b)
    (a1 a0 : Vec F S256x11008 .bf16) (w1 w0 : Vec F S11008x512 .bf16) (r1 r0 : Vec F S256x512 .f32)
    (ha1 : a1 = rows a 1) (ha0 : a0 = rows a 0) (hw1 : w1 = w) (hw0 : w0 = w) (hr1 : r1 = rows r 1) (hr0 : r0 = rows r 0) :
    v.read (Elt F) (v.writes (Elt F) f [⟨Rect.unit (s := S512x512) ![256, 0] ![256, 512] i1, k0_pay3 a1 w1 r1⟩, ⟨Rect.unit (s := S512x512) ![0, 0] ![256, 512] i0, k0_pay2 a0 w0 r0⟩])
      = downBlock a w r := by
  subst ha1 ha0 hw1 hw0 hr1 hr0
  funext y
  refine View.read_writes_apply_of_pieces v f (downBlock a w0 r) _ ?_ y ?_
  · intro p hp z
    simp only [List.mem_cons, List.not_mem_nil, or_false] at hp
    rcases hp with rfl | rfl
    · exact piece_at a w0 r 1 256 rfl i1 _ rfl z
    · exact piece_at a w0 r 0 0 rfl i0 _ rfl z
  · have hy : (y 0).val < 512 := (y 0).isLt
    have hin : ∀ (o : ℕ) (inb : ∀ b, (![o, 0] : Fin 2 → ℕ) b + (![256, 512] : Fin 2 → ℕ) b ≤ S512x512.size b), o ≤ (y 0).val → (y 0).val < o + 256 →
        y ∈ (Rect.unit (s := S512x512) ![o, 0] ![256, 512] inb).set := by
      intro o inb ha hb
      rw [Rect.mem_set_unit]
      intro b
      fin_cases b
      · exact ⟨ha, hb⟩
      · exact ⟨Nat.zero_le _, by show (y 1).val < 0 + 512; have : (y 1).val < 512 := (y 1).isLt; omega⟩
    rcases lt_or_ge (y 0).val 256 with h | h
    · exact ⟨_, List.Mem.tail _ (List.Mem.head _), hin 0 i0 (by omega) (by omega)⟩
    · exact ⟨_, List.Mem.head _, hin 256 i1 (by omega) (by omega)⟩

/-! ## The body -/

section Body

variable (c : Dev nD) (i : grid0.Coords) (arg2 : Memref sig .tc .vmem S64x11008 .bf16) (harg2 : arg2.IsWhole) (arg3 : Memref sig .tc .vmem S11008x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2x512x11008 .bf16) (harg6 : arg6.IsWhole)
    (x0 : Vec F S64x11008 .bf16) (x1 : Vec F S11008x512 .bf16) (x2 : Vec F S512x512 .f32) (d3 : Vec F S512x512 .f32) (d4 : Vec F S2x512x11008 .bf16)

/-- The five buffers the body works on, at stated contents. -/
def held (y3 : Vec F S512x512 .f32) (y4 : Vec F S2x512x11008 .bf16) : sProp 𝕄 :=
  iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4)

theorem owns_of {s : Shape} {e : EltTy} (a : Memref sig .tc .vmem s e) (f : a.view.ty.Contents (Elt F)) (x : Vec F s e) (h : a.view.read (Elt F) f = x) :
    ((View.loc (c : Thread nD τ) a.view ↦[a.view.set]{fullShare} f) : sProp 𝕄)
      ⊢ iprop(∃ g, ⌜a.view.read (Elt F) g = x⌝ ∗ View.loc (c : Thread nD τ) a.view ↦[a.view.set]{fullShare} g) := by
  iintro H
  iexists f
  isplitr
  swap
  · iexact H
  · ipureintro
    exact h

/-- A point that fetches a slab and computes a block. -/
theorem run_both (h1 : k0_cond1 i = 1#1) (h2 : k0_cond2 i = 1#1) (E : Set ℕ) (K : PUnit → sProp 𝕄) :
    iprop(held c arg2 arg3 arg4 arg5 arg6 x0 x1 x2 d3 d4
        ∗ (held c arg2 arg3 arg4 arg5 arg6 x0 x1 x2 (downBlock (slotGet i (slotPut i d4 (k0_pay1 x0))) x1 x2) (slotPut i d4 (k0_pay1 x0)) -∗ K ⟨⟩))
      ⊢ wp frame (wpE (defs₀ (F := F)) Variants.none c none) E (cc0_mm_resid i arg2 harg2 arg3 harg3 arg4 harg4 arg5 harg5 arg6 harg6) K := by
    simp only [cc0_mm_resid_eq_skeleton]; unfold cc0_mm_resid_skel
    unfold held
    iintro ⟨⟨H0, H1, H2, H3, H4⟩, Hk⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    sl_exec (disch := first | sl_exact h1 | sl_exact h2)
    sl_step
    have e4 := store_put arg6.view f4 i h1 d4 hf4 (k0_pay1 x0) _ (congrArg k0_pay1 ((View.readAt_full arg2.view f0 inb_S64x11008_S64x11008_0_0).trans hf0))
    have g := read_slot arg6 _ i h2 _ e4
    have e3 := read_two arg5.view f3 (slotGet i (slotPut i d4 (k0_pay1 x0))) x1 x2 inb_S512x512_S256x512_256_0 inb_S512x512_S256x512_0_0 _ _ _ _ _ _
      (read_rows _ _ 1 256 rfl inb_S512x11008_S256x11008_256_0 _ g) (read_rows _ _ 0 0 rfl inb_S512x11008_S256x11008_0_0 _ g)
      ((View.readAt_full arg3.view f1 inb_S11008x512_S11008x512_0_0).trans hf1) ((View.readAt_full arg3.view f1 inb_S11008x512_S11008x512_0_0).trans hf1)
      (read_rows arg4.view f2 1 256 rfl inb_S512x512_S256x512_256_0 x2 hf2) (read_rows arg4.view f2 0 0 rfl inb_S512x512_S256x512_0_0 x2 hf2)
    iapply Hk
    isplitl [H0]; · iapply (owns_of c arg2 f0 x0 hf0); iexact H0
    isplitl [H1]; · iapply (owns_of c arg3 f1 x1 hf1); iexact H1
    isplitl [H2]; · iapply (owns_of c arg4 f2 x2 hf2); iexact H2
    isplitl [H3]; · iapply (owns_of c arg5 _ _ e3); iexact H3
    iapply (owns_of c arg6 _ _ e4); iexact H4

/-- A point of the first step: it fetches a slab. -/
theorem run_first (h1 : k0_cond1 i = 1#1) (h2 : ¬ k0_cond2 i = 1#1) (E : Set ℕ) (K : PUnit → sProp 𝕄) :
    iprop(held c arg2 arg3 arg4 arg5 arg6 x0 x1 x2 d3 d4
        ∗ (held c arg2 arg3 arg4 arg5 arg6 x0 x1 x2 d3 (slotPut i d4 (k0_pay1 x0)) -∗ K ⟨⟩))
      ⊢ wp frame (wpE (defs₀ (F := F)) Variants.none c none) E (cc0_mm_resid i arg2 harg2 arg3 harg3 arg4 harg4 arg5 harg5 arg6 harg6) K := by
    simp only [cc0_mm_resid_eq_skeleton]; unfold cc0_mm_resid_skel
    unfold held
    iintro ⟨⟨H0, H1, H2, H3, H4⟩, Hk⟩
    unfold owns
    icases H0 with ⟨%f0, %hf0, H0⟩
    icases H4 with ⟨%f4, %hf4, H4⟩
    sl_exec (disch := first | sl_exact h1 | sl_exact h2)
    sl_step
    have e4 := store_put arg6.view f4 i h1 d4 hf4 (k0_pay1 x0) _ (congrArg k0_pay1 ((View.readAt_full arg2.view f0 inb_S64x11008_S64x11008_0_0).trans hf0))
    iapply Hk
    isplitl [H0]; · iapply (owns_of c arg2 f0 x0 hf0); iexact H0
    isplitl [H1]; · iexact H1
    isplitl [H2]; · iexact H2
    isplitl [H3]; · iexact H3
    iapply (owns_of c arg6 _ _ e4); iexact H4

/-- A point of the last step: it computes a block. -/
theorem run_last (h1 : ¬ k0_cond1 i = 1#1) (h2 : k0_cond2 i = 1#1) (E : Set ℕ) (K : PUnit → sProp 𝕄) :
    iprop(held c arg2 arg3 arg4 arg5 arg6 x0 x1 x2 d3 d4
        ∗ (held c arg2 arg3 arg4 arg5 arg6 x0 x1 x2 (downBlock (slotGet i d4) x1 x2) d4 -∗ K ⟨⟩))
      ⊢ wp frame (wpE (defs₀ (F := F)) Variants.none c none) E (cc0_mm_resid i arg2 harg2 arg3 harg3 arg4 harg4 arg5 harg5 arg6 harg6) K := by
    simp only [cc0_mm_resid_eq_skeleton]; unfold cc0_mm_resid_skel
    unfold held
    iintro ⟨⟨H0, H1, H2, H3, H4⟩, Hk⟩
    unfold owns
    icases H1 with ⟨%f1, %hf1, H1⟩
    icases H2 with ⟨%f2, %hf2, H2⟩
    icases H3 with ⟨%f3, %hf3, H3⟩
    icases H4 with ⟨%f4, %hf4, H4⟩
    sl_exec (disch := first | sl_exact h1 | sl_exact h2)
    sl_step
    have g := read_slot arg6 _ i h2 _ hf4
    have e3 := read_two arg5.view f3 (slotGet i d4) x1 x2 inb_S512x512_S256x512_256_0 inb_S512x512_S256x512_0_0 _ _ _ _ _ _
      (read_rows _ _ 1 256 rfl inb_S512x11008_S256x11008_256_0 _ g) (read_rows _ _ 0 0 rfl inb_S512x11008_S256x11008_0_0 _ g)
      ((View.readAt_full arg3.view f1 inb_S11008x512_S11008x512_0_0).trans hf1) ((View.readAt_full arg3.view f1 inb_S11008x512_S11008x512_0_0).trans hf1)
      (read_rows arg4.view f2 1 256 rfl inb_S512x512_S256x512_256_0 x2 hf2) (read_rows arg4.view f2 0 0 rfl inb_S512x512_S256x512_0_0 x2 hf2)
    iapply Hk
    isplitl [H0]; · iexact H0
    isplitl [H1]; · iapply (owns_of c arg3 f1 x1 hf1); iexact H1
    isplitl [H2]; · iapply (owns_of c arg4 f2 x2 hf2); iexact H2
    isplitl [H3]; · iapply (owns_of c arg5 _ _ e3); iexact H3
    iapply (owns_of c arg6 _ _ hf4); iexact H4

end Body

end Cert.Proof.Down
-- ==== Proof.Down.Inv.lean ====
/-
  What the row buffer of the feed-forward down call holds before each grid point: the slabs of
  the last two row tiles, each where its slot and its rows say.
-/
module

public import proofs.«01_k».proof.Proof.Gen.DownKernelIdeal
public import proofs.«01_k».proof.Proof.Gen.DownKernelIdeal.Skeleton
public import proofs.«01_k».proof.Proof.Gen.DownKernelIdeal.Frame
public import proofs.«01_k».proof.Proof.Down.Run
public import Idealize.ShloMosaic.Lib.Pointwise

@[expose] public section

set_option maxRecDepth 16384

noncomputable section

namespace Cert.Proof.Down

open Cert.DownKernelIdeal Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-- The buffer before point `n`: every slab stored at most sixteen points ago is in its slot, at its rows. -/
def Good (S : ℕ → Vec F S1x64x11008 .bf16) (n : ℕ) (w : Vec F S2x512x11008 .bf16) : Prop :=
  ∀ n', n' < n → n ≤ n' + 16 → n' < 128 → ∀ y : S2x512x11008.Idx, (y 0).val = n' / 8 % 2 → (y 1).val / 64 = n' % 8 →
    w y = S n' (ix3 0 ⟨(y 1).val % 64, Nat.mod_lt _ (by decide)⟩ (y 2))

/-- The rows complete before point `n`'s step: the eight slabs of the step before. -/
def rowTile (S : ℕ → Vec F S1x64x11008 .bf16) (n : ℕ) : Vec F S512x11008 .bf16 :=
  fun y => S (8 * (n / 8 - 1) + (y 0).val / 64) (ix3 0 ⟨(y 0).val % 64, Nat.mod_lt _ (by decide)⟩ (y 1))

theorem good_zero (S : ℕ → Vec F S1x64x11008 .bf16) (w : Vec F S2x512x11008 .bf16) : Good S 0 w :=
  fun _ h => absurd h (Nat.not_lt_zero _)

theorem good_hold (S : ℕ → Vec F S1x64x11008 .bf16) (n : ℕ) (hn : 128 ≤ n) (w : Vec F S2x512x11008 .bf16) (h : Good S n w) : Good S (n + 1) w :=
  fun n' h1 h2 h3 y hy0 hy1 => h n' (by omega) (by omega) h3 y hy0 hy1

theorem good_step (S : ℕ → Vec F S1x64x11008 .bf16) (n : ℕ) (i : grid0.Coords) (h0 : (i 0).val = n / 8) (h1 : (i 1).val = n % 8)
    (w : Vec F S2x512x11008 .bf16) (h : Good S n w) : Good S (n + 1) (slotPut i w (S n)) := by
  intro n' hlt hle hn' y hy0 hy1
  have y1 : (y 1).val < 512 := (y 1).isLt
  have y2 : (y 2).val < 11008 := (y 2).isLt
  unfold slotPut VecWindow.put
  rcases Nat.lt_or_ge n' n with hc | hc
  · rw [dif_neg]
    · exact h n' hc (by omega) hn' y hy0 hy1
    · intro hin
      have a0 : (i 0).val % 2 ≤ (y 0).val ∧ (y 0).val < (i 0).val % 2 + 1 := hin 0
      have a1 : 64 * (i 1).val ≤ (y 1).val ∧ (y 1).val < 64 * (i 1).val + 64 := hin 1
      omega
  · obtain rfl : n' = n := by omega
    have hin : ∀ a, (![(i 0).val % 2, 64 * (i 1).val, 0] : Fin 3 → ℕ) a ≤ (y a).val ∧
        (y a).val < (![(i 0).val % 2, 64 * (i 1).val, 0] : Fin 3 → ℕ) a + S1x64x11008.size a := by
      intro a
      fin_cases a
      · show (i 0).val % 2 ≤ (y 0).val ∧ (y 0).val < (i 0).val % 2 + 1
        omega
      · show 64 * (i 1).val ≤ (y 1).val ∧ (y 1).val < 64 * (i 1).val + 64
        omega
      · show 0 ≤ (y 2).val ∧ (y 2).val < 0 + 11008
        omega
    rw [dif_pos hin]
    refine congrArg (S n') (funext fun a => Fin.ext ?_)
    rw [Rect.unitLocal_val]
    fin_cases a
    · show (y 0).val - (i 0).val % 2 = 0
      omega
    · show (y 1).val - 64 * (i 1).val = (y 1).val % 64
      omega
    · show (y 2).val - 0 = (y 2).val
      omega

/-- A slot's rows as a matrix. -/
theorem slotRows_apply (x : FVec F S1x512x11008 .bf16) (a : Fin 512) (k : Fin 11008) : shapeCast S512x11008 x casts_get (ix2 a k) = x (ix3 0 a k) := by
  pointwise []

/-- A row of the slot read. -/
theorem slotGet_apply (i : grid0.Coords) (d : Vec F S2x512x11008 .bf16) (a : Fin 512) (k : Fin 11008) :
    slotGet i d (ix2 a k) = d (ix3 ⟨1 - (i 0).val % 2, by omega⟩ a k) := by
  refine (slotRows_apply _ a k).trans ?_
  unfold VecWindow.window
  refine congrArg d (funext fun b => Fin.ext ?_)
  fin_cases b
  · show 1 - (i 0).val % 2 + 1 * 0 = 1 - (i 0).val % 2
    omega
  · show 0 + 1 * a.val = a.val
    omega
  · show 0 + 1 * k.val = k.val
    omega

theorem good_get (S : ℕ → Vec F S1x64x11008 .bf16) (n : ℕ) (hn : 8 ≤ n) (hN : n < 136) (i : grid0.Coords) (h0 : (i 0).val = n / 8)
    (w : Vec F S2x512x11008 .bf16) (h : Good S (n + 1) w) : slotGet i w = rowTile S n := by
  funext y
  obtain ⟨a, k, rfl⟩ : ∃ (a : Fin 512) (k : Fin 11008), y = (ix2 a k : S512x11008.Idx) := ⟨y 0, y 1, eq_ix2 (n0 := 512) (n1 := 11008) y⟩
  rw [slotGet_apply]
  exact h (8 * (n / 8 - 1) + a.val / 64) (by omega) (by omega) (by omega) _
    (by show 1 - (i 0).val % 2 = _; omega) (by show a.val / 64 = _; omega)

end Cert.Proof.Down
-- ==== Proof.Down.Sched.lean ====
/-
  The feed-forward down call run from any memory: what each point leaves, the body's obligation
  at every point, and the launch.
-/
module

public import proofs.«01_k».proof.Proof.Gen.DownKernelIdeal
public import proofs.«01_k».proof.Proof.Gen.DownKernelIdeal.Skeleton
public import proofs.«01_k».proof.Proof.Gen.DownKernelIdeal.Frame
public import proofs.«01_k».proof.Proof.Gen.DownKernelIdeal.Launch
public import proofs.«01_k».proof.Proof.Gen.DownKernelIdeal.Points
public import proofs.«01_k».proof.Proof.Down.Inv
public import Idealize.ShloMosaic.Lib.Claim
public import Idealize.ShloMosaic.Lib.Pointwise

@[expose] public section

set_option maxRecDepth 16384

noncomputable section

namespace Cert.Proof.Down

open Cert.DownKernelIdeal Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem coords_eq : ∀ t : Fin grid0.N, ((grid0.coords t) 0).val = t.val / 8 ∧ ((grid0.coords t) 1).val = t.val % 8 := by decide +kernel
theorem cond1_iff : ∀ t : Fin grid0.N, k0_cond1 (grid0.coords t) = 1#1 ↔ t.val < 128 := by decide +kernel
theorem cond2_iff : ∀ t : Fin grid0.N, k0_cond2 (grid0.coords t) = 1#1 ↔ 8 ≤ t.val := by decide +kernel
theorem flush3_early : ∀ t : Fin grid0.N, t.val < 8 → win0_3.flush t = false := by decide +kernel

/-! ## What each point leaves -/

/-- The slab of rows of point `n`. -/
def slab (c : Dev nD) (n : ℕ) : Vec F S1x64x11008 .bf16 := k0_pay1 (iblk m c 0 ⟨n % 136, Nat.mod_lt _ (by decide)⟩)

theorem slab_at (c : Dev nD) (t : Fin cfg0.N) : slab m c t.val = k0_pay1 (iblk m c 0 t) := by
  unfold slab
  have h : t.val < 136 := t.isLt
  exact congrArg (fun u => k0_pay1 (iblk m c 0 u)) (Fin.ext (Nat.mod_eq_of_lt h))

/-- The block of results point `t` leaves (from the second step on). -/
def outBlock (c : Dev nD) (t : Fin cfg0.N) : Vec F S512x512 .f32 :=
  downBlock (rowTile (slab m c) t.val) (iblk m c 1 t) (iblk m c 2 t)

/-- The row buffer before point `n`. -/
def Kept (c : Dev nD) (n : ℕ) : sProp 𝕄 :=
  iprop(∃ w : Vec F S2x512x11008 .bf16, ⌜Good (slab m c) n w⌝ ∗ owns (c : Thread nD τ) (Memref.whole cc0_scratch0) fullShare w ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := Kept m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body's obligation -/

abbrev ms0 (t : Fin cfg0.N) : Memref sig .tc .vmem S64x11008 .bf16 := win0_0.stage (cfg0.slots t 0)
abbrev ms1 (t : Fin cfg0.N) : Memref sig .tc .vmem S11008x512 .bf16 := win0_1.stage (cfg0.slots t 1)
abbrev ms2 (t : Fin cfg0.N) : Memref sig .tc .vmem S512x512 .f32 := win0_2.stage (cfg0.slots t 2)
abbrev ms3 (t : Fin cfg0.N) : Memref sig .tc .vmem S512x512 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

theorem leaves3_early (c : Dev nD) (t : Fin cfg0.N) (h : ¬ k0_cond2 (grid0.coords t) = 1#1) :
    (dats m 0 c).leavesExact 3 t = iprop(∃ d, owns (c : Thread nD τ) (ms3 t) fullShare ((dats m 0 c).before 3 t d)) :=
  Dat.leavesExact_idle _ 3 t (by show (!(k0_cond2 (grid0.coords t) == 1#1)) = true; simp [h])
    (flush3_early t (Nat.lt_of_not_le fun h' => h ((cond2_iff t).2 h')))

theorem leaves3_late (c : Dev nD) (t : Fin cfg0.N) (h : k0_cond2 (grid0.coords t) = 1#1) :
    (dats m 0 c).leavesExact 3 t = owns (c : Thread nD τ) (ms3 t) fullShare (outBlock m c t) := by
  have hi : cfg0.idle 3 (cfg0.grid.coords t) = false := by show (!(k0_cond2 (grid0.coords t) == 1#1)) = false; simp [h]
  unfold Dat.leavesExact
  rw [hi, after_3]

theorem Phi_castSucc (c : Dev nD) (t : Fin cfg0.N) : (dats m 0 c).Φ t.castSucc = Kept m c t.val := by dsimp only [dats, Fin.val_castSucc]
theorem Phi_succ (c : Dev nD) (t : Fin cfg0.N) : (dats m 0 c).Φ t.succ = Kept m c (t.val + 1) := by dsimp only [dats, Fin.val_succ]

/-- The buffers after a point's body, with the row buffer as the point is to leave it, are what the point is to leave. -/
theorem close_point (c : Dev nD) (t : Fin cfg0.N) (z : Vec F S512x512 .f32) (w : Vec F S2x512x11008 .bf16)
    (hz : owns (c : Thread nD τ) (ms3 t) fullShare z ⊢ (dats m 0 c).leavesExact 3 t) (hw : Good (slab m c) (t.val + 1) w) :
    iprop((dats m 0 c).owesAt () t.castSucc ∗ owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare z
        ∗ owns (c : Thread nD τ) (Memref.whole cc0_scratch0) fullShare w ∗ ∃ r, prngReg c r)
      ⊢ bodyPost m c t := by
  unfold bodyPost
  rw [Phi_succ, show (dats m 0 c).owesAt () t.succ = (dats m 0 c).owesAt () t.castSucc from rfl, after_0, after_1, after_2]
  unfold Kept
  iintro ⟨Ho, H0, H1, H2, H3, HS, Hg⟩
  isplitl [HS Hg]
  · iexists w
    isplitr
    swap
    · isplitl [HS]; · iexact HS
      iexact Hg
    · ipureintro
      exact hw
  isplitl [Ho]; · iexact Ho
  isplitl [H0]; · iexact H0
  isplitl [H1]; · iexact H1
  isplitl [H2]; · iexact H2
  iapply hz; iexact H3

theorem sound_body (c : Dev nD) (t : Fin cfg0.N) :
    bodyPre m c t ⊢ wp frame (wpE (defs₀ (F := F)) Variants.none c none) Set.univ (bodyAt0 t) (fun _ => bodyPost m c t) := by
  have close := close_point m c t
  unfold bodyPre bodyAt0
  simp only [before_0, before_1, before_2]
  rw [Phi_castSucc]
  unfold Kept
  obtain ⟨hc0, hc1⟩ := coords_eq t
  have hN : t.val < 136 := t.isLt
  iintro ⟨⟨%w, %hg, HS, Hg⟩, Ho, ⟨%d0, H0⟩, ⟨%d1, H1⟩, ⟨%d2, H2⟩, ⟨%d3, H3⟩⟩
  by_cases h1 : k0_cond1 (grid0.coords t) = 1#1
  · have g := good_step (slab m c) t.val (grid0.coords t) hc0 hc1 w hg
    by_cases h2 : k0_cond2 (grid0.coords t) = 1#1
    · have e := good_get (slab m c) t.val ((cond2_iff t).1 h2) hN (grid0.coords t) hc0 _ g
      have late : owns (c : Thread nD τ) (ms3 t) fullShare (outBlock m c t) ⊢ (dats m 0 c).leavesExact 3 t := by rw [leaves3_late m c t h2]
      unfold outBlock at late
      rw [← e, slab_at] at late
      rw [slab_at] at g
      iapply (run_both c (grid0.coords t) (ms0 t) _ (ms1 t) _ (ms2 t) _ (ms3 t) _ (Memref.whole cc0_scratch0) _
        (iblk m c 0 t) (iblk m c 1 t) (iblk m c 2 t) ((dats m 0 c).before 3 t d3) w h1 h2 Set.univ _)
      unfold held
      isplitl [H0 H1 H2 H3 HS]
      · isplitl [H0]; · iexact H0
        isplitl [H1]; · iexact H1
        isplitl [H2]; · iexact H2
        isplitl [H3]; · iexact H3
        iexact HS
      iintro ⟨H0, H1, H2, H3, HS⟩
      iapply (close _ _ late g)
      isplitl [Ho]; · iexact Ho
      isplitl [H0]; · iexact H0
      isplitl [H1]; · iexact H1
      isplitl [H2]; · iexact H2
      isplitl [H3]; · iexact H3
      isplitl [HS]; · iexact HS
      iexact Hg
    · have early : owns (c : Thread nD τ) (ms3 t) fullShare ((dats m 0 c).before 3 t d3) ⊢ (dats m 0 c).leavesExact 3 t := by
        rw [leaves3_early m c t h2]
        iintro H
        iexists d3
        iexact H
      rw [slab_at] at g
      iapply (run_first c (grid0.coords t) (ms0 t) _ (ms1 t) _ (ms2 t) _ (ms3 t) _ (Memref.whole cc0_scratch0) _
        (iblk m c 0 t) (iblk m c 1 t) (iblk m c 2 t) ((dats m 0 c).before 3 t d3) w h1 h2 Set.univ _)
      unfold held
      isplitl [H0 H1 H2 H3 HS]
      · isplitl [H0]; · iexact H0
        isplitl [H1]; · iexact H1
        isplitl [H2]; · iexact H2
        isplitl [H3]; · iexact H3
        iexact HS
      iintro ⟨H0, H1, H2, H3, HS⟩
      iapply (close _ _ early g)
      isplitl [Ho]; · iexact Ho
      isplitl [H0]; · iexact H0
      isplitl [H1]; · iexact H1
      isplitl [H2]; · iexact H2
      isplitl [H3]; · iexact H3
      isplitl [HS]; · iexact HS
      iexact Hg
  · have h3 : 128 ≤ t.val := Nat.le_of_not_lt fun h => h1 ((cond1_iff t).2 h)
    have h2 := (cond2_iff t).2 (by omega)
    have g := good_hold (slab m c) t.val h3 w hg
    have e := good_get (slab m c) t.val (by omega) hN (grid0.coords t) hc0 _ g
    have late : owns (c : Thread nD τ) (ms3 t) fullShare (outBlock m c t) ⊢ (dats m 0 c).leavesExact 3 t := by rw [leaves3_late m c t h2]
    unfold outBlock at late
    rw [← e] at late
    iapply (run_last c (grid0.coords t) (ms0 t) _ (ms1 t) _ (ms2 t) _ (ms3 t) _ (Memref.whole cc0_scratch0) _
      (iblk m c 0 t) (iblk m c 1 t) (iblk m c 2 t) ((dats m 0 c).before 3 t d3) w h1 h2 Set.univ _)
    unfold held
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    iapply (close _ _ late g)
    isplitl [Ho]; · iexact Ho
    isplitl [H0]; · iexact H0
    isplitl [H1]; · iexact H1
    isplitl [H2]; · iexact H2
    isplitl [H3]; · iexact H3
    isplitl [HS]; · iexact HS
    iexact Hg

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) :
    (Pipeline.ΦA spec0 c : sProp 𝕄)
      = iprop((∃ d, owns (c : Thread nD τ) (Memref.whole cc0_scratch0 : Memref sig .tc .vmem S2x512x11008 .bf16) fullShare d) ∗ (∃ r, prngReg c r)) := by
  unfold Pipeline.ΦA; rw [scopedRest0_eq]; simp only [owns_whole]; try rfl

theorem Phi_in (c : Dev nD) : Pipeline.ΦA spec0 c ⊢ (dats m 0 c).Φ 0 := by
  show _ ⊢ Kept m c 0
  rw [PhiA_eq]
  unfold Kept
  iintro ⟨⟨%d, H⟩, Hg⟩
  iexists d
  isplitr
  · ipureintro
    exact good_zero _ _
  isplitl [H]; · iexact H
  iexact Hg

theorem Phi_out (c : Dev nD) : (dats m 0 c).Φ (Fin.last cfg0.N) ⊢ Pipeline.ΦA spec0 c := by
  show Kept m c _ ⊢ _
  rw [PhiA_eq]
  unfold Kept
  iintro ⟨%d, -, H, Hg⟩
  isplitl [H]
  · iexists d; iexact H
  iexact Hg

theorem share_eq (c : Dev nD) (w : Fin cfg0.W) : (dats m 0 c).share w = fullShare := by
  unfold Dat.share
  split
  · rfl
  · dsimp only [dats]

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem down_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Down
-- ==== Proof.Down.Final.lean ====
/- The feed-forward down call's result array after the run: every entry is the row's plus half the product's. -/
module

public import proofs.«01_k».proof.Proof.Down.Sched
public import Idealize.ShloMosaic.Lib.Pipeline.ValueKit
public import Idealize.ShloMosaic.PureOps.Ideal

@[expose] public section

noncomputable section

namespace Cert.Proof.Down

open Idealize.ShloMosaic Idealize.ShloMosaic.TcCoe Cert.DownKernelIdeal Cert.DownKernelIdeal.Gen Idealize.ShloMosaic.Pointwise Idealize.SL.Sem

/-! ## The host operations before the call -/

/-- The rows of the residual, -/
def hostRows (x : FVec Ideal S4x2048x4096 .f32) : FVec Ideal S8192x4096 .f32 := shapeCast S8192x4096 x shapeCasts_S4x2048x4096_S8192x4096
/-- of the activations, -/
def hostActs (a : FVec Ideal S4x2048x11008 .f32) : FVec Ideal S8192x11008 .bf16 :=
  truncf .bf16 (shapeCast S8192x11008 a shapeCasts_S4x2048x11008_S8192x11008) bitsLt_bf16_f32
/-- and layer 1's down weights. -/
def hostDown (d : FVec Ideal S2x11008x4096 .f32) : FVec Ideal S11008x4096 .bf16 :=
  truncf .bf16 (shapeCast S11008x4096 (extractStridedSlice S1x11008x4096 ![1, 0, 0] d slices_S2x11008x4096_S1x11008x4096_1_0_0) shapeCasts_S1x11008x4096_S11008x4096) bitsLt_bf16_f32

theorem hostRows_apply (x : FVec Ideal S4x2048x4096 .f32) (i : Fin 8192) (j : Fin 4096) :
    hostRows x (ix2 i j) = x (ix3 ⟨i.val / 2048, by omega⟩ ⟨i.val % 2048, by omega⟩ j) := by
  pointwise [hostRows]
  try rfl

theorem hostActs_apply (a : FVec Ideal S4x2048x11008 .f32) (i : Fin 8192) (k : Fin 11008) :
    hostActs a (ix2 i k) = a (ix3 ⟨i.val / 2048, by omega⟩ ⟨i.val % 2048, by omega⟩ k) := by
  pointwise [hostActs]
  try rfl

theorem hostDown_apply (d : FVec Ideal S2x11008x4096 .f32) (k : Fin 11008) (j : Fin 4096) : hostDown d (ix2 k j) = d (ix3 1 k j) := by
  pointwise [hostDown]
  try rfl

/-- The result as an array. -/
def downArr (x : FVec Ideal S4x2048x4096 .f32) (a : FVec Ideal S4x2048x11008 .f32) (d : FVec Ideal S2x11008x4096 .f32) : FVec Ideal S8192x4096 .f32 := fun i =>
  let r : Fin 8192 := i 0
  (x (ix3 ⟨r.val / 2048, by omega⟩ ⟨r.val % 2048, by omega⟩ (i 1)) : EReal)
    + Ideal.ofBits .f32 0x3F000000#32 * ∑ k : Fin 11008, (a (ix3 ⟨r.val / 2048, by omega⟩ ⟨r.val % 2048, by omega⟩ k) : EReal) * d (ix3 1 k (i 1))

/-- An entry of a block of results. -/
theorem downBlock_apply (a : Vec Ideal S512x11008 .bf16) (w : Vec Ideal S11008x512 .bf16) (r : Vec Ideal S512x512 .f32) (p : Fin 512) (l : Fin 512) :
    downBlock a w r (ix2 p l) = (r (ix2 p l) : EReal) + Ideal.ofBits .f32 0x3F000000#32 * ∑ k : Fin 11008, (a (ix2 p k) : EReal) * w (ix2 k l) := by
  have e : (⟨256 * (p.val / 256) + p.val % 256, by omega⟩ : Fin 512) = p := Fin.ext (by show 256 * (p.val / 256) + p.val % 256 = p.val; omega)
  rw [downBlock_at a w r ⟨p.val / 256, by omega⟩ ⟨p.val % 256, by omega⟩ l _ (by show p.val = 256 * (p.val / 256) + p.val % 256; omega) rfl]
  pointwise [k0_pay2, rows]
  simp only [e]

/-! ## The windows -/

theorem index0 : ∀ t : Fin grid0.N, t.val < 128 → win0_0.index t = ![t.val, 0] := by decide +kernel
theorem index1 : ∀ t : Fin grid0.N, 8 ≤ t.val → win0_1.index t = ![0, t.val % 8] := by decide +kernel
theorem index2 : ∀ t : Fin grid0.N, 8 ≤ t.val → win0_2.index t = ![t.val / 8 - 1, t.val % 8] := by decide +kernel
theorem index3 : ∀ t : Fin grid0.N, 8 ≤ t.val → win0_3.index t = ![t.val / 8 - 1, t.val % 8] := by decide +kernel

theorem emb0 (t : Fin cfg0.N) (ht : t.val < 128) (a : Fin 64) (k : Fin 11008) :
    (win0_0.blk t).view.emb (ix2 a k) = (ix2 ⟨t.val * 64 + a.val, by omega⟩ k : S8192x11008.Idx) := by
  funext x; apply Fin.ext
  match x with
  | ⟨0, _⟩ => show win0_0.index t (0 : Fin 2) * 64 + 1 * a.val = t.val * 64 + a.val; rw [index0 t ht]; show t.val * 64 + 1 * a.val = _; omega
  | ⟨1, _⟩ => show win0_0.index t (1 : Fin 2) * 11008 + 1 * k.val = k.val; rw [index0 t ht]; show 0 * 11008 + 1 * k.val = _; omega

theorem emb1 (t : Fin cfg0.N) (ht : 8 ≤ t.val) (k : Fin 11008) (l : Fin 512) :
    (win0_1.blk t).view.emb (ix2 k l) = (ix2 k ⟨t.val % 8 * 512 + l.val, by omega⟩ : S11008x4096.Idx) := by
  funext x; apply Fin.ext
  match x with
  | ⟨0, _⟩ => show win0_1.index t (0 : Fin 2) * 11008 + 1 * k.val = k.val; rw [index1 t ht]; show 0 * 11008 + 1 * k.val = _; omega
  | ⟨1, _⟩ => show win0_1.index t (1 : Fin 2) * 512 + 1 * l.val = t.val % 8 * 512 + l.val; rw [index1 t ht]; show t.val % 8 * 512 + 1 * l.val = _; omega

theorem emb2 (t : Fin cfg0.N) (ht : 8 ≤ t.val) (p : Fin 512) (l : Fin 512) :
    (win0_2.blk t).view.emb (ix2 p l) = (ix2 ⟨(t.val / 8 - 1) * 512 + p.val, by have : t.val < 136 := t.isLt; omega⟩ ⟨t.val % 8 * 512 + l.val, by omega⟩ : S8192x4096.Idx) := by
  funext x; apply Fin.ext
  match x with
  | ⟨0, _⟩ => show win0_2.index t (0 : Fin 2) * 512 + 1 * p.val = (t.val / 8 - 1) * 512 + p.val; rw [index2 t ht]; show (t.val / 8 - 1) * 512 + 1 * p.val = _; omega
  | ⟨1, _⟩ => show win0_2.index t (1 : Fin 2) * 512 + 1 * l.val = t.val % 8 * 512 + l.val; rw [index2 t ht]; show t.val % 8 * 512 + 1 * l.val = _; omega

theorem emb3 (t : Fin cfg0.N) (ht : 8 ≤ t.val) (p : Fin 512) (l : Fin 512) :
    (win0_3.blk t).view.emb (ix2 p l) = (ix2 ⟨(t.val / 8 - 1) * 512 + p.val, by have : t.val < 136 := t.isLt; omega⟩ ⟨t.val % 8 * 512 + l.val, by omega⟩ : S8192x4096.Idx) := by
  funext x; apply Fin.ext
  match x with
  | ⟨0, _⟩ => show win0_3.index t (0 : Fin 2) * 512 + 1 * p.val = (t.val / 8 - 1) * 512 + p.val; rw [index3 t ht]; show (t.val / 8 - 1) * 512 + 1 * p.val = _; omega
  | ⟨1, _⟩ => show win0_3.index t (1 : Fin 2) * 512 + 1 * l.val = t.val % 8 * 512 + l.val; rw [index3 t ht]; show t.val % 8 * 512 + 1 * l.val = _; omega

variable (m : (ℓ : Loc nD τ sig) → Buf (Elt Ideal) ℓ) (c : Dev nD)

theorem V_rows : V m c main_v0 = hostRows (m ((c : Thread nD τ).loc main_arg0)) := by
  unfold V
  simp only [hostOps0, StableHlo.TRef.ternary, StableHlo.TRef.unary, StableHlo.TRef.toBuf, StableHlo.TRef.ofBuf, cast_eq]
  after_results_simp
  rfl

theorem V_acts : V m c main_v2 = hostActs (m ((c : Thread nD τ).loc main_arg1)) := by
  unfold V
  simp only [hostOps0, StableHlo.TRef.ternary, StableHlo.TRef.unary, StableHlo.TRef.toBuf, StableHlo.TRef.ofBuf, cast_eq]
  after_results_simp
  rfl

theorem V_down : V m c main_v5 = hostDown (m ((c : Thread nD τ).loc main_arg2)) := by
  unfold V
  simp only [hostOps0, StableHlo.TRef.ternary, StableHlo.TRef.unary, StableHlo.TRef.toBuf, StableHlo.TRef.ofBuf, cast_eq]
  after_results_simp
  rfl

/-- A slab's entry is the activations'. -/
theorem slab_apply (n : ℕ) (hn : n < 128) (a : Fin 64) (k : Fin 11008) :
    slab m c n (ix3 0 a k) = hostActs (m ((c : Thread nD τ).loc main_arg1)) (ix2 ⟨n * 64 + a.val, by omega⟩ k) := by
  obtain ⟨t, rfl⟩ : ∃ t : Fin cfg0.N, t.val = n := ⟨⟨n, by show n < 136; omega⟩, rfl⟩
  rw [slab_at]
  pointwise [k0_pay1]
  exact (congrArg (V m c main_v2) (emb0 t hn a k)).trans (congrFun (V_acts m c) _)

/-- So is an entry of the rows a point multiplies. -/
theorem rowTile_apply (n : ℕ) (h8 : 8 ≤ n) (hn : n < 136) (p : Fin 512) (k : Fin 11008) :
    rowTile (slab m c) n (ix2 p k) = hostActs (m ((c : Thread nD τ).loc main_arg1)) (ix2 ⟨(n / 8 - 1) * 512 + p.val, by omega⟩ k) := by
  refine (slab_apply m c (8 * (n / 8 - 1) + p.val / 64) (by omega) ⟨p.val % 64, by omega⟩ k).trans (congrArg _ ?_)
  congr 1
  apply Fin.ext
  show (8 * (n / 8 - 1) + p.val / 64) * 64 + p.val % 64 = (n / 8 - 1) * 512 + p.val
  omega

/-- THE RESULT after the run. -/
theorem final : (dats m 0 c).arrAt 3 cfg0.N = downArr (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after_3]
  have ht : 8 ≤ t.val := by
    by_contra h
    exact absurd ((flush3_early t (by omega)).symm.trans hf) (by decide)
  have hN : t.val < 136 := t.isLt
  obtain ⟨p, l, rfl⟩ : ∃ (p : Fin 512) (l : Fin 512), y = (ix2 p l : S512x512.Idx) := ⟨y 0, y 1, eq_ix2 (n0 := 512) (n1 := 512) y⟩
  rw [emb3 t ht p l]
  have e1 : ∀ k, iblk m c 1 t (ix2 k l) = hostDown (m ((c : Thread nD τ).loc main_arg2)) (ix2 k ⟨t.val % 8 * 512 + l.val, by omega⟩) :=
    fun k => (congrArg (V m c main_v5) (emb1 t ht k l)).trans (congrFun (V_down m c) _)
  have e2 : iblk m c 2 t (ix2 p l) = hostRows (m ((c : Thread nD τ).loc main_arg0)) (ix2 ⟨(t.val / 8 - 1) * 512 + p.val, by omega⟩ ⟨t.val % 8 * 512 + l.val, by omega⟩) :=
    (congrArg (V m c main_v0) (emb2 t ht p l)).trans (congrFun (V_rows m c) _)
  refine (downBlock_apply (rowTile (slab m c) t.val) (iblk m c 1 t) (iblk m c 2 t) p l).trans ?_
  simp only [rowTile_apply m c t.val ht hN, e1, e2, hostRows_apply, hostActs_apply, hostDown_apply]
  rfl

end Cert.Proof.Down

end
-- ==== Proof.Down.Equal.lean ====
/- The feed-forward down call and its reference give the same array. -/
module

public import proofs.«01_k».proof.Defs
public import proofs.«01_k».proof.Proof.Down.Final
public import proofs.«01_k».proof.Proof.Gen.DownReferenceIdeal.Run

@[expose] public section

noncomputable section

namespace Cert.Proof.Down

open Idealize.ShloMosaic Idealize.ShloMosaic.TcCoe Idealize.ShloMosaic.Pointwise Idealize.SL.Sem

namespace Ref

open Cert.DownReferenceIdeal Cert.DownReferenceIdeal.Gen

/-- The reference's result. -/
def result (x : FVec Ideal S4x2048x4096 .f32) (a : FVec Ideal S4x2048x11008 .f32) (d : FVec Ideal S2x11008x4096 .f32) : FVec Ideal S8192x4096 .f32 :=
  shapeCast S8192x4096 (addf x (mulf (broadcastInDim S4x2048x4096 ![] bcast_S_S4x2048x4096 (constant S_ .f32 0x3F000000#32))
    (Host.dotGeneral dot_S4x2048x11008_S11008x4096_S4x2048x4096_2_0_01_1_n_n none a
      (shapeCast S11008x4096 (extractStridedSlice S1x11008x4096 ![1, 0, 0] d slices_S2x11008x4096_S1x11008x4096_1_0_0) shapeCasts_S1x11008x4096_S11008x4096))))
    shapeCasts_S4x2048x4096_S8192x4096

theorem result_apply (x : FVec Ideal S4x2048x4096 .f32) (a : FVec Ideal S4x2048x11008 .f32) (d : FVec Ideal S2x11008x4096 .f32) (i : Fin 8192) (j : Fin 4096) :
    result x a d (ix2 i j) = (x (ix3 ⟨i.val / 2048, by omega⟩ ⟨i.val % 2048, by omega⟩ j) : EReal)
      + Ideal.ofBits .f32 0x3F000000#32 * ∑ k : Fin 11008, (a (ix3 ⟨i.val / 2048, by omega⟩ ⟨i.val % 2048, by omega⟩ k) : EReal) * d (ix3 1 k j) := by
  pointwise [result]
  try rfl

end Ref

theorem down_eq (x : FVec Ideal Cert.DownKernelIdeal.S4x2048x4096 .f32) (a : FVec Ideal Cert.DownKernelIdeal.S4x2048x11008 .f32)
    (d : FVec Ideal Cert.DownKernelIdeal.S2x11008x4096 .f32) : Ref.result x a d = downArr x a d := by
  funext i
  obtain ⟨i, j, rfl⟩ : ∃ (r : Fin 8192) (j : Fin 4096), i = (ix2 r j : Cert.DownKernelIdeal.S8192x4096.Idx) := ⟨i 0, i 1, eq_ix2 (n0 := 8192) (n1 := 4096) i⟩
  exact Ref.result_apply x a d i j

theorem down_algebraic : Cert.algebraic_DownKernelIdeal_DownReferenceIdeal := by
  intro m ρ m' ρ' hpre hagree
  refine ⟨fun c => downArr (m ((c.tc : Thread Cert.DownKernelIdeal.nD Cert.DownKernelIdeal.τ).loc Cert.DownKernelIdeal.main_arg0))
      (m ((c.tc : Thread Cert.DownKernelIdeal.nD Cert.DownKernelIdeal.τ).loc Cert.DownKernelIdeal.main_arg1))
      (m ((c.tc : Thread Cert.DownKernelIdeal.nD Cert.DownKernelIdeal.τ).loc Cert.DownKernelIdeal.main_arg2)), ?_, ?_⟩
  · refine (θ_run Cert.DownKernelIdeal.defs _ _).mono (fun r h c => ⟨((h.1 c).1 3).trans (final m c), h.2.1 c⟩)
      (θ_run_and (run_main m ρ) (down_frame m ρ))
  · refine (θ_run Cert.DownReferenceIdeal.defs _ _).mono (fun r h c => ⟨(h c).1.trans ?_, (h c).2⟩) (Cert.DownReferenceIdeal.Value.run (F := Ideal) m' ρ')
    obtain ⟨e0, e1, e2⟩ := hagree c
    rw [e0, e1, e2]
    exact down_eq _ _ _

end Cert.Proof.Down

end
-- ==== Proof.Down.Twin.lean ====
/-
  The feed-forward down call as compiled runs as its idealized text does: the two programs are one text.
-/
module

public import proofs.«01_k».proof.Defs
public import proofs.«01_k».proof.Proof.Gen.DownKernel
public import proofs.«01_k».proof.Proof.Down.Sched

@[expose] public section

set_option maxRecDepth 16384

noncomputable section

namespace Cert.Proof.Down

open Idealize.ShloMosaic Idealize.SL Idealize.SL.Sem

set_option smartUnfolding false in
theorem frame_compiled : Cert.quiescent_DownKernel :=
  fun m ρ _ => down_frame (F := Bits) m ρ

end Cert.Proof.Down
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Fox.Final
public import proofs.«01_k».proof.Proof.Fox.Finite
public import proofs.«01_k».proof.Proof.Fox.Ref
public import Idealize.ShloMosaic.Adequacy
public import Idealize.ShloMosaic.Init
public import proofs.«01_k».proof.Proof.Ffn.Equal
public import proofs.«01_k».proof.Proof.Ffn.Twin
public import proofs.«01_k».proof.Proof.Ffn.Next.Equal
public import proofs.«01_k».proof.Proof.Ffn.Next.Twin
public import proofs.«01_k».proof.Proof.Down.Equal
public import proofs.«01_k».proof.Proof.Down.Twin
public import proofs.«01_k».proof.Proof.Gen.FfnReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.Pre_ffn_finite
public import proofs.«01_k».proof.Proof.Gen.NextReferenceIdeal.Run
public import proofs.«01_k».proof.Proof.Gen.NextKernel
public import proofs.«01_k».proof.Proof.Gen.NextKernel.Skeleton
public import proofs.«01_k».proof.Proof.Gen.NextKernel.Launch
public import proofs.«01_k».proof.Proof.Gen.NextKernel.Points
public import proofs.«01_k».proof.Proof.Gen.NextKernel.Frame
public import proofs.«01_k».proof.Proof.Gen.NextKernelIdeal
public import proofs.«01_k».proof.Proof.Gen.NextKernelIdeal.Skeleton
public import proofs.«01_k».proof.Proof.Gen.NextKernelIdeal.Launch
public import proofs.«01_k».proof.Proof.Gen.NextKernelIdeal.Points
public import proofs.«01_k».proof.Proof.Gen.NextKernelIdeal.Frame
public import proofs.«01_k».proof.Proof.Gen.NextReferenceIdeal
public import proofs.«01_k».proof.Proof.Gen.Pre_next_finite
public import proofs.«01_k».proof.Proof.Gen.DownReferenceIdeal.Run
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal

@[expose] public section

noncomputable section

namespace Cert.Proof

open Idealize.ShloMosaic Idealize.SL.Sem Idealize.ShloMosaic.Pointwise Cert.Fox

/-- The kernel and the reference, from finite arrays that agree, end with the same array: the attention of them. -/
theorem fox_algebraic : Cert.algebraic_KernelIdeal_ReferenceIdeal_pre_finite := by
  intro m ρ m' ρ' hpre hagree
  let P (c : Dev Cert.KernelIdeal.nD) : FVec Ideal Cert.KernelIdeal.S4x2048x6144 .f32 :=
    m ((c.tc : Thread Cert.KernelIdeal.nD Cert.KernelIdeal.τ).loc Cert.KernelIdeal.main_arg0)
  let G (c : Dev Cert.KernelIdeal.nD) : FVec Ideal Cert.KernelIdeal.S4x16x2048 .f32 :=
    m ((c.tc : Thread Cert.KernelIdeal.nD Cert.KernelIdeal.τ).loc Cert.KernelIdeal.main_arg1)
  have hP : ∀ c i, P c i = ((P c i : EReal).toReal : EReal) := fun c => (reals_of_finite (P c) (G c) (hpre c)).1
  have hG : ∀ c i, G c i = ((G c i : EReal).toReal : EReal) := fun c => (reals_of_finite (P c) (G c) (hpre c)).2
  let p (c : Dev Cert.KernelIdeal.nD) (b : Fin 4) (t : Fin 2048) (j : Fin 6144) : ℝ := (P c (ix3 b t j) : EReal).toReal
  let g (c : Dev Cert.KernelIdeal.nD) (b : Fin 4) (h : Fin 16) (t : Fin 2048) : ℝ := (G c (ix3 b h t) : EReal).toReal
  refine ⟨fun c => attnArr (p c) (g c), ?_, ?_⟩
  · refine (θ_run Cert.KernelIdeal.defs _ _).mono (fun r h c => ⟨(h c).1.trans ?_, (h c).2⟩) (Cert.KernelIdeal.Value.run_blocks (F := Ideal) m ρ)
    exact final m c (fun b t j => hP c _) (fun b h t => hG c _)
  · refine (θ_run Cert.ReferenceIdeal.defs _ _).mono (fun r h c => ⟨(h c).1.trans ?_, (h c).2⟩) (Cert.ReferenceIdeal.Value.run (F := Ideal) m' ρ')
    rw [Ref.res_eq]
    funext i
    obtain ⟨i, j, rfl⟩ : ∃ (r : Fin 8192) (j : Fin 2048), i = (ix2 r j : Cert.KernelIdeal.S8192x2048.Idx) := ⟨i 0, i 1, eq_ix2 (n0 := 8192) (n1 := 2048) i⟩
    refine (Ref.result_apply (p := p c) (g := g c) ⟨fun b t j => ?_, fun b h t => ?_⟩ i j).trans (attnArr_apply _ _ i j).symm
    · exact (congrFun (hagree c).1 _).trans (hP c _)
    · exact (congrFun (hagree c).2 _).trans (hG c _)

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.NextKernel.Gen.facts, Cert.NextKernelIdeal.Gen.facts, Cert.NextReferenceIdeal.Gen.facts,
  Cert.DownKernel.Gen.facts, Cert.DownKernelIdeal.Gen.facts, Cert.DownReferenceIdeal.Gen.facts, Cert.Pre_finite.Gen.facts, Cert.Pre_ffn_finite.Gen.facts, Cert.Pre_next_finite.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run (F := Ideal) m ρ),
  fun m ρ _ => (θ_run Cert.ReferenceIdeal.defs _ _).mono
    (fun r h => ⟨fun c => (h c).2, sem_eq_zero_of_no_sems (by decide) r.2⟩) (Cert.ReferenceIdeal.Value.run (F := Ideal) m ρ),
  Ffn.frame_compiled, fun m ρ _ => Ffn.ffn_frame m ρ, fun m ρ _ => Ffn.ffn_frame m ρ,
  fun m ρ _ => (θ_run Cert.FfnReferenceIdeal.defs _ _).mono
    (fun r h => ⟨fun c => (h c).2.2, sem_eq_zero_of_no_sems (by decide) r.2⟩) (Cert.FfnReferenceIdeal.Value.run (F := Ideal) m ρ),
  fun m ρ _ => (θ_run Cert.FfnReferenceIdeal.defs _ _).mono
    (fun r h => ⟨fun c => (h c).2.2, sem_eq_zero_of_no_sems (by decide) r.2⟩) (Cert.FfnReferenceIdeal.Value.run (F := Ideal) m ρ),
  Ffn.Next.frame_compiled, fun m ρ _ => Ffn.Next.next_frame m ρ, fun m ρ _ => Ffn.Next.next_frame m ρ,
  fun m ρ _ => (θ_run Cert.NextReferenceIdeal.defs _ _).mono
    (fun r h => ⟨fun c => (h c).2.2, sem_eq_zero_of_no_sems (by decide) r.2⟩) (Cert.NextReferenceIdeal.Value.run (F := Ideal) m ρ),
  fun m ρ _ => (θ_run Cert.NextReferenceIdeal.defs _ _).mono
    (fun r h => ⟨fun c => (h c).2.2, sem_eq_zero_of_no_sems (by decide) r.2⟩) (Cert.NextReferenceIdeal.Value.run (F := Ideal) m ρ),
  Down.frame_compiled, fun m ρ _ => Down.down_frame m ρ,
  fun m ρ _ => (θ_run Cert.DownReferenceIdeal.defs _ _).mono
    (fun r h => ⟨fun c => (h c).2, sem_eq_zero_of_no_sems (by decide) r.2⟩) (Cert.DownReferenceIdeal.Value.run (F := Ideal) m ρ),
  IdealRules.named_const.statement Cert.KernelIdeal.κ "mask" .f32 0xF149F2CA#32 ⊥ rfl,
  fox_algebraic,
  trivial,
  Ffn.ffn_algebraic,
  trivial,
  Ffn.Next.next_algebraic,
  trivial,
  Down.down_algebraic⟩

end Cert.Proof

end
